-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Encode (m : (ℓ : Loc Cert.Encode.nD Cert.Encode.τ Cert.Encode.sig) → Buf (Elt Bits) ℓ) : Prop :=
  True

def Pre_EncodeReference (m : (ℓ : Loc Cert.EncodeReference.nD Cert.EncodeReference.τ Cert.EncodeReference.sig) → Buf (Elt Bits) ℓ) : Prop :=
  True

def Pre_EncodeIdeal (m : (ℓ : Loc Cert.EncodeIdeal.nD Cert.EncodeIdeal.τ Cert.EncodeIdeal.sig) → Buf (Elt Ideal) ℓ) : Prop :=
  True

def Pre_EncodeReferenceIdeal (m : (ℓ : Loc Cert.EncodeReferenceIdeal.nD Cert.EncodeReferenceIdeal.τ Cert.EncodeReferenceIdeal.sig) → Buf (Elt Ideal) ℓ) : Prop :=
  True

def Pre_Decode (m : (ℓ : Loc Cert.Decode.nD Cert.Decode.τ Cert.Decode.sig) → Buf (Elt Bits) ℓ) : Prop :=
  True

def Pre_DecodeReference (m : (ℓ : Loc Cert.DecodeReference.nD Cert.DecodeReference.τ Cert.DecodeReference.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_DecodeReferenceIdeal (m : (ℓ : Loc Cert.DecodeReferenceIdeal.nD Cert.DecodeReferenceIdeal.τ Cert.DecodeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Encode [hEncode : Cert.Encode.Facts] : Prop :=
  ∀ (m : (ℓ : Loc Cert.Encode.nD Cert.Encode.τ Cert.Encode.sig) → Buf (Elt Bits) ℓ) (g : Dev Cert.Encode.nD → PrngReg), Pre_Encode m →
    θ_run (Cert.Encode.defs (F := Bits)) (onTc (τ := Cert.Encode.τ) (Cert.Encode.main (F := Bits))) ⟨m, fun _ => 0, g⟩ (fun r => (∀ c : Dev Cert.Encode.nD,
      r.2.mem ((c.tc : Thread Cert.Encode.nD Cert.Encode.τ).loc Cert.Encode.main_arg0) = m ((c.tc : Thread Cert.Encode.nD Cert.Encode.τ).loc Cert.Encode.main_arg0)
      ∧ r.2.mem ((c.tc : Thread Cert.Encode.nD Cert.Encode.τ).loc Cert.Encode.main_arg1) = m ((c.tc : Thread Cert.Encode.nD Cert.Encode.τ).loc Cert.Encode.main_arg1)
      ∧ r.2.mem ((c.tc : Thread Cert.Encode.nD Cert.Encode.τ).loc Cert.Encode.main_arg2) = m ((c.tc : Thread Cert.Encode.nD Cert.Encode.τ).loc Cert.Encode.main_arg2))
      ∧ r.2.sem = fun _ => 0)

def quiescent_EncodeReference [hEncodeReference : Cert.EncodeReference.Facts] : Prop :=
  ∀ (m : (ℓ : Loc Cert.EncodeReference.nD Cert.EncodeReference.τ Cert.EncodeReference.sig) → Buf (Elt Bits) ℓ) (g : Dev Cert.EncodeReference.nD → PrngReg), Pre_EncodeReference m →
    θ_run (Cert.EncodeReference.defs (F := Bits)) (onTc (τ := Cert.EncodeReference.τ) (Cert.EncodeReference.main (F := Bits))) ⟨m, fun _ => 0, g⟩ (fun r => (∀ c : Dev Cert.EncodeReference.nD,
      r.2.mem ((c.tc : Thread Cert.EncodeReference.nD Cert.EncodeReference.τ).loc Cert.EncodeReference.main_arg0) = m ((c.tc : Thread Cert.EncodeReference.nD Cert.EncodeReference.τ).loc Cert.EncodeReference.main_arg0)
      ∧ r.2.mem ((c.tc : Thread Cert.EncodeReference.nD Cert.EncodeReference.τ).loc Cert.EncodeReference.main_arg1) = m ((c.tc : Thread Cert.EncodeReference.nD Cert.EncodeReference.τ).loc Cert.EncodeReference.main_arg1)
      ∧ r.2.mem ((c.tc : Thread Cert.EncodeReference.nD Cert.EncodeReference.τ).loc Cert.EncodeReference.main_arg2) = m ((c.tc : Thread Cert.EncodeReference.nD Cert.EncodeReference.τ).loc Cert.EncodeReference.main_arg2))
      ∧ r.2.sem = fun _ => 0)

def quiescent_EncodeIdeal [hEncodeIdeal : Cert.EncodeIdeal.Facts] : Prop :=
  ∀ (m : (ℓ : Loc Cert.EncodeIdeal.nD Cert.EncodeIdeal.τ Cert.EncodeIdeal.sig) → Buf (Elt Ideal) ℓ) (g : Dev Cert.EncodeIdeal.nD → PrngReg), Pre_EncodeIdeal m →
    θ_run (Cert.EncodeIdeal.defs (F := Ideal)) (onTc (τ := Cert.EncodeIdeal.τ) (Cert.EncodeIdeal.main (F := Ideal))) ⟨m, fun _ => 0, g⟩ (fun r => (∀ c : Dev Cert.EncodeIdeal.nD,
      r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
      ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
      ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2))
      ∧ r.2.sem = fun _ => 0)

def quiescent_EncodeReferenceIdeal [hEncodeReferenceIdeal : Cert.EncodeReferenceIdeal.Facts] : Prop :=
  ∀ (m : (ℓ : Loc Cert.EncodeReferenceIdeal.nD Cert.EncodeReferenceIdeal.τ Cert.EncodeReferenceIdeal.sig) → Buf (Elt Ideal) ℓ) (g : Dev Cert.EncodeReferenceIdeal.nD → PrngReg), Pre_EncodeReferenceIdeal m →
    θ_run (Cert.EncodeReferenceIdeal.defs (F := Ideal)) (onTc (τ := Cert.EncodeReferenceIdeal.τ) (Cert.EncodeReferenceIdeal.main (F := Ideal))) ⟨m, fun _ => 0, g⟩ (fun r => (∀ c : Dev Cert.EncodeReferenceIdeal.nD,
      r.2.mem ((c.tc : Thread Cert.EncodeReferenceIdeal.nD Cert.EncodeReferenceIdeal.τ).loc Cert.EncodeReferenceIdeal.main_arg0) = m ((c.tc : Thread Cert.EncodeReferenceIdeal.nD Cert.EncodeReferenceIdeal.τ).loc Cert.EncodeReferenceIdeal.main_arg0)
      ∧ r.2.mem ((c.tc : Thread Cert.EncodeReferenceIdeal.nD Cert.EncodeReferenceIdeal.τ).loc Cert.EncodeReferenceIdeal.main_arg1) = m ((c.tc : Thread Cert.EncodeReferenceIdeal.nD Cert.EncodeReferenceIdeal.τ).loc Cert.EncodeReferenceIdeal.main_arg1)
      ∧ r.2.mem ((c.tc : Thread Cert.EncodeReferenceIdeal.nD Cert.EncodeReferenceIdeal.τ).loc Cert.EncodeReferenceIdeal.main_arg2) = m ((c.tc : Thread Cert.EncodeReferenceIdeal.nD Cert.EncodeReferenceIdeal.τ).loc Cert.EncodeReferenceIdeal.main_arg2))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1)
      ∧ r.2.mem ((c.tc : Thread Cert.Decode.nD Cert.Decode.τ).loc Cert.Decode.main_arg2) = m ((c.tc : Thread Cert.Decode.nD Cert.Decode.τ).loc Cert.Decode.main_arg2)
      ∧ r.2.mem ((c.tc : Thread Cert.Decode.nD Cert.Decode.τ).loc Cert.Decode.main_arg3) = m ((c.tc : Thread Cert.Decode.nD Cert.Decode.τ).loc Cert.Decode.main_arg3))
      ∧ r.2.sem = fun _ => 0)

def quiescent_DecodeReference [hDecodeReference : Cert.DecodeReference.Facts] : Prop :=
  ∀ (m : (ℓ : Loc Cert.DecodeReference.nD Cert.DecodeReference.τ Cert.DecodeReference.sig) → Buf (Elt Bits) ℓ) (g : Dev Cert.DecodeReference.nD → PrngReg), Pre_DecodeReference m →
    θ_run (Cert.DecodeReference.defs (F := Bits)) (onTc (τ := Cert.DecodeReference.τ) (Cert.DecodeReference.main (F := Bits))) ⟨m, fun _ => 0, g⟩ (fun r => (∀ c : Dev Cert.DecodeReference.nD,
      r.2.mem ((c.tc : Thread Cert.DecodeReference.nD Cert.DecodeReference.τ).loc Cert.DecodeReference.main_arg0) = m ((c.tc : Thread Cert.DecodeReference.nD Cert.DecodeReference.τ).loc Cert.DecodeReference.main_arg0)
      ∧ r.2.mem ((c.tc : Thread Cert.DecodeReference.nD Cert.DecodeReference.τ).loc Cert.DecodeReference.main_arg1) = m ((c.tc : Thread Cert.DecodeReference.nD Cert.DecodeReference.τ).loc Cert.DecodeReference.main_arg1)
      ∧ r.2.mem ((c.tc : Thread Cert.DecodeReference.nD Cert.DecodeReference.τ).loc Cert.DecodeReference.main_arg2) = m ((c.tc : Thread Cert.DecodeReference.nD Cert.DecodeReference.τ).loc Cert.DecodeReference.main_arg2)
      ∧ r.2.mem ((c.tc : Thread Cert.DecodeReference.nD Cert.DecodeReference.τ).loc Cert.DecodeReference.main_arg3) = m ((c.tc : Thread Cert.DecodeReference.nD Cert.DecodeReference.τ).loc Cert.DecodeReference.main_arg3))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3))
      ∧ r.2.sem = fun _ => 0)

def quiescent_DecodeReferenceIdeal [hDecodeReferenceIdeal : Cert.DecodeReferenceIdeal.Facts] : Prop :=
  ∀ (m : (ℓ : Loc Cert.DecodeReferenceIdeal.nD Cert.DecodeReferenceIdeal.τ Cert.DecodeReferenceIdeal.sig) → Buf (Elt Ideal) ℓ) (g : Dev Cert.DecodeReferenceIdeal.nD → PrngReg), Pre_DecodeReferenceIdeal m →
    θ_run (Cert.DecodeReferenceIdeal.defs (F := Ideal)) (onTc (τ := Cert.DecodeReferenceIdeal.τ) (Cert.DecodeReferenceIdeal.main (F := Ideal))) ⟨m, fun _ => 0, g⟩ (fun r => (∀ c : Dev Cert.DecodeReferenceIdeal.nD,
      r.2.mem ((c.tc : Thread Cert.DecodeReferenceIdeal.nD Cert.DecodeReferenceIdeal.τ).loc Cert.DecodeReferenceIdeal.main_arg0) = m ((c.tc : Thread Cert.DecodeReferenceIdeal.nD Cert.DecodeReferenceIdeal.τ).loc Cert.DecodeReferenceIdeal.main_arg0)
      ∧ r.2.mem ((c.tc : Thread Cert.DecodeReferenceIdeal.nD Cert.DecodeReferenceIdeal.τ).loc Cert.DecodeReferenceIdeal.main_arg1) = m ((c.tc : Thread Cert.DecodeReferenceIdeal.nD Cert.DecodeReferenceIdeal.τ).loc Cert.DecodeReferenceIdeal.main_arg1)
      ∧ r.2.mem ((c.tc : Thread Cert.DecodeReferenceIdeal.nD Cert.DecodeReferenceIdeal.τ).loc Cert.DecodeReferenceIdeal.main_arg2) = m ((c.tc : Thread Cert.DecodeReferenceIdeal.nD Cert.DecodeReferenceIdeal.τ).loc Cert.DecodeReferenceIdeal.main_arg2)
      ∧ r.2.mem ((c.tc : Thread Cert.DecodeReferenceIdeal.nD Cert.DecodeReferenceIdeal.τ).loc Cert.DecodeReferenceIdeal.main_arg3) = m ((c.tc : Thread Cert.DecodeReferenceIdeal.nD Cert.DecodeReferenceIdeal.τ).loc Cert.DecodeReferenceIdeal.main_arg3))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0))

def preserves_Encode_EncodeIdeal : Prop :=
  True

def preserves_EncodeReference_EncodeReferenceIdeal : Prop :=
  True

def algebraic_EncodeIdeal_EncodeReferenceIdeal [hEncodeIdeal : Cert.EncodeIdeal.Facts] [hEncodeReferenceIdeal : Cert.EncodeReferenceIdeal.Facts] : Prop :=
  ∀ (m : (ℓ : Loc Cert.EncodeIdeal.nD Cert.EncodeIdeal.τ Cert.EncodeIdeal.sig) → Buf (Elt Ideal) ℓ) (g : Dev Cert.EncodeIdeal.nD → PrngReg)
    (m' : (ℓ : Loc Cert.EncodeReferenceIdeal.nD Cert.EncodeReferenceIdeal.τ Cert.EncodeReferenceIdeal.sig) → Buf (Elt Ideal) ℓ) (g' : Dev Cert.EncodeReferenceIdeal.nD → PrngReg), Pre_EncodeIdeal m →
    (∀ c : Dev Cert.EncodeIdeal.nD,
      m' ((c.tc : Thread Cert.EncodeReferenceIdeal.nD Cert.EncodeReferenceIdeal.τ).loc Cert.EncodeReferenceIdeal.main_arg0) = m ((c.tc : Thread Cert.EncodeIdeal.nD Cert.EncodeIdeal.τ).loc Cert.EncodeIdeal.main_arg0)
      ∧ m' ((c.tc : Thread Cert.EncodeReferenceIdeal.nD Cert.EncodeReferenceIdeal.τ).loc Cert.EncodeReferenceIdeal.main_arg1) = m ((c.tc : Thread Cert.EncodeIdeal.nD Cert.EncodeIdeal.τ).loc Cert.EncodeIdeal.main_arg1)
      ∧ m' ((c.tc : Thread Cert.EncodeReferenceIdeal.nD Cert.EncodeReferenceIdeal.τ).loc Cert.EncodeReferenceIdeal.main_arg2) = m ((c.tc : Thread Cert.EncodeIdeal.nD Cert.EncodeIdeal.τ).loc Cert.EncodeIdeal.main_arg2)) →
    ∃ (v0 : (c : Dev Cert.EncodeIdeal.nD) → Buf (Elt Ideal) ((c.tc : Thread Cert.EncodeIdeal.nD Cert.EncodeIdeal.τ).loc Cert.EncodeIdeal.main_v1)),
      θ_run (Cert.EncodeIdeal.defs (F := Ideal)) (onTc (τ := Cert.EncodeIdeal.τ) (Cert.EncodeIdeal.main (F := Ideal))) ⟨m, fun _ => 0, g⟩ (fun r => ∀ c : Dev Cert.EncodeIdeal.nD,
          r.2.mem ((c.tc : Thread Cert.EncodeIdeal.nD Cert.EncodeIdeal.τ).loc Cert.EncodeIdeal.main_v1) = v0 c
          ∧ r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
          ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
          ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2))
      ∧ θ_run (Cert.EncodeReferenceIdeal.defs (F := Ideal)) (onTc (τ := Cert.EncodeReferenceIdeal.τ) (Cert.EncodeReferenceIdeal.main (F := Ideal))) ⟨m', fun _ => 0, g'⟩ (fun r => ∀ c : Dev Cert.EncodeReferenceIdeal.nD,
          r.2.mem ((c.tc : Thread Cert.EncodeReferenceIdeal.nD Cert.EncodeReferenceIdeal.τ).loc Cert.EncodeReferenceIdeal.main_v4) = v0 c
          ∧ r.2.mem ((c.tc : Thread Cert.EncodeReferenceIdeal.nD Cert.EncodeReferenceIdeal.τ).loc Cert.EncodeReferenceIdeal.main_arg0) = m' ((c.tc : Thread Cert.EncodeReferenceIdeal.nD Cert.EncodeReferenceIdeal.τ).loc Cert.EncodeReferenceIdeal.main_arg0)
          ∧ r.2.mem ((c.tc : Thread Cert.EncodeReferenceIdeal.nD Cert.EncodeReferenceIdeal.τ).loc Cert.EncodeReferenceIdeal.main_arg1) = m' ((c.tc : Thread Cert.EncodeReferenceIdeal.nD Cert.EncodeReferenceIdeal.τ).loc Cert.EncodeReferenceIdeal.main_arg1)
          ∧ r.2.mem ((c.tc : Thread Cert.EncodeReferenceIdeal.nD Cert.EncodeReferenceIdeal.τ).loc Cert.EncodeReferenceIdeal.main_arg2) = m' ((c.tc : Thread Cert.EncodeReferenceIdeal.nD Cert.EncodeReferenceIdeal.τ).loc Cert.EncodeReferenceIdeal.main_arg2))

def preserves_Decode_DecodeIdeal : Prop :=
  True

def preserves_DecodeReference_DecodeReferenceIdeal : Prop :=
  True

def algebraic_DecodeIdeal_DecodeReferenceIdeal [hDecodeIdeal : Cert.DecodeIdeal.Facts] [hDecodeReferenceIdeal : Cert.DecodeReferenceIdeal.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.DecodeReferenceIdeal.nD Cert.DecodeReferenceIdeal.τ Cert.DecodeReferenceIdeal.sig) → Buf (Elt Ideal) ℓ) (g' : Dev Cert.DecodeReferenceIdeal.nD → PrngReg), Pre_DecodeIdeal m →
    (∀ c : Dev Cert.DecodeIdeal.nD,
      m' ((c.tc : Thread Cert.DecodeReferenceIdeal.nD Cert.DecodeReferenceIdeal.τ).loc Cert.DecodeReferenceIdeal.main_arg0) = m ((c.tc : Thread Cert.DecodeIdeal.nD Cert.DecodeIdeal.τ).loc Cert.DecodeIdeal.main_arg0)
      ∧ m' ((c.tc : Thread Cert.DecodeReferenceIdeal.nD Cert.DecodeReferenceIdeal.τ).loc Cert.DecodeReferenceIdeal.main_arg1) = m ((c.tc : Thread Cert.DecodeIdeal.nD Cert.DecodeIdeal.τ).loc Cert.DecodeIdeal.main_arg1)
      ∧ m' ((c.tc : Thread Cert.DecodeReferenceIdeal.nD Cert.DecodeReferenceIdeal.τ).loc Cert.DecodeReferenceIdeal.main_arg2) = m ((c.tc : Thread Cert.DecodeIdeal.nD Cert.DecodeIdeal.τ).loc Cert.DecodeIdeal.main_arg2)
      ∧ m' ((c.tc : Thread Cert.DecodeReferenceIdeal.nD Cert.DecodeReferenceIdeal.τ).loc Cert.DecodeReferenceIdeal.main_arg3) = m ((c.tc : Thread Cert.DecodeIdeal.nD Cert.DecodeIdeal.τ).loc Cert.DecodeIdeal.main_arg3)) →
    ∃ (v0 : (c : Dev Cert.DecodeIdeal.nD) → Buf (Elt Ideal) ((c.tc : Thread Cert.DecodeIdeal.nD Cert.DecodeIdeal.τ).loc Cert.DecodeIdeal.main_v2_0)) (v1 : (c : Dev Cert.DecodeIdeal.nD) → Buf (Elt Ideal) ((c.tc : Thread Cert.DecodeIdeal.nD Cert.DecodeIdeal.τ).loc Cert.DecodeIdeal.main_v2_1)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v2_0) = v0 c
          ∧ r.2.mem ((c.tc : Thread Cert.DecodeIdeal.nD Cert.DecodeIdeal.τ).loc Cert.DecodeIdeal.main_v2_1) = v1 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
          ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
          ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3))
      ∧ θ_run (Cert.DecodeReferenceIdeal.defs (F := Ideal)) (onTc (τ := Cert.DecodeReferenceIdeal.τ) (Cert.DecodeReferenceIdeal.main (F := Ideal))) ⟨m', fun _ => 0, g'⟩ (fun r => ∀ c : Dev Cert.DecodeReferenceIdeal.nD,
          r.2.mem ((c.tc : Thread Cert.DecodeReferenceIdeal.nD Cert.DecodeReferenceIdeal.τ).loc Cert.DecodeReferenceIdeal.main_v2) = v0 c
          ∧ r.2.mem ((c.tc : Thread Cert.DecodeReferenceIdeal.nD Cert.DecodeReferenceIdeal.τ).loc Cert.DecodeReferenceIdeal.main_v7) = v1 c
          ∧ r.2.mem ((c.tc : Thread Cert.DecodeReferenceIdeal.nD Cert.DecodeReferenceIdeal.τ).loc Cert.DecodeReferenceIdeal.main_arg0) = m' ((c.tc : Thread Cert.DecodeReferenceIdeal.nD Cert.DecodeReferenceIdeal.τ).loc Cert.DecodeReferenceIdeal.main_arg0)
          ∧ r.2.mem ((c.tc : Thread Cert.DecodeReferenceIdeal.nD Cert.DecodeReferenceIdeal.τ).loc Cert.DecodeReferenceIdeal.main_arg1) = m' ((c.tc : Thread Cert.DecodeReferenceIdeal.nD Cert.DecodeReferenceIdeal.τ).loc Cert.DecodeReferenceIdeal.main_arg1)
          ∧ r.2.mem ((c.tc : Thread Cert.DecodeReferenceIdeal.nD Cert.DecodeReferenceIdeal.τ).loc Cert.DecodeReferenceIdeal.main_arg2) = m' ((c.tc : Thread Cert.DecodeReferenceIdeal.nD Cert.DecodeReferenceIdeal.τ).loc Cert.DecodeReferenceIdeal.main_arg2)
          ∧ r.2.mem ((c.tc : Thread Cert.DecodeReferenceIdeal.nD Cert.DecodeReferenceIdeal.τ).loc Cert.DecodeReferenceIdeal.main_arg3) = m' ((c.tc : Thread Cert.DecodeReferenceIdeal.nD Cert.DecodeReferenceIdeal.τ).loc Cert.DecodeReferenceIdeal.main_arg3))

def Claim : Prop :=
  ∃ (hKernel : Cert.Kernel.Facts) (hReference : Cert.Reference.Facts) (hEncode : Cert.Encode.Facts) (hEncodeReference : Cert.EncodeReference.Facts) (hEncodeIdeal : Cert.EncodeIdeal.Facts) (hEncodeReferenceIdeal : Cert.EncodeReferenceIdeal.Facts) (hDecode : Cert.Decode.Facts) (hDecodeReference : Cert.DecodeReference.Facts) (hDecodeIdeal : Cert.DecodeIdeal.Facts) (hDecodeReferenceIdeal : Cert.DecodeReferenceIdeal.Facts),
    quiescent_Kernel (hKernel := hKernel)
    ∧ quiescent_Reference (hReference := hReference)
    ∧ quiescent_Encode (hEncode := hEncode)
    ∧ quiescent_EncodeReference (hEncodeReference := hEncodeReference)
    ∧ quiescent_EncodeIdeal (hEncodeIdeal := hEncodeIdeal)
    ∧ quiescent_EncodeReferenceIdeal (hEncodeReferenceIdeal := hEncodeReferenceIdeal)
    ∧ quiescent_Decode (hDecode := hDecode)
    ∧ quiescent_DecodeReference (hDecodeReference := hDecodeReference)
    ∧ quiescent_DecodeIdeal (hDecodeIdeal := hDecodeIdeal)
    ∧ quiescent_DecodeReferenceIdeal (hDecodeReferenceIdeal := hDecodeReferenceIdeal)
    ∧ bitexact_Kernel_Reference (hKernel := hKernel) (hReference := hReference)
    ∧ preserves_Encode_EncodeIdeal
    ∧ preserves_EncodeReference_EncodeReferenceIdeal
    ∧ algebraic_EncodeIdeal_EncodeReferenceIdeal (hEncodeIdeal := hEncodeIdeal) (hEncodeReferenceIdeal := hEncodeReferenceIdeal)
    ∧ preserves_Decode_DecodeIdeal
    ∧ preserves_DecodeReference_DecodeReferenceIdeal
    ∧ algebraic_DecodeIdeal_DecodeReferenceIdeal (hDecodeIdeal := hDecodeIdeal) (hDecodeReferenceIdeal := hDecodeReferenceIdeal)
-- ==== Kernel.lean ====
abbrev S2048x16384 : Shape := ⟨2, ![2048, 16384]⟩
abbrev S2048 : Shape := ⟨1, ![2048]⟩
abbrev S16384 : Shape := ⟨1, ![16384]⟩
abbrev S65536 : Shape := ⟨1, ![65536]⟩
abbrev S256 : Shape := ⟨1, ![256]⟩
abbrev S64 : Shape := ⟨1, ![64]⟩
abbrev S_ : Shape := ⟨0, ![]⟩
abbrev S16 : Shape := ⟨1, ![16]⟩
abbrev S1x16384 : Shape := ⟨2, ![1, 16384]⟩
abbrev S2048x1 : Shape := ⟨2, ![2048, 1]⟩

abbrev nBuf : Table → Nat
  | .hbm => 3
  | .local .scVector .vmem => 6
  | _ => 0

abbrev bufTy : (tb : Table) → Fin (nBuf tb) → BufTy
  | .hbm, ⟨0, _⟩ => ⟨S2048x16384, .f32⟩
  | .hbm, ⟨1, _⟩ => ⟨S2048, .f32⟩
  | .hbm, ⟨2, _⟩ => ⟨S2048x1, .f32⟩
  | .local .scVector .vmem, ⟨0, _⟩ => ⟨S16384, .f32⟩
  | .local .scVector .vmem, ⟨1, _⟩ => ⟨S16384, .f32⟩
  | .local .scVector .vmem, ⟨2, _⟩ => ⟨S65536, .i32⟩
  | .local .scVector .vmem, ⟨3, _⟩ => ⟨S256, .i32⟩
  | .local .scVector .vmem, ⟨4, _⟩ => ⟨S256, .i32⟩
  | .local .scVector .vmem, ⟨5, _⟩ => ⟨S64, .f32⟩
  | _, _ => ⟨S2048x16384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

@[reducible] def k0_t1_loop : Scf.Loop 32 :=
  let c0_i32_0 : BitVec 32 := 0#32
  let c4096_i32 : BitVec 32 := 4096#32
  let v6 : BitVec 32 := Scalar.addi c0_i32_0 c4096_i32
  let c1_i32_1 : BitVec 32 := 1#32
  ⟨c0_i32_0, v6, c1_i32_1⟩
def k0_off1 (k0_t1 : Fin k0_t1_loop.trips) : Fin 1 → Nat :=
  let c0_i32_24 : BitVec 32 := 0#32
  let c0_i32_0 : BitVec 32 := 0#32
  let c1_i32_1 : BitVec 32 := 1#32
  let arg12 : BitVec 32 := Scf.iv c0_i32_0 c1_i32_1 k0_t1
  let c16_i32 : BitVec 32 := 16#32
  let v46 : BitVec 32 := Scalar.muli arg12 c16_i32
  let v47 : BitVec 32 := Scalar.addi c0_i32_24 v46
  let v48 : Index := Scalar.indexCast v47
  ![v48.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_19 : BitVec 32 := 0#32
  ![v2.toNat, 0]
@[reducible] def k0_t2_loop : Scf.Loop 32 :=
  let c0_i32_21 : BitVec 32 := 0#32
  let c32_i32 : BitVec 32 := 32#32
  let v44 : BitVec 32 := Scalar.addi c0_i32_21 c32_i32
  let c1_i32_22 : BitVec 32 := 1#32
  ⟨c0_i32_21, v44, c1_i32_22⟩
def k0_off3 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c2_i32_24 : BitVec 32 := 2#32
  let c0_i32_21 : BitVec 32 := 0#32
  let c1_i32_22 : BitVec 32 := 1#32
  let arg12 : BitVec 32 := Scf.iv c0_i32_21 c1_i32_22 k0_t2
  let v46 : BitVec 32 := Scalar.muli c2_i32_24 arg12
  let v47 : BitVec 32 := Scalar.addi v2 v46
  let c1_i32_25 : BitVec 32 := 1#32
  let v48 : BitVec 32 := Scalar.addi v47 c1_i32_25
  let c0_i32_26 : BitVec 32 := 0#32
  ![v48.toNat, 0]
def k0_off4 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c2_i32_24 : BitVec 32 := 2#32
  let c0_i32_21 : BitVec 32 := 0#32
  let c1_i32_22 : BitVec 32 := 1#32
  let arg12 : BitVec 32 := Scf.iv c0_i32_21 c1_i32_22 k0_t2
  let v46 : BitVec 32 := Scalar.muli c2_i32_24 arg12
  let v47 : BitVec 32 := Scalar.addi v2 v46
  let c0_i32_28 : BitVec 32 := 0#32
  ![v47.toNat, 0]
@[reducible] def k0_t3_loop : Scf.Loop 32 :=
  let c0_i32_31 : BitVec 32 := 0#32
  let c1024_i32 : BitVec 32 := 1024#32
  let v58 : BitVec 32 := Scalar.addi c0_i32_31 c1024_i32
  let c1_i32_32 : BitVec 32 := 1#32
  ⟨c0_i32_31, v58, c1_i32_32⟩
def k0_off5 (k0_t3 : Fin k0_t3_loop.trips) : Fin 1 → Nat :=
  let c0_i32_199 : BitVec 32 := 0#32
  let c0_i32_31 : BitVec 32 := 0#32
  let c1_i32_32 : BitVec 32 := 1#32
  let arg14 : BitVec 32 := Scf.iv c0_i32_31 c1_i32_32 k0_t3
  let c16_i32_198 : BitVec 32 := 16#32
  let v230 : BitVec 32 := Scalar.muli arg14 c16_i32_198
  let v231 : BitVec 32 := Scalar.addi c0_i32_199 v230
  let v232 : Index := Scalar.indexCast v231
  ![v232.toNat]

def k0_chk1 (v242 : IVec S16 32) : Prop :=
  (∀ a x, ((![v242] : Fin 1 → IVec S16 32) a x).toNat < S65536.size a)
theorem k0_idx1_inb : ∀ (v242 : IVec S16 32) (k0_hw1 : k0_chk1 v242), ∀ a x, ((![v242] : Fin 1 → IVec S16 32) a x).toNat < S65536.size a := fun v242 k0_hw1 => k0_hw1
@[reducible] def k0_t4_loop (v65 : BitVec 32) : Scf.Loop 32 :=
  let c0_i32_35 : BitVec 32 := 0#32
  let c4_i32 : BitVec 32 := 4#32
  let v66 : BitVec 32 := Scalar.shrsi v65 c4_i32
  let c1_i32_34 : BitVec 32 := 1#32
  let v67 : BitVec 32 := Scalar.addi v66 c1_i32_34
  let v68 : BitVec 32 := Scalar.subi v67 c0_i32_35
  let c1_i32_40 : BitVec 32 := 1#32
  let v70 : BitVec 32 := Scalar.divsi v68 c1_i32_40
  let v71 : BitVec 32 := Scalar.muli v70 c1_i32_40
  let v72 : BitVec 32 := Scalar.addi c0_i32_35 v71
  let c1_i32_41 : BitVec 32 := 1#32
  ⟨c0_i32_35, v72, c1_i32_41⟩

def k0_off6 (arg16 : BitVec 32) : Fin 1 → Nat :=
  let c16_i32_200 : BitVec 32 := 16#32
  let v234 : BitVec 32 := Scalar.muli arg16 c16_i32_200
  let v235 : Index := Scalar.indexCast v234
  ![v235.toNat]
def k0_cond1 (arg19 : BitVec 32) : BitVec 1 :=
  let c0_i32_198 : BitVec 32 := 0#32
  let v230 : BitVec 1 := Scalar.cmpi .eq arg19 c0_i32_198
  let v231 : BitVec 32 := Scalar.extui v230
  let c0_i32_199 : BitVec 32 := 0#32
  let v232 : BitVec 1 := Scalar.cmpi .ne v231 c0_i32_199
  v232

def k0_chk3 (arg16 : BitVec 32) (arg19 : BitVec 32) : Prop :=
  (∀ (k0_h1 : k0_cond1 arg19 = 1#1), ∀ a, (k0_off6 arg16) a + S16.size a ≤ S65536.size a)
theorem k0_off6_inb : ∀ (arg16 : BitVec 32) (arg19 : BitVec 32) (k0_hw3 : k0_chk3 arg16 arg19), ∀ (k0_h1 : k0_cond1 arg19 = 1#1), ∀ a, (k0_off6 arg16) a + S16.size a ≤ S65536.size a := fun arg16 arg19 k0_hw3 k0_h1 => k0_hw3 k0_h1

@[reducible] def k0_t5_loop (v65 : BitVec 32) : Scf.Loop 32 :=
  let c0_i32_35 : BitVec 32 := 0#32
  let c4_i32 : BitVec 32 := 4#32
  let v66 : BitVec 32 := Scalar.shrsi v65 c4_i32
  let c1_i32_34 : BitVec 32 := 1#32
  let v67 : BitVec 32 := Scalar.addi v66 c1_i32_34
  let v68 : BitVec 32 := Scalar.subi v67 c0_i32_35
  let c1_i32_40 : BitVec 32 := 1#32
  let v70 : BitVec 32 := Scalar.divsi v68 c1_i32_40
  let v71 : BitVec 32 := Scalar.muli v70 c1_i32_40
  let v72 : BitVec 32 := Scalar.addi c0_i32_35 v71
  let v69 : BitVec 32 := Scalar.addi c0_i32_35 v68
  let c1_i32_42 : BitVec 32 := 1#32
  ⟨v72, v69, c1_i32_42⟩

def k0_chk2 (v65 : BitVec 32) : Prop :=
  ((k0_t4_loop v65).OK) ∧
  ((k0_t5_loop v65).OK)
theorem k0_t4_ok : ∀ (v65 : BitVec 32) (k0_hw2 : k0_chk2 v65), (k0_t4_loop v65).OK := fun v65 k0_hw2 => k0_hw2.1
theorem k0_t5_ok : ∀ (v65 : BitVec 32) (k0_hw2 : k0_chk2 v65), (k0_t5_loop v65).OK := fun v65 k0_hw2 => k0_hw2.2

def k0_off7 (arg16 : BitVec 32) : Fin 1 → Nat :=
  let c16_i32_200 : BitVec 32 := 16#32
  let v234 : BitVec 32 := Scalar.muli arg16 c16_i32_200
  let v235 : Index := Scalar.indexCast v234
  ![v235.toNat]
def k0_cond2 (arg19 : BitVec 32) : BitVec 1 :=
  let c0_i32_198 : BitVec 32 := 0#32
  let v230 : BitVec 1 := Scalar.cmpi .eq arg19 c0_i32_198
  let v231 : BitVec 32 := Scalar.extui v230
  let c0_i32_199 : BitVec 32 := 0#32
  let v232 : BitVec 1 := Scalar.cmpi .ne v231 c0_i32_199
  v232

def k0_chk4 (arg16 : BitVec 32) (arg19 : BitVec 32) : Prop :=
  (∀ (k0_h2 : k0_cond2 arg19 = 1#1), ∀ a, (k0_off7 arg16) a + S16.size a ≤ S65536.size a)
theorem k0_off7_inb : ∀ (arg16 : BitVec 32) (arg19 : BitVec 32) (k0_hw4 : k0_chk4 arg16 arg19), ∀ (k0_h2 : k0_cond2 arg19 = 1#1), ∀ a, (k0_off7 arg16) a + S16.size a ≤ S65536.size a := fun arg16 arg19 k0_hw4 k0_h2 => k0_hw4 k0_h2

@[reducible] def k0_t6_loop : Scf.Loop 32 :=
  let c0_i32_44 : BitVec 32 := 0#32
  let c1024_i32_45 : BitVec 32 := 1024#32
  let v76 : BitVec 32 := Scalar.addi c0_i32_44 c1024_i32_45
  let c1_i32_46 : BitVec 32 := 1#32
  ⟨c0_i32_44, v76, c1_i32_46⟩
def k0_off8 (k0_t6 : Fin k0_t6_loop.trips) : Fin 1 → Nat :=
  let c0_i32_199 : BitVec 32 := 0#32
  let c0_i32_44 : BitVec 32 := 0#32
  let c1_i32_46 : BitVec 32 := 1#32
  let arg14 : BitVec 32 := Scf.iv c0_i32_44 c1_i32_46 k0_t6
  let c16_i32_198 : BitVec 32 := 16#32
  let v230 : BitVec 32 := Scalar.muli arg14 c16_i32_198
  let v231 : BitVec 32 := Scalar.addi c0_i32_199 v230
  let v232 : Index := Scalar.indexCast v231
  ![v232.toNat]

def k0_chk5 (v242 : IVec S16 32) : Prop :=
  (∀ a x, ((![v242] : Fin 1 → IVec S16 32) a x).toNat < S65536.size a)
theorem k0_idx2_inb : ∀ (v242 : IVec S16 32) (k0_hw5 : k0_chk5 v242), ∀ a x, ((![v242] : Fin 1 → IVec S16 32) a x).toNat < S65536.size a := fun v242 k0_hw5 => k0_hw5

def k0_chk6 (v246 : IVec S16 32) : Prop :=
  (∀ a x, ((![v246] : Fin 1 → IVec S16 32) a x).toNat < S256.size a)
theorem k0_idx3_inb : ∀ (v246 : IVec S16 32) (k0_hw6 : k0_chk6 v246), ∀ a x, ((![v246] : Fin 1 → IVec S16 32) a x).toNat < S256.size a := fun v246 k0_hw6 => k0_hw6
@[reducible] def k0_t7_loop : Scf.Loop 32 :=
  let c0_i32_52 : BitVec 32 := 0#32
  let c16_i32 : BitVec 32 := 16#32
  let v77 : BitVec 32 := Scalar.addi c0_i32_52 c16_i32
  let c1_i32_53 : BitVec 32 := 1#32
  ⟨c0_i32_52, v77, c1_i32_53⟩
def k0_off9 (arg16 : BitVec 32) : Fin 1 → Nat :=
  let c16_i32_200 : BitVec 32 := 16#32
  let v234 : BitVec 32 := Scalar.muli arg16 c16_i32_200
  let v235 : Index := Scalar.indexCast v234
  ![v235.toNat]
def k0_cond3 (arg19 : BitVec 32) : BitVec 1 :=
  let c0_i32_198 : BitVec 32 := 0#32
  let v230 : BitVec 1 := Scalar.cmpi .eq arg19 c0_i32_198
  let v231 : BitVec 32 := Scalar.extui v230
  let c0_i32_199 : BitVec 32 := 0#32
  let v232 : BitVec 1 := Scalar.cmpi .ne v231 c0_i32_199
  v232

def k0_chk7 (arg16 : BitVec 32) (arg19 : BitVec 32) : Prop :=
  (∀ (k0_h3 : k0_cond3 arg19 = 1#1), ∀ a, (k0_off9 arg16) a + S16.size a ≤ S256.size a)
theorem k0_off9_inb : ∀ (arg16 : BitVec 32) (arg19 : BitVec 32) (k0_hw7 : k0_chk7 arg16 arg19), ∀ (k0_h3 : k0_cond3 arg19 = 1#1), ∀ a, (k0_off9 arg16) a + S16.size a ≤ S256.size a := fun arg16 arg19 k0_hw7 k0_h3 => k0_hw7 k0_h3

@[reducible] def k0_t8_loop : Scf.Loop 32 :=
  let c0_i32_55 : BitVec 32 := 0#32
  let c1024_i32_56 : BitVec 32 := 1024#32
  let v80 : BitVec 32 := Scalar.addi c0_i32_55 c1024_i32_56
  let c1_i32_57 : BitVec 32 := 1#32
  ⟨c0_i32_55, v80, c1_i32_57⟩
def k0_off10 (k0_t8 : Fin k0_t8_loop.trips) : Fin 1 → Nat :=
  let c0_i32_199 : BitVec 32 := 0#32
  let c0_i32_55 : BitVec 32 := 0#32
  let c1_i32_57 : BitVec 32 := 1#32
  let arg14 : BitVec 32 := Scf.iv c0_i32_55 c1_i32_57 k0_t8
  let c16_i32_198 : BitVec 32 := 16#32
  let v230 : BitVec 32 := Scalar.muli arg14 c16_i32_198
  let v231 : BitVec 32 := Scalar.addi c0_i32_199 v230
  let v232 : Index := Scalar.indexCast v231
  ![v232.toNat]

def k0_chk8 (v248 : IVec S16 32) : Prop :=
  (∀ a x, ((![v248] : Fin 1 → IVec S16 32) a x).toNat < S256.size a)
theorem k0_idx4_inb : ∀ (v248 : IVec S16 32) (k0_hw8 : k0_chk8 v248), ∀ a x, ((![v248] : Fin 1 → IVec S16 32) a x).toNat < S256.size a := fun v248 k0_hw8 => k0_hw8
@[reducible] def k0_t9_loop : Scf.Loop 32 :=
  let c0_i32_64 : BitVec 32 := 0#32
  let c16_i32_65 : BitVec 32 := 16#32
  let v81 : BitVec 32 := Scalar.addi c0_i32_64 c16_i32_65
  let c1_i32_66 : BitVec 32 := 1#32
  ⟨c0_i32_64, v81, c1_i32_66⟩
def k0_off11 (arg16 : BitVec 32) : Fin 1 → Nat :=
  let c16_i32_200 : BitVec 32 := 16#32
  let v234 : BitVec 32 := Scalar.muli arg16 c16_i32_200
  let v235 : Index := Scalar.indexCast v234
  ![v235.toNat]
def k0_cond4 (arg19 : BitVec 32) : BitVec 1 :=
  let c0_i32_198 : BitVec 32 := 0#32
  let v230 : BitVec 1 := Scalar.cmpi .eq arg19 c0_i32_198
  let v231 : BitVec 32 := Scalar.extui v230
  let c0_i32_199 : BitVec 32 := 0#32
  let v232 : BitVec 1 := Scalar.cmpi .ne v231 c0_i32_199
  v232

def k0_chk9 (arg16 : BitVec 32) (arg19 : BitVec 32) : Prop :=
  (∀ (k0_h4 : k0_cond4 arg19 = 1#1), ∀ a, (k0_off11 arg16) a + S16.size a ≤ S256.size a)
theorem k0_off11_inb : ∀ (arg16 : BitVec 32) (arg19 : BitVec 32) (k0_hw9 : k0_chk9 arg16 arg19), ∀ (k0_h4 : k0_cond4 arg19 = 1#1), ∀ a, (k0_off11 arg16) a + S16.size a ≤ S256.size a := fun arg16 arg19 k0_hw9 k0_h4 => k0_hw9 k0_h4

def k0_cond5 (k0_t2 : Fin k0_t2_loop.trips) : BitVec 1 :=
  let c2_i32_30 : BitVec 32 := 2#32
  let c0_i32_21 : BitVec 32 := 0#32
  let c1_i32_22 : BitVec 32 := 1#32
  let arg12 : BitVec 32 := Scf.iv c0_i32_21 c1_i32_22 k0_t2
  let v57 : BitVec 32 := Scalar.muli c2_i32_30 arg12
  let c15_i32_105 : BitVec 32 := 15#32
  let v135 : BitVec 32 := Scalar.andi v57 c15_i32_105
  let c15_i32_106 : BitVec 32 := 15#32
  let v136 : BitVec 1 := Scalar.cmpi .eq v135 c15_i32_106
  let v137 : BitVec 32 := Scalar.extui v136
  let c0_i32_107 : BitVec 32 := 0#32
  let v138 : BitVec 1 := Scalar.cmpi .ne v137 c0_i32_107
  v138

def k0_off12 (k0_t2 : Fin k0_t2_loop.trips) : Fin 1 → Nat :=
  let c2_i32_30 : BitVec 32 := 2#32
  let c0_i32_21 : BitVec 32 := 0#32
  let c1_i32_22 : BitVec 32 := 1#32
  let arg12 : BitVec 32 := Scf.iv c0_i32_21 c1_i32_22 k0_t2
  let v57 : BitVec 32 := Scalar.muli c2_i32_30 arg12
  let c4_i32_198 : BitVec 32 := 4#32
  let v230 : BitVec 32 := Scalar.shrsi v57 c4_i32_198
  let c16_i32_199 : BitVec 32 := 16#32
  let v231 : BitVec 32 := Scalar.muli v230 c16_i32_199
  let v232 : Index := Scalar.indexCast v231
  ![v232.toNat]
def k0_cond6 (k0_t2 : Fin k0_t2_loop.trips) : BitVec 1 :=
  let c0_i32_21 : BitVec 32 := 0#32
  let c1_i32_22 : BitVec 32 := 1#32
  let arg12 : BitVec 32 := Scf.iv c0_i32_21 c1_i32_22 k0_t2
  let c31_i32 : BitVec 32 := 31#32
  let v139 : BitVec 1 := Scalar.cmpi .slt arg12 c31_i32
  let v140 : BitVec 32 := Scalar.extui v139
  let c0_i32_108 : BitVec 32 := 0#32
  let v141 : BitVec 1 := Scalar.cmpi .ne v140 c0_i32_108
  v141

def k0_off13 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c2_i32_24 : BitVec 32 := 2#32
  let c0_i32_21 : BitVec 32 := 0#32
  let c1_i32_22 : BitVec 32 := 1#32
  let arg12 : BitVec 32 := Scf.iv c0_i32_21 c1_i32_22 k0_t2
  let v46 : BitVec 32 := Scalar.muli c2_i32_24 arg12
  let v47 : BitVec 32 := Scalar.addi v2 v46
  let c2_i32_198 : BitVec 32 := 2#32
  let v230 : BitVec 32 := Scalar.addi v47 c2_i32_198
  let c0_i32_199 : BitVec 32 := 0#32
  ![v230.toNat, 0]
def k0_off14 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c2_i32_24 : BitVec 32 := 2#32
  let c0_i32_21 : BitVec 32 := 0#32
  let c1_i32_22 : BitVec 32 := 1#32
  let arg12 : BitVec 32 := Scf.iv c0_i32_21 c1_i32_22 k0_t2
  let v46 : BitVec 32 := Scalar.muli c2_i32_24 arg12
  let v47 : BitVec 32 := Scalar.addi v2 v46
  let c1_i32_109 : BitVec 32 := 1#32
  let v142 : BitVec 32 := Scalar.addi v47 c1_i32_109
  let c0_i32_110 : BitVec 32 := 0#32
  ![v142.toNat, 0]
@[reducible] def k0_t10_loop : Scf.Loop 32 :=
  let c0_i32_114 : BitVec 32 := 0#32
  let c1024_i32_115 : BitVec 32 := 1024#32
  let v149 : BitVec 32 := Scalar.addi c0_i32_114 c1024_i32_115
  let c1_i32_116 : BitVec 32 := 1#32
  ⟨c0_i32_114, v149, c1_i32_116⟩
def k0_off15 (k0_t10 : Fin k0_t10_loop.trips) : Fin 1 → Nat :=
  let c0_i32_199 : BitVec 32 := 0#32
  let c0_i32_114 : BitVec 32 := 0#32
  let c1_i32_116 : BitVec 32 := 1#32
  let arg14 : BitVec 32 := Scf.iv c0_i32_114 c1_i32_116 k0_t10
  let c16_i32_198 : BitVec 32 := 16#32
  let v230 : BitVec 32 := Scalar.muli arg14 c16_i32_198
  let v231 : BitVec 32 := Scalar.addi c0_i32_199 v230
  let v232 : Index := Scalar.indexCast v231
  ![v232.toNat]

def k0_chk10 (v242 : IVec S16 32) : Prop :=
  (∀ a x, ((![v242] : Fin 1 → IVec S16 32) a x).toNat < S65536.size a)
theorem k0_idx5_inb : ∀ (v242 : IVec S16 32) (k0_hw10 : k0_chk10 v242), ∀ a x, ((![v242] : Fin 1 → IVec S16 32) a x).toNat < S65536.size a := fun v242 k0_hw10 => k0_hw10
@[reducible] def k0_t11_loop (v156 : BitVec 32) : Scf.Loop 32 :=
  let c0_i32_122 : BitVec 32 := 0#32
  let c4_i32_120 : BitVec 32 := 4#32
  let v157 : BitVec 32 := Scalar.shrsi v156 c4_i32_120
  let c1_i32_121 : BitVec 32 := 1#32
  let v158 : BitVec 32 := Scalar.addi v157 c1_i32_121
  let v159 : BitVec 32 := Scalar.subi v158 c0_i32_122
  let c1_i32_127 : BitVec 32 := 1#32
  let v161 : BitVec 32 := Scalar.divsi v159 c1_i32_127
  let v162 : BitVec 32 := Scalar.muli v161 c1_i32_127
  let v163 : BitVec 32 := Scalar.addi c0_i32_122 v162
  let c1_i32_128 : BitVec 32 := 1#32
  ⟨c0_i32_122, v163, c1_i32_128⟩

def k0_off16 (arg16 : BitVec 32) : Fin 1 → Nat :=
  let c16_i32_200 : BitVec 32 := 16#32
  let v234 : BitVec 32 := Scalar.muli arg16 c16_i32_200
  let v235 : Index := Scalar.indexCast v234
  ![v235.toNat]
def k0_cond7 (arg19 : BitVec 32) : BitVec 1 :=
  let c0_i32_198 : BitVec 32 := 0#32
  let v230 : BitVec 1 := Scalar.cmpi .eq arg19 c0_i32_198
  let v231 : BitVec 32 := Scalar.extui v230
  let c0_i32_199 : BitVec 32 := 0#32
  let v232 : BitVec 1 := Scalar.cmpi .ne v231 c0_i32_199
  v232

def k0_chk12 (arg16 : BitVec 32) (arg19 : BitVec 32) : Prop :=
  (∀ (k0_h7 : k0_cond7 arg19 = 1#1), ∀ a, (k0_off16 arg16) a + S16.size a ≤ S65536.size a)
theorem k0_off16_inb : ∀ (arg16 : BitVec 32) (arg19 : BitVec 32) (k0_hw12 : k0_chk12 arg16 arg19), ∀ (k0_h7 : k0_cond7 arg19 = 1#1), ∀ a, (k0_off16 arg16) a + S16.size a ≤ S65536.size a := fun arg16 arg19 k0_hw12 k0_h7 => k0_hw12 k0_h7

@[reducible] def k0_t12_loop (v156 : BitVec 32) : Scf.Loop 32 :=
  let c0_i32_122 : BitVec 32 := 0#32
  let c4_i32_120 : BitVec 32 := 4#32
  let v157 : BitVec 32 := Scalar.shrsi v156 c4_i32_120
  let c1_i32_121 : BitVec 32 := 1#32
  let v158 : BitVec 32 := Scalar.addi v157 c1_i32_121
  let v159 : BitVec 32 := Scalar.subi v158 c0_i32_122
  let c1_i32_127 : BitVec 32 := 1#32
  let v161 : BitVec 32 := Scalar.divsi v159 c1_i32_127
  let v162 : BitVec 32 := Scalar.muli v161 c1_i32_127
  let v163 : BitVec 32 := Scalar.addi c0_i32_122 v162
  let v160 : BitVec 32 := Scalar.addi c0_i32_122 v159
  let c1_i32_129 : BitVec 32 := 1#32
  ⟨v163, v160, c1_i32_129⟩

def k0_chk11 (v156 : BitVec 32) : Prop :=
  ((k0_t11_loop v156).OK) ∧
  ((k0_t12_loop v156).OK)
theorem k0_t11_ok : ∀ (v156 : BitVec 32) (k0_hw11 : k0_chk11 v156), (k0_t11_loop v156).OK := fun v156 k0_hw11 => k0_hw11.1
theorem k0_t12_ok : ∀ (v156 : BitVec 32) (k0_hw11 : k0_chk11 v156), (k0_t12_loop v156).OK := fun v156 k0_hw11 => k0_hw11.2

def k0_off17 (arg16 : BitVec 32) : Fin 1 → Nat :=
  let c16_i32_200 : BitVec 32 := 16#32
  let v234 : BitVec 32 := Scalar.muli arg16 c16_i32_200
  let v235 : Index := Scalar.indexCast v234
  ![v235.toNat]
def k0_cond8 (arg19 : BitVec 32) : BitVec 1 :=
  let c0_i32_198 : BitVec 32 := 0#32
  let v230 : BitVec 1 := Scalar.cmpi .eq arg19 c0_i32_198
  let v231 : BitVec 32 := Scalar.extui v230
  let c0_i32_199 : BitVec 32 := 0#32
  let v232 : BitVec 1 := Scalar.cmpi .ne v231 c0_i32_199
  v232

def k0_chk13 (arg16 : BitVec 32) (arg19 : BitVec 32) : Prop :=
  (∀ (k0_h8 : k0_cond8 arg19 = 1#1), ∀ a, (k0_off17 arg16) a + S16.size a ≤ S65536.size a)
theorem k0_off17_inb : ∀ (arg16 : BitVec 32) (arg19 : BitVec 32) (k0_hw13 : k0_chk13 arg16 arg19), ∀ (k0_h8 : k0_cond8 arg19 = 1#1), ∀ a, (k0_off17 arg16) a + S16.size a ≤ S65536.size a := fun arg16 arg19 k0_hw13 k0_h8 => k0_hw13 k0_h8

@[reducible] def k0_t13_loop : Scf.Loop 32 :=
  let c0_i32_131 : BitVec 32 := 0#32
  let c1024_i32_132 : BitVec 32 := 1024#32
  let v167 : BitVec 32 := Scalar.addi c0_i32_131 c1024_i32_132
  let c1_i32_133 : BitVec 32 := 1#32
  ⟨c0_i32_131, v167, c1_i32_133⟩
def k0_off18 (k0_t13 : Fin k0_t13_loop.trips) : Fin 1 → Nat :=
  let c0_i32_199 : BitVec 32 := 0#32
  let c0_i32_131 : BitVec 32 := 0#32
  let c1_i32_133 : BitVec 32 := 1#32
  let arg14 : BitVec 32 := Scf.iv c0_i32_131 c1_i32_133 k0_t13
  let c16_i32_198 : BitVec 32 := 16#32
  let v230 : BitVec 32 := Scalar.muli arg14 c16_i32_198
  let v231 : BitVec 32 := Scalar.addi c0_i32_199 v230
  let v232 : Index := Scalar.indexCast v231
  ![v232.toNat]

def k0_chk14 (v242 : IVec S16 32) : Prop :=
  (∀ a x, ((![v242] : Fin 1 → IVec S16 32) a x).toNat < S65536.size a)
theorem k0_idx6_inb : ∀ (v242 : IVec S16 32) (k0_hw14 : k0_chk14 v242), ∀ a x, ((![v242] : Fin 1 → IVec S16 32) a x).toNat < S65536.size a := fun v242 k0_hw14 => k0_hw14

def k0_chk15 (v246 : IVec S16 32) : Prop :=
  (∀ a x, ((![v246] : Fin 1 → IVec S16 32) a x).toNat < S256.size a)
theorem k0_idx7_inb : ∀ (v246 : IVec S16 32) (k0_hw15 : k0_chk15 v246), ∀ a x, ((![v246] : Fin 1 → IVec S16 32) a x).toNat < S256.size a := fun v246 k0_hw15 => k0_hw15
@[reducible] def k0_t14_loop : Scf.Loop 32 :=
  let c0_i32_140 : BitVec 32 := 0#32
  let c16_i32_141 : BitVec 32 := 16#32
  let v168 : BitVec 32 := Scalar.addi c0_i32_140 c16_i32_141
  let c1_i32_142 : BitVec 32 := 1#32
  ⟨c0_i32_140, v168, c1_i32_142⟩
def k0_off19 (arg16 : BitVec 32) : Fin 1 → Nat :=
  let c16_i32_200 : BitVec 32 := 16#32
  let v234 : BitVec 32 := Scalar.muli arg16 c16_i32_200
  let v235 : Index := Scalar.indexCast v234
  ![v235.toNat]
def k0_cond9 (arg19 : BitVec 32) : BitVec 1 :=
  let c0_i32_198 : BitVec 32 := 0#32
  let v230 : BitVec 1 := Scalar.cmpi .eq arg19 c0_i32_198
  let v231 : BitVec 32 := Scalar.extui v230
  let c0_i32_199 : BitVec 32 := 0#32
  let v232 : BitVec 1 := Scalar.cmpi .ne v231 c0_i32_199
  v232

def k0_chk16 (arg16 : BitVec 32) (arg19 : BitVec 32) : Prop :=
  (∀ (k0_h9 : k0_cond9 arg19 = 1#1), ∀ a, (k0_off19 arg16) a + S16.size a ≤ S256.size a)
theorem k0_off19_inb : ∀ (arg16 : BitVec 32) (arg19 : BitVec 32) (k0_hw16 : k0_chk16 arg16 arg19), ∀ (k0_h9 : k0_cond9 arg19 = 1#1), ∀ a, (k0_off19 arg16) a + S16.size a ≤ S256.size a := fun arg16 arg19 k0_hw16 k0_h9 => k0_hw16 k0_h9

@[reducible] def k0_t15_loop : Scf.Loop 32 :=
  let c0_i32_144 : BitVec 32 := 0#32
  let c1024_i32_145 : BitVec 32 := 1024#32
  let v171 : BitVec 32 := Scalar.addi c0_i32_144 c1024_i32_145
  let c1_i32_146 : BitVec 32 := 1#32
  ⟨c0_i32_144, v171, c1_i32_146⟩
def k0_off20 (k0_t15 : Fin k0_t15_loop.trips) : Fin 1 → Nat :=
  let c0_i32_199 : BitVec 32 := 0#32
  let c0_i32_144 : BitVec 32 := 0#32
  let c1_i32_146 : BitVec 32 := 1#32
  let arg14 : BitVec 32 := Scf.iv c0_i32_144 c1_i32_146 k0_t15
  let c16_i32_198 : BitVec 32 := 16#32
  let v230 : BitVec 32 := Scalar.muli arg14 c16_i32_198
  let v231 : BitVec 32 := Scalar.addi c0_i32_199 v230
  let v232 : Index := Scalar.indexCast v231
  ![v232.toNat]

def k0_chk17 (v248 : IVec S16 32) : Prop :=
  (∀ a x, ((![v248] : Fin 1 → IVec S16 32) a x).toNat < S256.size a)
theorem k0_idx8_inb : ∀ (v248 : IVec S16 32) (k0_hw17 : k0_chk17 v248), ∀ a x, ((![v248] : Fin 1 → IVec S16 32) a x).toNat < S256.size a := fun v248 k0_hw17 => k0_hw17
@[reducible] def k0_t16_loop : Scf.Loop 32 :=
  let c0_i32_153 : BitVec 32 := 0#32
  let c16_i32_154 : BitVec 32 := 16#32
  let v172 : BitVec 32 := Scalar.addi c0_i32_153 c16_i32_154
  let c1_i32_155 : BitVec 32 := 1#32
  ⟨c0_i32_153, v172, c1_i32_155⟩
def k0_off21 (arg16 : BitVec 32) : Fin 1 → Nat :=
  let c16_i32_200 : BitVec 32 := 16#32
  let v234 : BitVec 32 := Scalar.muli arg16 c16_i32_200
  let v235 : Index := Scalar.indexCast v234
  ![v235.toNat]
def k0_cond10 (arg19 : BitVec 32) : BitVec 1 :=
  let c0_i32_198 : BitVec 32 := 0#32
  let v230 : BitVec 1 := Scalar.cmpi .eq arg19 c0_i32_198
  let v231 : BitVec 32 := Scalar.extui v230
  let c0_i32_199 : BitVec 32 := 0#32
  let v232 : BitVec 1 := Scalar.cmpi .ne v231 c0_i32_199
  v232

def k0_chk18 (arg16 : BitVec 32) (arg19 : BitVec 32) : Prop :=
  (∀ (k0_h10 : k0_cond10 arg19 = 1#1), ∀ a, (k0_off21 arg16) a + S16.size a ≤ S256.size a)
theorem k0_off21_inb : ∀ (arg16 : BitVec 32) (arg19 : BitVec 32) (k0_hw18 : k0_chk18 arg16 arg19), ∀ (k0_h10 : k0_cond10 arg19 = 1#1), ∀ a, (k0_off21 arg16) a + S16.size a ≤ S256.size a := fun arg16 arg19 k0_hw18 k0_h10 => k0_hw18 k0_h10

def k0_cond11 (k0_t2 : Fin k0_t2_loop.trips) : BitVec 1 :=
  let c2_i32_112 : BitVec 32 := 2#32
  let c0_i32_21 : BitVec 32 := 0#32
  let c1_i32_22 : BitVec 32 := 1#32
  let arg12 : BitVec 32 := Scf.iv c0_i32_21 c1_i32_22 k0_t2
  let v147 : BitVec 32 := Scalar.muli c2_i32_112 arg12
  let c1_i32_113 : BitVec 32 := 1#32
  let v148 : BitVec 32 := Scalar.addi v147 c1_i32_113
  let c15_i32_195 : BitVec 32 := 15#32
  let v226 : BitVec 32 := Scalar.andi v148 c15_i32_195
  let c15_i32_196 : BitVec 32 := 15#32
  let v227 : BitVec 1 := Scalar.cmpi .eq v226 c15_i32_196
  let v228 : BitVec 32 := Scalar.extui v227
  let c0_i32_197 : BitVec 32 := 0#32
  let v229 : BitVec 1 := Scalar.cmpi .ne v228 c0_i32_197
  v229

def k0_off22 (k0_t2 : Fin k0_t2_loop.trips) : Fin 1 → Nat :=
  let c2_i32_112 : BitVec 32 := 2#32
  let c0_i32_21 : BitVec 32 := 0#32
  let c1_i32_22 : BitVec 32 := 1#32
  let arg12 : BitVec 32 := Scf.iv c0_i32_21 c1_i32_22 k0_t2
  let v147 : BitVec 32 := Scalar.muli c2_i32_112 arg12
  let c1_i32_113 : BitVec 32 := 1#32
  let v148 : BitVec 32 := Scalar.addi v147 c1_i32_113
  let c4_i32_198 : BitVec 32 := 4#32
  let v230 : BitVec 32 := Scalar.shrsi v148 c4_i32_198
  let c16_i32_199 : BitVec 32 := 16#32
  let v231 : BitVec 32 := Scalar.muli v230 c16_i32_199
  let v232 : Index := Scalar.indexCast v231
  ![v232.toNat]
def k0_off23 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2048x16384 : Shape := ⟨2, ![2048, 16384]⟩
abbrev S2048x64 : Shape := ⟨2, ![2048, 64]⟩
abbrev S2048x1 : Shape := ⟨2, ![2048, 1]⟩

abbrev nBuf : Space → Nat
  | .hbm => 4
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S2048x64, .f32⟩
  | .hbm, ⟨2, _⟩ => ⟨S2048x64, .i32⟩
  | .hbm, ⟨3, _⟩ => ⟨S2048x1, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Encode.lean ====
abbrev S2048x2048 : Shape := ⟨2, ![2048, 2048]⟩
abbrev S16384x2048 : Shape := ⟨2, ![16384, 2048]⟩
abbrev S16384 : Shape := ⟨1, ![16384]⟩
abbrev S1x16384 : Shape := ⟨2, ![1, 16384]⟩
abbrev S2048x16384 : Shape := ⟨2, ![2048, 16384]⟩
abbrev S512x2048 : Shape := ⟨2, ![512, 2048]⟩
abbrev S1x2048 : Shape := ⟨2, ![1, 2048]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S16384x2048, .f32⟩
  | .hbm, ⟨2, _⟩ => ⟨S16384, .f32⟩
  | .hbm, ⟨3, _⟩ => ⟨S1x16384, .f32⟩
  | .hbm, ⟨4, _⟩ => ⟨S2048x16384, .f32⟩
  | .local _ .vmem, ⟨0, _⟩ => ⟨S512x2048, .f32⟩
  | .local _ .vmem, ⟨1, _⟩ => ⟨S512x2048, .f32⟩
  | .local _ .vmem, ⟨2, _⟩ => ⟨S2048x2048, .f32⟩
  | .local _ .vmem, ⟨3, _⟩ => ⟨S2048x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EncodeReference.lean ====
abbrev S2048x2048 : Shape := ⟨2, ![2048, 2048]⟩
abbrev S16384x2048 : Shape := ⟨2, ![16384, 2048]⟩
abbrev S16384 : Shape := ⟨1, ![16384]⟩
abbrev S2048x16384 : Shape := ⟨2, ![2048, 16384]⟩
abbrev S1x16384 : Shape := ⟨2, ![1, 16384]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S16384x2048, .f32⟩
  | .hbm, ⟨2, _⟩ => ⟨S16384, .f32⟩
  | .hbm, ⟨3, _⟩ => ⟨S2048x16384, .f32⟩
  | .hbm, ⟨4, _⟩ => ⟨S2048x16384, .f32⟩
  | .hbm, ⟨5, _⟩ => ⟨S1x16384, .f32⟩
  | .hbm, ⟨6, _⟩ => ⟨S2048x16384, .f32⟩
  | .hbm, ⟨7, _⟩ => ⟨S2048x16384, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Decode.lean ====
abbrev S2048x16384 : Shape := ⟨2, ![2048, 16384]⟩
abbrev S2048x1 : Shape := ⟨2, ![2048, 1]⟩
abbrev S2048 : Shape := ⟨1, ![2048]⟩
abbrev S1x2048 : Shape := ⟨2, ![1, 2048]⟩
abbrev S2048x2048 : Shape := ⟨2, ![2048, 2048]⟩
abbrev S512x2048 : Shape := ⟨2, ![512, 2048]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S2048x16384, .f32⟩
  | .hbm, ⟨1, _⟩ => ⟨S2048x1, .f32⟩
  | .hbm, ⟨2, _⟩ => ⟨S2048x16384, .f32⟩
  | .hbm, ⟨3, _⟩ => ⟨S2048, .f32⟩
  | .hbm, ⟨4, _⟩ => ⟨S2048x16384, .bf16⟩
  | .hbm, ⟨5, _⟩ => ⟨S1x2048, .f32⟩
  | .hbm, ⟨6, _⟩ => ⟨S2048x16384, .f32⟩
  | .hbm, ⟨7, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S2048x2048, .bf16⟩
  | .local _ .vmem, ⟨5, _⟩ => ⟨S2048x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_10 : BitVec 32 := 0#32
  let v14 : BitVec 1 := Scalar.cmpi .ne v13 c0_i32_10
  v14

def k0_cond2 (i : grid0.Coords) : BitVec 1 :=
  let arg1 : BitVec 32 := BitVec.ofNat 32 (i 1).val
  let c0_i32_11 : BitVec 32 := 0#32
  let v15 : BitVec 1 := Scalar.cmpi .ne arg1 c0_i32_11
  let v16 : BitVec 32 := Scalar.extui v15
  let c0_i32_12 : BitVec 32 := 0#32
  let v17 : BitVec 1 := Scalar.cmpi .ne v16 c0_i32_12
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DecodeReference.lean ====
abbrev S2048x16384 : Shape := ⟨2, ![2048, 16384]⟩
abbrev S2048x1 : Shape := ⟨2, ![2048, 1]⟩
abbrev S2048 : Shape := ⟨1, ![2048]⟩
abbrev S_ : Shape := ⟨0, ![]⟩
abbrev S16384x2048 : Shape := ⟨2, ![16384, 2048]⟩
abbrev S2048x2048 : Shape := ⟨2, ![2048, 2048]⟩
abbrev S1x2048 : Shape := ⟨2, ![1, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S2048x1, .f32⟩
  | .hbm, ⟨2, _⟩ => ⟨S2048x16384, .f32⟩
  | .hbm, ⟨3, _⟩ => ⟨S2048, .f32⟩
  | .hbm, ⟨4, _⟩ => ⟨S2048x16384, .f32⟩
  | .hbm, ⟨5, _⟩ => ⟨S2048x16384, .i1⟩
  | .hbm, ⟨6, _⟩ => ⟨S_, .f32⟩
  | .hbm, ⟨7, _⟩ => ⟨S_, .f32⟩
  | .hbm, ⟨8, _⟩ => ⟨S2048x16384, .f32⟩
  | .hbm, ⟨9, _⟩ => ⟨S2048x16384, .f32⟩
  | .hbm, ⟨10, _⟩ => ⟨S16384x2048, .f32⟩
  | .hbm, ⟨11, _⟩ => ⟨S2048x2048, .f32⟩
  | .hbm, ⟨12, _⟩ => ⟨S1x2048, .f32⟩
  | .hbm, ⟨13, _⟩ => ⟨S2048x2048, .f32⟩
  | .hbm, ⟨14, _⟩ => ⟨S2048x2048, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Proof.Setup.lean ====
/-
  The program as the SparseCore launch theorem sees it, the resource algebra of the proof, and the statement form for
  an array of words held in a subcore's memory: `Has1 thr B w` holds the rank-one memref `B` outright, its element at
  coordinate `n` being `w n`. The rules `has1_load`, `has1_store` and `has1_scatter` run one memory operation on it.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.ShareLeaves
public import Idealize.ShloMosaic.Lib.Pipeline.Kit
public import Idealize.ShloMosaic.Lib.Tactic
public import proofs.«01_k».proof.Proof.Gen.Kernel
public import proofs.«01_k».proof.Proof.Gen.Kernel.Skeleton

@[expose] public section

noncomputable section

namespace Cert.Proof.Thresh

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## The program as the launch theorem sees it -/

abbrev ΛP : Labels := Pipeline.Sig Λ₀ (Fin 0) fun p => (pcfgs (F := Bits) p).Adm
abbrev K : SparseCore.Cfg τ sig ΛP 1 := sc (F := Bits)
abbrev D : Defs nD τ sig (Elt Bits) ΛP := Pipeline.defs pcfgs defs₀
abbrev 𝒱₀ : Variants := Variants.none
abbrev 𝒱 : Variants := 𝒱₀.lift
abbrev v₀ : 𝒱.V := Sum.inl none

theorem facts : K.Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the copies' counters -/

abbrev UH : Type := URounds (GSem nD τ sig) ℕ
abbrev UU : Type := UH × Counters

abbrev 𝕄 : Type := MT nD τ sig (HIx 1) (Elt Bits) ℕ UU ℕ

abbrev EH : Emb UH 𝕄 := embL

/-! ## An array of words in a subcore's memory -/

section Mem

variable (thr : Thread nD τ)

/-- The rank-one memref `B`, held outright, its element at coordinate `n` being `w n`. -/
def Has1 {N : ℕ} {e : EltTy} (B : Memref sig thr.2.kind .vmem ⟨1, ![N]⟩ e) (w : ℕ → Elt Bits e) : sProp 𝕄 :=
  iprop(∃ f, ⌜B.view.read (Elt Bits) f = fun j => w (j 0).val⌝ ∗ B.view.loc thr ↦{fullShare} f)

variable {thr} {N : ℕ} {e : EltTy} {B : Memref sig thr.2.kind .vmem ⟨1, ![N]⟩ e} {w : ℕ → Elt Bits e}
variable {α : Type} {Q : α → sProp 𝕄}

theorem Has1_congr {w' : ℕ → Elt Bits e} (h : ∀ n, n < N → w n = w' n) : Has1 thr B w ⊢ Has1 thr B w' := by
  have hw : (fun j : (⟨1, ![N]⟩ : Shape).Idx => w (j 0).val) = fun j => w' (j 0).val := funext fun j => h _ (j 0).isLt
  unfold Has1; rw [hw]

theorem has1_load {L : ℕ} {off : Fin 1 → ℕ} {inb : ∀ a, off a + (⟨1, ![L]⟩ : Shape).size a ≤ (⟨1, ![N]⟩ : Shape).size a}
    {hl : B.view.LoadsAt (Rect.unit (s := ⟨1, ![N]⟩) off (⟨1, ![L]⟩ : Shape).size inb).toLoadRect}
    {k : ((⟨1, ![L]⟩ : Shape).Idx → Elt Bits e) → Prog (TpuEff nD τ sig (Elt Bits) Λ₀ thr.2) α} :
    Has1 thr B w ⊢ iprop((Has1 thr B w -∗ wp frame (wpE (defs₀ (F := Bits)) 𝒱₀ thr none) Set.univ (k fun y => w (off 0 + (y 0).val)) Q)
      -∗ wp frame (wpE (defs₀ (F := Bits)) 𝒱₀ thr none) Set.univ
          (.op (.load B (Rect.unit (s := ⟨1, ![N]⟩) off (⟨1, ![L]⟩ : Shape).size inb).toLoadRect hl) k) Q) := by
  unfold Has1
  iintro ⟨%f, %hf, H⟩ Hk
  iapply (wp_load 𝒱₀ thr none Set.univ (m := B) (S := Finset.univ) (Finset.subset_univ _)) $$ H
  iintro H
  have e1 : B.view.readAt (Elt Bits) (Rect.unit (s := ⟨1, ![N]⟩) off (⟨1, ![L]⟩ : Shape).size inb).toLoadRect f
      = fun y => w (off 0 + (y 0).val) := by
    funext y
    rw [View.readAt_apply, hf]
    show w (off 0 + 1 * (y 0).val) = _
    rw [Nat.one_mul]
  rw [e1]
  iapply Hk
  iexists f
  isplitr; · ipureintro; exact hf
  iexact H

theorem has1_store {L : ℕ} {off : Fin 1 → ℕ} {inb : ∀ a, off a + (⟨1, ![L]⟩ : Shape).size a ≤ (⟨1, ![N]⟩ : Shape).size a}
    {v : (⟨1, ![L]⟩ : Shape).Idx → Elt Bits e} (val : ℕ → Elt Bits e) (hv : ∀ y, v y = val (y 0).val)
    {hx : (B.access (Rect.unit (s := ⟨1, ![N]⟩) off (⟨1, ![L]⟩ : Shape).size inb)).Stores Finset.univ}
    {hm : (Finset.univ : Finset (Rect.unit (s := ⟨1, ![N]⟩) off (⟨1, ![L]⟩ : Shape).size inb).shape.Idx) = Finset.univ
      ∨ ∀ a, (Rect.unit (s := ⟨1, ![N]⟩) off (⟨1, ![L]⟩ : Shape).size inb).stride a = 1}
    {k : PUnit → Prog (TpuEff nD τ sig (Elt Bits) Λ₀ thr.2) α} :
    Has1 thr B w ⊢ iprop((Has1 thr B (fun n => if off 0 ≤ n ∧ n < off 0 + L then val (n - off 0) else w n)
          -∗ wp frame (wpE (defs₀ (F := Bits)) 𝒱₀ thr none) Set.univ (k ⟨⟩) Q)
      -∗ wp frame (wpE (defs₀ (F := Bits)) 𝒱₀ thr none) Set.univ
          (.op (.store B (Rect.unit (s := ⟨1, ![N]⟩) off (⟨1, ![L]⟩ : Shape).size inb) v Finset.univ hx hm) k) Q) := by
  unfold Has1
  iintro ⟨%f, %hf, H⟩ Hk
  iapply (wp_store 𝒱₀ thr none Set.univ (m := B) (r := Rect.unit (s := ⟨1, ![N]⟩) off (⟨1, ![L]⟩ : Shape).size inb)
    (Mk := Finset.univ) (S := Finset.univ) (f := f) (Finset.subset_univ _)) $$ H
  iintro H
  iapply Hk
  iexists _
  isplitr
  · ipureintro
    swap
    · exact (B.access (Rect.unit (s := ⟨1, ![N]⟩) off (⟨1, ![L]⟩ : Shape).size inb)).write (Elt Bits) f v Finset.univ
    · funext j
      show _ = if off 0 ≤ (j 0).val ∧ (j 0).val < off 0 + L then val ((j 0).val - off 0) else w (j 0).val
      by_cases h : off 0 ≤ (j 0).val ∧ (j 0).val < off 0 + L
      · rw [if_pos h]
        have hlt : (j 0).val - off 0 < L := by omega
        have hj : (Rect.unit (s := ⟨1, ![N]⟩) off (⟨1, ![L]⟩ : Shape).size inb).emb
            (fun a => ⟨(j 0).val - off 0, by rw [Fin.eq_zero a]; exact hlt⟩) = j := by
          funext a
          rw [Fin.eq_zero a]
          apply Fin.ext
          show off 0 + 1 * ((j 0).val - off 0) = (j 0).val
          omega
        have := View.read_slice_write_emb (v := B.view) (Rect.unit (s := ⟨1, ![N]⟩) off (⟨1, ![L]⟩ : Shape).size inb) f v
          (M := Finset.univ) (x := fun a => ⟨(j 0).val - off 0, by rw [Fin.eq_zero a]; exact hlt⟩) (Finset.mem_univ _)
        rw [hj] at this
        exact this.trans (hv _)
      · rw [if_neg h]
        refine (View.read_slice_write_of_not_mem (v := B.view) (Rect.unit (s := ⟨1, ![N]⟩) off (⟨1, ![L]⟩ : Shape).size inb) f v
          Finset.univ (y := j) ?_).trans (congrFun hf j)
        intro hm
        obtain ⟨y, -, hy⟩ := Finset.mem_map.mp hm
        apply h
        rw [← hy]
        have hyL : (y 0).val < L := (y 0).isLt
        show off 0 ≤ off 0 + 1 * (y 0).val ∧ off 0 + 1 * (y 0).val < off 0 + L
        omega
  iexact H

/-- A scatter: the array becomes what the scatter makes of it, which the caller states coordinate by coordinate. -/
theorem has1_scatter {L : ℕ} {idxs : Fin 1 → IVec ⟨1, ![L]⟩ 32} {v : Vec Bits ⟨1, ![L]⟩ e}
    {mask : IVec ⟨1, ![L]⟩ 1} {add : Bool} {h : ∀ a x, (idxs a x).toNat < (⟨1, ![N]⟩ : Shape).size a}
    {hs : (B.access (.whole ⟨1, ![N]⟩)).Stores Finset.univ}
    {k : PUnit → Prog (TpuEff nD τ sig (Elt Bits) Λ₀ thr.2) α} (w' : ℕ → Elt Bits e)
    (hw : ∀ j : (⟨1, ![N]⟩ : Shape).Idx, storeIdx (fun j : (⟨1, ![N]⟩ : Shape).Idx => w (j 0).val) idxs v mask add h j = w' (j 0).val) :
    Has1 thr B w ⊢ iprop((Has1 thr B w' -∗ wp frame (wpE (defs₀ (F := Bits)) 𝒱₀ thr none) Set.univ (k ⟨⟩) Q)
      -∗ wp frame (wpE (defs₀ (F := Bits)) 𝒱₀ thr none) Set.univ (SparseCore.vectorStoreIdx B idxs v mask add h hs >>= k) Q) := by
  rw [SparseCore.vectorStoreIdx_bind]
  unfold Has1
  iintro ⟨%f, %hf, H⟩ Hk
  iapply (wp_load_rect 𝒱₀ thr none Set.univ (m := B) (r := Rect.whole _) (S := Finset.univ) (Finset.subset_univ _)) $$ H
  iintro H
  iapply (wp_store 𝒱₀ thr none Set.univ (m := B) (r := Rect.whole _) (Mk := Finset.univ) (S := Finset.univ) (f := f)
    (Finset.subset_univ _)) $$ H
  iintro H
  iapply Hk
  iexists _
  isplitr
  rotate_left
  · iexact H
  · ipureintro
    have e1 : (B.access (.whole ⟨1, ![N]⟩)).read (Elt Bits) f = fun j => w (j 0).val := by
      refine Eq.trans ?_ hf
      funext j
      show B.view.read (Elt Bits) f ((Rect.whole ⟨1, ![N]⟩).emb j) = _
      congr 1
      funext a
      apply Fin.ext
      show 0 + 1 * (j a).val = _
      omega
    funext j
    refine Eq.trans ?_ (hw j)
    have := View.read_slice_write_emb (v := B.view) (Rect.whole ⟨1, ![N]⟩) f
      (storeIdx ((B.access (.whole ⟨1, ![N]⟩)).read (Elt Bits) f) idxs v mask add h) (M := Finset.univ) (x := j) (Finset.mem_univ _)
    rw [show (Rect.whole ⟨1, ![N]⟩).emb j = j from by
      funext a
      apply Fin.ext
      show 0 + 1 * (j a).val = _
      omega] at this
    exact this.trans (congrArg (fun g => storeIdx g idxs v mask add h j) e1)

end Mem

end Cert.Proof.Thresh
-- ==== Proof.Lanes.lean ====
/-
  What the vector operations of the kernel make of sixteen lanes whose words are small natural numbers: a prefix sum
  (`scan_sum_eq`), the greatest lane (`lastMax_eq`), and the two scatters into a histogram (`storeIdx_ones`, which adds
  one per lane, and `storeIdx_zeros`, which clears the element a lane names).
-/
module

public import Idealize.ShloMosaic.Lib.SparseCore.Ops
public import Idealize.ShloMosaic.Lib.SortKey
public import Idealize.ShloMosaic.Lib.Tactic
public import Idealize.ShloMosaic.Lib.SortNet.Words
public import Mathlib.Data.Nat.Count
public import proofs.«01_k».proof.Kernel

@[expose] public section

namespace Cert.Proof.Thresh

open Cert.Kernel
open Idealize.ShloMosaic

/-! ## Lanes in order -/

/-- Lane `k` of a register. -/
def lane (k : Fin 16) : S16.Idx := Shape.ofLane (d := ![16]) k

theorem lane_val (y : S16.Idx) (h : (y 0).val < 16) : lane ⟨(y 0).val, h⟩ = y :=
  funext fun a => by rw [Fin.eq_zero a]; rfl

theorem filter_lanes : ∀ j : Fin 16,
    ((List.finRange 16).filter fun k => decide (0 < k.val ∧ k.val ≤ j.val)).map Fin.val = List.range' 1 j.val := by decide

theorem finRange_val : (List.finRange 16).map Fin.val = List.range 16 := by decide

/-- A scan over lanes whose words are `a k`, as a fold over the numbers 1, …, `j`. -/
theorem scan_eq (kind : ScanKind) (v : IVec S16 32) (a : ℕ → BitVec 32) (hv : ∀ y, v y = a (y 0).val) (y : S16.Idx) :
    scan kind v y = (List.range' 1 (y 0).val).foldl (fun r k => kind.step r (a k)) (a 0) := by
  have h := filter_lanes (y 0)
  rw [← h, List.foldl_map]
  unfold scan
  have h0 : v (Shape.ofLane ⟨0, (y 0).pos⟩) = a 0 := hv _
  have hs : (fun (r : BitVec 32) (k : Fin 16) => kind.step r (v (Shape.ofLane k))) = fun r k => kind.step r (a k.val) := by
    funext r k; rw [hv]; rfl
  show List.foldl (fun r k => kind.step r (v (Shape.ofLane k))) (v (Shape.ofLane ⟨0, _⟩)) _ = _
  rw [h0]
  exact congrArg (fun f => List.foldl f (a 0) ((List.finRange 16).filter fun k => decide (0 < k.val ∧ k.val ≤ (y 0).val))) hs

/-- A prefix sum whose lanes are the differences of a monotone sequence `p` is that sequence. -/
theorem scan_sum_eq (v : IVec S16 32) (p : ℕ → ℕ) (h0 : ∀ y, (y 0).val = 0 → v y = BitVec.ofNat 32 (p 0))
    (hs : ∀ y k, (y 0).val = k + 1 → p k ≤ p (k + 1) ∧ v y = BitVec.ofNat 32 (p (k + 1) - p k)) (y : S16.Idx) :
    scan .sum v y = BitVec.ofNat 32 (p (y 0).val) := by
  have hn : (y 0).val < 16 := (y 0).isLt
  rw [scan_eq .sum v (fun k => if h : k < 16 then v (lane ⟨k, h⟩) else 0) (fun y => by
    have hy : (y 0).val < 16 := (y 0).isLt
    exact ((dif_pos hy).trans (congrArg v (lane_val y hy))).symm) y]
  generalize (y 0).val = n at hn
  induction n with
  | zero =>
    rw [List.range'_zero, List.foldl_nil, dif_pos (by decide)]
    exact h0 _ rfl
  | succ n ih =>
    obtain ⟨hle, hv⟩ := hs (lane ⟨n + 1, hn⟩) n rfl
    have e : (1 + 1 * n) = n + 1 := by omega
    rw [List.range'_concat, List.foldl_append, ih (by omega), List.foldl_cons, List.foldl_nil, e, dif_pos hn, hv]
    show BitVec.ofNat 32 (p n) + _ = _
    rw [← BitVec.ofNat_add]
    congr 1; omega

theorem foldl_max_spec (a : ℕ → BitVec 32) (n : ℕ) :
    (∀ k ≤ n, (a k).toNat ≤ ((List.range' 1 n).foldl (fun r k => ScanKind.max.step r (a k)) (a 0)).toNat)
      ∧ ∃ k ≤ n, ((List.range' 1 n).foldl (fun r k => ScanKind.max.step r (a k)) (a 0)) = a k := by
  induction n with
  | zero => exact ⟨fun k hk => by rw [Nat.le_zero.mp hk]; exact le_refl _, 0, le_refl _, rfl⟩
  | succ n ih =>
    obtain ⟨h1, k, hk, h2⟩ := ih
    rw [List.range'_concat, List.foldl_append, List.foldl_cons, List.foldl_nil]
    have e : (1 + 1 * n) = n + 1 := by omega
    rw [e]
    generalize (List.range' 1 n).foldl (fun r k => ScanKind.max.step r (a k)) (a 0) = R at h1 h2
    show (∀ k ≤ n + 1, (a k).toNat ≤ (if (a (n + 1)).ult R then R else a (n + 1)).toNat)
      ∧ ∃ k ≤ n + 1, (if (a (n + 1)).ult R then R else a (n + 1)) = a k
    by_cases hc : (a (n + 1)).ult R
    · rw [if_pos hc]
      have hc' : (a (n + 1)).toNat < R.toNat := by simpa [BitVec.ult] using hc
      refine ⟨fun i hi => ?_, k, by omega, h2⟩
      rcases Nat.lt_or_ge i (n + 1) with h | h
      · exact h1 i (by omega)
      · rw [show i = n + 1 by omega]; omega
    · rw [if_neg hc]
      have hc' : R.toNat ≤ (a (n + 1)).toNat := by
        have : ¬ (a (n + 1)).toNat < R.toNat := by simpa [BitVec.ult] using hc
        omega
      refine ⟨fun i hi => ?_, n + 1, le_refl _, rfl⟩
      rcases Nat.lt_or_ge i (n + 1) with h | h
      · exact (h1 i (by omega)).trans hc'
      · rw [show i = n + 1 by omega]

theorem ofNat_xor_top (n : ℕ) (h : n < 2 ^ 31) : BitVec.ofNat 32 n ^^^ 2147483648#32 = BitVec.ofNat 32 (n + 2 ^ 31) := by
  apply BitVec.eq_of_toNat_eq
  have h1 : (BitVec.ofNat 32 n).toNat = n := by rw [BitVec.toNat_ofNat]; exact Nat.mod_eq_of_lt (by omega)
  have h2 : (BitVec.ofNat 32 (n + 2 ^ 31)).toNat = n + 2 ^ 31 := by rw [BitVec.toNat_ofNat]; exact Nat.mod_eq_of_lt (by omega)
  have h3 : (2147483648#32).toNat = 2 ^ 31 := by decide
  rw [BitVec.toNat_xor, h1, h2, h3]
  exact (Idealize.ShloMosaic.SortNet.xor_two_pow_top (q := 31) n (by omega)).trans (if_pos h)

/-- The greatest lane, by a running maximum of the words with their top bit flipped (so that the unsigned maximum is the
    signed one): lanes below 2^31. -/
theorem lastMax_eq (v : IVec S16 32) (b : ℕ → ℕ) (hb : ∀ k, b k < 2 ^ 31) (hv : ∀ y, v y = BitVec.ofNat 32 (b (y 0).val))
    (M : ℕ) (hle : ∀ k, k < 16 → b k ≤ M) (hM : ∃ k, k < 16 ∧ b k = M) (hp : ∀ a, (![15] : Fin 1 → ℕ) a < S16.size a) :
    extractAt ![15] (xori (scan .max (xori v (broadcast S16 2147483648#32))) (broadcast S16 2147483648#32)) hp = BitVec.ofNat 32 M := by
  have hx : ∀ y, xori v (broadcast S16 2147483648#32) y = BitVec.ofNat 32 (b (y 0).val + 2 ^ 31) := fun y => by
    show v y ^^^ 2147483648#32 = _
    rw [hv, ofNat_xor_top _ (hb _)]
  show scan .max (xori v (broadcast S16 2147483648#32)) _ ^^^ 2147483648#32 = _
  rw [scan_eq .max _ (fun k => BitVec.ofNat 32 (b k + 2 ^ 31)) hx]
  show (List.range' 1 15).foldl _ _ ^^^ 2147483648#32 = _
  obtain ⟨h1, k, hk, h2⟩ := foldl_max_spec (fun k => BitVec.ofNat 32 (b k + 2 ^ 31)) 15
  rw [h2] at h1 ⊢
  obtain ⟨m, hm, hbm⟩ := hM
  have h3 := h1 m (by omega)
  simp only [BitVec.toNat_ofNat] at h3
  have := hb k
  have := hb m
  have := hle k (by omega)
  rw [Nat.mod_eq_of_lt (by omega), Nat.mod_eq_of_lt (by omega)] at h3
  have hkM : b k = M := by omega
  rw [← ofNat_xor_top _ (hb k), BitVec.xor_assoc, BitVec.xor_self, BitVec.xor_zero, hkM]

/-! ## The scatters -/

theorem count_lanes (p : ℕ → Prop) [DecidablePred p] : (List.finRange 16).countP (fun k => decide (p k.val)) = Nat.count p 16 := by
  have : (List.finRange 16).countP (fun k => decide (p k.val)) = ((List.finRange 16).map Fin.val).countP (fun k => decide (p k)) := by
    rw [List.countP_map]; rfl
  rw [this, finRange_val]; rfl

variable {N : ℕ}

/-- The scatter that adds one: each element gains the number of lanes, of those the mask admits, that name it. -/
theorem storeIdx_ones (f : (⟨1, ![N]⟩ : Shape).Idx → BitVec 32) (idxs : Fin 1 → IVec S16 32) (v : IVec S16 32) (mask : IVec S16 1)
    (h : ∀ a x, (idxs a x).toNat < (⟨1, ![N]⟩ : Shape).size a) (I : ℕ → ℕ) (P : ℕ → Prop) [DecidablePred P]
    (hv : ∀ y, v y = 1#32) (hI : ∀ y, (idxs 0 y).toNat = I (y 0).val) (hP : ∀ y, mask y = 1 ↔ P (y 0).val) (j : (⟨1, ![N]⟩ : Shape).Idx) :
    storeIdx (F := Bits) (e := .i32) f idxs v mask true h j
      = f j + BitVec.ofNat 32 (Nat.count (fun k => P k ∧ I k = (j 0).val) 16) := by
  rw [← count_lanes (fun k => P k ∧ I k = (j 0).val)]
  have key : ∀ (l : List (Fin 16)) (f : (⟨1, ![N]⟩ : Shape).Idx → BitVec 32),
      l.foldl (fun g k => if mask (lane k) = 1 then
          fun j => if ∀ a, (j a).val = (idxAt (s := ⟨1, ![N]⟩) idxs h (lane k) a).val
            then g (idxAt (s := ⟨1, ![N]⟩) idxs h (lane k)) + v (lane k) else g j
        else g) f j = f j + BitVec.ofNat 32 (l.countP fun k => decide (P k.val ∧ I k.val = (j 0).val)) := by
    intro l
    induction l with
    | nil => intro f; simp
    | cons k l ih =>
      intro f
      rw [List.foldl_cons, ih, List.countP_cons]
      have hPk : mask (lane k) = 1 ↔ P k.val := hP _
      have hIk : (idxs 0 (lane k)).toNat = I k.val := hI _
      have hcond : (∀ a, (j a).val = (idxAt (s := ⟨1, ![N]⟩) idxs h (lane k) a).val) ↔ I k.val = (j 0).val :=
        ⟨fun hh => ((hh 0).trans hIk).symm, fun hh a => by rw [Fin.eq_zero a]; exact (hIk.trans hh).symm⟩
      by_cases hm : P k.val
      · rw [if_pos (hPk.mpr hm)]
        by_cases hi : I k.val = (j 0).val
        · have hj : idxAt (s := ⟨1, ![N]⟩) idxs h (lane k) = j :=
            funext fun a => Fin.ext (hcond.mpr hi a).symm
          rw [if_pos (hcond.mpr hi), if_pos (by simpa using ⟨hm, hi⟩), hj, hv, BitVec.add_assoc, BitVec.ofNat_add,
            BitVec.add_comm (1#32)]
        · rw [if_neg (fun hh => hi (hcond.mp hh)), if_neg (by simp [hi])]
          rfl
      · rw [if_neg (fun hh => hm (hPk.mp hh)), if_neg (by simp [hm])]
        rfl
  simp only [storeIdx, if_true, Bool.false_eq_true, if_false, Elt.idxAdd_i32]
  exact key (List.finRange 16) f

/-- The scatter of zeros: an element some lane names is cleared, the others stay. -/
theorem storeIdx_zeros (f : (⟨1, ![N]⟩ : Shape).Idx → BitVec 32) (idxs : Fin 1 → IVec S16 32) (v : IVec S16 32) (mask : IVec S16 1)
    (h : ∀ a x, (idxs a x).toNat < (⟨1, ![N]⟩ : Shape).size a) (I : ℕ → ℕ)
    (hv : ∀ y, v y = 0#32) (hI : ∀ y, (idxs 0 y).toNat = I (y 0).val) (hP : ∀ y, mask y = 1) (j : (⟨1, ![N]⟩ : Shape).Idx) :
    storeIdx (F := Bits) (e := .i32) f idxs v mask false h j
      = if Nat.count (fun k => I k = (j 0).val) 16 = 0 then f j else 0#32 := by
  rw [← count_lanes (fun k => I k = (j 0).val)]
  have key : ∀ (l : List (Fin 16)) (f : (⟨1, ![N]⟩ : Shape).Idx → BitVec 32),
      l.foldl (fun g k => if mask (lane k) = 1 then
          fun j => if ∀ a, (j a).val = (idxAt (s := ⟨1, ![N]⟩) idxs h (lane k) a).val then v (lane k) else g j
        else g) f j = if l.countP (fun k => decide (I k.val = (j 0).val)) = 0 then f j else 0#32 := by
    intro l
    induction l with
    | nil => intro f; simp
    | cons k l ih =>
      intro f
      rw [List.foldl_cons, ih, List.countP_cons]
      have hIk : (idxs 0 (lane k)).toNat = I k.val := hI _
      have hcond : (∀ a, (j a).val = (idxAt (s := ⟨1, ![N]⟩) idxs h (lane k) a).val) ↔ I k.val = (j 0).val :=
        ⟨fun hh => ((hh 0).trans hIk).symm, fun hh a => by rw [Fin.eq_zero a]; exact (hIk.trans hh).symm⟩
      rw [if_pos (hP _)]
      by_cases hi : I k.val = (j 0).val
      · rw [if_pos (hcond.mpr hi), if_pos (show decide (I k.val = (j 0).val) = true by simpa using hi),
          if_neg (Nat.succ_ne_zero _), hv, ite_self]
      · rw [if_neg (fun hh => hi (hcond.mp hh)), if_neg (show ¬decide (I k.val = (j 0).val) = true by simpa using hi), Nat.add_zero]
  simp only [storeIdx, if_true, Bool.false_eq_true, if_false, Elt.idxAdd_i32]
  exact key (List.finRange 16) f

end Cert.Proof.Thresh
-- ==== Proof.Scan.lean ====
/-
  The scan of a histogram from its top bins down, sixteen bins a trip, for the bin in which the running count from above
  reaches `kk`. With `G j` the number of entries in the bins `j`, `j + 1`, …, the scan's result is the bin `b` with
  `G (b + 1) < kk ≤ G b`, and `G (b + 1)`: `ScanInv` is what holds after `t` trips, `scanInv_next` one trip's step
  (`scanNext`, the kernel's own arithmetic on a vector of sixteen bins) and `scanInv_done` what the last trip leaves.
-/
module

public import proofs.«01_k».proof.Proof.Lanes
public import proofs.«01_k».proof.Proof.Gen.Kernel.Skeleton

@[expose] public section

namespace Cert.Proof.Thresh

open Cert.Kernel Cert.Kernel.Gen
open Idealize.ShloMosaic

/-! ## Counting below a bound -/

theorem count_of_prefix (p : ℕ → Prop) [DecidablePred p] (n : ℕ) (hp : ∀ i, i + 1 < n → p (i + 1) → p i) :
    ∀ i, i < n → (p i ↔ i < Nat.count p n) := by
  induction n with
  | zero => intro i hi; omega
  | succ n ih =>
    intro i hi
    have ih := ih (fun i hi => hp i (by omega))
    rw [Nat.count_succ]
    have hle : Nat.count p n ≤ n := Nat.count_le _
    by_cases hpn : p n
    · rw [if_pos hpn]
      have hall : ∀ d, d ≤ n → p (n - d) := by
        intro d
        induction d with
        | zero => intro _; exact hpn
        | succ d ihd =>
          intro hd
          have := ihd (by omega)
          rw [show n - d = n - (d + 1) + 1 by omega] at this
          exact hp _ (by omega) this
      have hc : Nat.count p n = n := by
        rcases Nat.eq_zero_or_pos n with h0 | h0
        · subst h0; rfl
        · have h1 := (ih (n - 1) (by omega)).mp (hall 1 (by omega))
          omega
      have := hall (n - i) (by omega)
      rw [show n - (n - i) = i by omega] at this
      exact ⟨fun _ => by omega, fun _ => this⟩
    · rw [if_neg hpn, Nat.add_zero]
      rcases Nat.lt_or_ge i n with h | h
      · exact ih i h
      · have : i = n := by omega
        subst this
        exact ⟨fun h => absurd h hpn, fun h => by omega⟩

theorem ofNat_inj {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

theorem toNat_small {a : ℕ} (ha : a < 2 ^ 32) : (BitVec.ofNat 32 a).toNat = a := by
  rw [BitVec.toNat_ofNat]; exact Nat.mod_eq_of_lt ha

theorem ofNat_sub {a b : ℕ} (h : b ≤ a) : BitVec.ofNat 32 a - BitVec.ofNat 32 b = BitVec.ofNat 32 (a - b) := by
  have : BitVec.ofNat 32 a = BitVec.ofNat 32 (a - b) + BitVec.ofNat 32 b := by rw [← BitVec.ofNat_add, Nat.sub_add_cancel h]
  rw [this, BitVec.add_sub_cancel]

/-- Signed "at most" of two words that are small naturals. -/
theorem sle_small {a b : ℕ} (ha : a < 2 ^ 31) (hb : b < 2 ^ 31) : (BitVec.ofNat 32 a).sle (BitVec.ofNat 32 b) = decide (a ≤ b) := by
  have h1 : (BitVec.ofNat 32 a).toInt = a := by
    rw [BitVec.toInt_eq_toNat_of_lt (by rw [toNat_small (by omega)]; omega), toNat_small (by omega)]
  have h2 : (BitVec.ofNat 32 b).toInt = b := by
    rw [BitVec.toInt_eq_toNat_of_lt (by rw [toNat_small (by omega)]; omega), toNat_small (by omega)]
  rw [BitVec.sle, h1, h2]; simp
theorem slt_small {a b : ℕ} (ha : a < 2 ^ 31) (hb : b < 2 ^ 31) : (BitVec.ofNat 32 a).slt (BitVec.ofNat 32 b) = decide (a < b) := by
  have h1 : (BitVec.ofNat 32 a).toInt = a := by
    rw [BitVec.toInt_eq_toNat_of_lt (by rw [toNat_small (by omega)]; omega), toNat_small (by omega)]
  have h2 : (BitVec.ofNat 32 b).toInt = b := by
    rw [BitVec.toInt_eq_toNat_of_lt (by rw [toNat_small (by omega)]; omega), toNat_small (by omega)]
  rw [BitVec.slt, h1, h2]; simp

theorem ofBool_eq_one (b : Bool) : BitVec.ofBool b = 1 ↔ b = true := by cases b <;> decide

/-! ## One vector of sixteen bins -/

section Trip

variable {G : ℕ → ℕ} (hG : Antitone G) (h0 : G 0 < 2 ^ 30) {o : ℕ} {v : Vec Bits S16 .i32}
  (hv : ∀ y, v y = BitVec.ofNat 32 (G (o + (y 0).val) - G (o + (y 0).val + 1)))
  {kk : ℕ} (hkk : kk < 2 ^ 30) {v3 : IVec S16 32} (hv3 : ∀ y, v3 y = BitVec.ofNat 32 (y 0).val)

include hG hv in
theorem pay11_eq (y : S16.Idx) : k0_pay11 v y = BitVec.ofNat 32 (G o - G (o + (y 0).val + 1)) := by
  show scan .sum v y = _
  refine scan_sum_eq v (fun k => G o - G (o + k + 1)) (fun y h => ?_) (fun y k h => ?_) y
  · rw [hv, h]; rfl
  · have e1 : G (o + k + 1) ≤ G o := hG (by omega)
    have e2 : G (o + (k + 1) + 1) ≤ G (o + k + 1) := hG (by omega)
    rw [hv, h]
    refine ⟨by omega, ?_⟩
    rw [show o + (k + 1) = o + k + 1 by omega] at e2 ⊢
    congr 1; omega

include hG h0 hv in
theorem total_eq : extractAt ![15] (k0_pay12 v) inpos_S16_p15 = BitVec.ofNat 32 (G o - G (o + 16)) := by
  have hb : ∀ k, G k ≤ G 0 := fun k => hG (Nat.zero_le k)
  refine lastMax_eq (k0_pay11 v) (fun k => G o - G (o + k + 1)) (fun k => by have := hb o; omega) (pay11_eq hG hv) _
    (fun k hk => ?_) ⟨15, by decide, rfl⟩ _
  have : G (o + 16) ≤ G (o + k + 1) := hG (by omega)
  show G o - G (o + k + 1) ≤ G o - G (o + 16)
  omega

include hG h0 hv hkk in
theorem pay13_eq (y : S16.Idx) : k0_pay13 (BitVec.ofNat 32 kk) (BitVec.ofNat 32 (G (o + 16))) v y
    = BitVec.ofNat 32 (Nat.count (fun i => kk ≤ G (o + i)) ((y 0).val + 1)) := by
  have hb : ∀ k, G k ≤ G 0 := fun k => hG (Nat.zero_le k)
  -- the vector scanned: one where the count from above, down to this bin, reaches `kk`
  have hc : ∀ y : S16.Idx, extui 32 (cmpi .sge (addi (subi (broadcast S16 (Scalar.addi (BitVec.ofNat 32 (G (o + 16)))
      (extractAt ![15] (k0_pay12 v) inpos_S16_p15))) (k0_pay11 v)) v) (broadcast S16 (BitVec.ofNat 32 kk))) natLt_1_32 y
      = BitVec.ofNat 32 (if kk ≤ G (o + (y 0).val) then 1 else 0) := by
    intro y
    show (BitVec.ofBool ((BitVec.ofNat 32 kk).sle (BitVec.ofNat 32 (G (o + 16)) + extractAt ![15] (k0_pay12 v) inpos_S16_p15
      - k0_pay11 v y + v y))).setWidth 32 = _
    have hy : (y 0).val < 16 := (y 0).isLt
    have e1 : G (o + 16) ≤ G (o + (y 0).val + 1) := hG (by omega)
    have e2 : G (o + (y 0).val + 1) ≤ G (o + (y 0).val) := hG (by omega)
    have e3 : G (o + (y 0).val) ≤ G o := hG (by omega)
    rw [total_eq hG h0 hv, pay11_eq hG hv, hv, ← BitVec.ofNat_add, ofNat_sub (by omega), ← BitVec.ofNat_add,
      show G (o + 16) + (G o - G (o + 16)) - (G o - G (o + (y 0).val + 1)) + (G (o + (y 0).val) - G (o + (y 0).val + 1)) = G (o + (y 0).val) by omega,
      sle_small (by omega) (by have := hb (o + (y 0).val); omega)]
    by_cases h : kk ≤ G (o + (y 0).val)
    · rw [if_pos h, decide_eq_true h]; rfl
    · rw [if_neg h, decide_eq_false h]; rfl
  show scan .sum _ y = _
  refine scan_sum_eq _ (fun k => Nat.count (fun i => kk ≤ G (o + i)) (k + 1)) (fun y h => ?_) (fun y k h => ?_) y
  · refine (hc y).trans ?_
    rw [h, Nat.count_succ, Nat.count_zero, Nat.zero_add]
  · refine ⟨Nat.count_monotone _ (by omega), (hc y).trans ?_⟩
    rw [h, Nat.count_succ _ (k + 1)]
    congr 1; omega

/-- The number of bins of the vector that the count from above reaches `kk` at or above. -/
abbrev reach (G : ℕ → ℕ) (kk o : ℕ) : ℕ := Nat.count (fun i => kk ≤ G (o + i)) 16

theorem reach_le (G : ℕ → ℕ) (kk o : ℕ) : reach G kk o ≤ 16 := Nat.count_le _

include hG in
theorem reach_iff (kk o : ℕ) (i : ℕ) (hi : i < 16) : kk ≤ G (o + i) ↔ i < reach G kk o :=
  count_of_prefix (fun i => kk ≤ G (o + i)) 16 (fun i _ h => le_trans h (hG (by omega))) i hi

include hG h0 hv hkk in
theorem lanes_eq : extractAt ![15] (k0_pay13 (BitVec.ofNat 32 kk) (BitVec.ofNat 32 (G (o + 16))) v) inpos_S16_p15
    = BitVec.ofNat 32 (reach G kk o) :=
  pay13_eq hG h0 hv hkk _

include hG h0 hv hkk hv3 in
theorem above_eq : extractAt ![15] (k0_pay14 v3 (BitVec.ofNat 32 kk) (BitVec.ofNat 32 (G (o + 16))) v) inpos_S16_p15
    = BitVec.ofNat 32 (if reach G kk o = 0 then 0 else G o - G (o + reach G kk o)) := by
  have hb : ∀ k, G k ≤ G 0 := fun k => hG (Nat.zero_le k)
  have hr := reach_le G kk o
  refine lastMax_eq _ (fun k => if k + 1 = reach G kk o then G o - G (o + k + 1) else 0) (fun k => ?_) (fun y => ?_) _ (fun k hk => ?_) ?_ _
  · split
    · have := hb o; omega
    · omega
  · show (if BitVec.ofBool (v3 y == extractAt ![15] (k0_pay13 (BitVec.ofNat 32 kk) (BitVec.ofNat 32 (G (o + 16))) v) inpos_S16_p15 - 1#32) = 1
      then k0_pay11 v y else 0#32) = _
    have hy : (y 0).val < 16 := (y 0).isLt
    rw [lanes_eq hG h0 hv hkk, hv3, pay11_eq hG hv]
    have hiff : BitVec.ofNat 32 (y 0).val = BitVec.ofNat 32 (reach G kk o) - 1#32 ↔ (y 0).val + 1 = reach G kk o := by
      refine ⟨fun h => ofNat_inj (by omega) (by omega) ?_, fun h => ?_⟩
      · have := congrArg (· + 1#32) h
        simp only [BitVec.sub_add_cancel] at this
        rw [← this, BitVec.ofNat_add]
      · rw [← h, BitVec.ofNat_add]
        exact (BitVec.add_sub_cancel _ _).symm
    by_cases h : (y 0).val + 1 = reach G kk o
    · rw [if_pos ((ofBool_eq_one _).mpr (beq_iff_eq.mpr (hiff.mpr h))), if_pos h]
    · rw [if_neg (fun hh => h (hiff.mp (beq_iff_eq.mp ((ofBool_eq_one _).mp hh)))), if_neg h]
  · show (if k + 1 = reach G kk o then G o - G (o + k + 1) else 0) ≤ _
    split
    · next h =>
      rw [if_neg (by omega), ← h]
      exact le_refl _
    · omega
  · rcases Nat.eq_zero_or_pos (reach G kk o) with h | h
    · refine ⟨0, by omega, ?_⟩
      rw [if_pos h, if_neg (by omega)]
    · refine ⟨reach G kk o - 1, by omega, ?_⟩
      rw [if_pos (by omega), if_neg (by omega), show o + (reach G kk o - 1) + 1 = o + reach G kk o by omega]

end Trip

/-! ## The scan's state -/

/-- A scan's state: the count above the vectors read, the number of the vector to read next, the bin found, the count
    above that bin, and whether it is found. -/
abbrev ScanSt : Type := BitVec 32 × BitVec 32 × BitVec 32 × BitVec 32 × BitVec 32

/-- What one trip makes of the state, reading the vector `v`. -/
noncomputable def scanNext (v3 : IVec S16 32) (kneed : BitVec 32) (v : Vec Bits S16 .i32) (a : ScanSt) : ScanSt :=
  (Scalar.addi a.1 (extractAt ![15] (k0_pay12 v) inpos_S16_p15), Scalar.subi a.2.1 1#32,
    Scalar.select (Scalar.cmpi .sgt (extractAt ![15] (k0_pay13 kneed a.1 v) inpos_S16_p15) 0#32)
      (Scalar.subi (Scalar.addi (Scalar.muli a.2.1 16#32) (extractAt ![15] (k0_pay13 kneed a.1 v) inpos_S16_p15)) 1#32) a.2.2.1,
    Scalar.select (Scalar.cmpi .sgt (extractAt ![15] (k0_pay13 kneed a.1 v) inpos_S16_p15) 0#32)
      (Scalar.subi (Scalar.addi a.1 (extractAt ![15] (k0_pay12 v) inpos_S16_p15)) (extractAt ![15] (k0_pay14 v3 kneed a.1 v) inpos_S16_p15)) a.2.2.2.1,
    Scalar.extui (Scalar.cmpi .sgt (extractAt ![15] (k0_pay13 kneed a.1 v) inpos_S16_p15) 0#32))

/-- The bin the scan looks for. -/
def IsBin (G : ℕ → ℕ) (kk : ℕ) (b : ℕ) : Prop := G (b + 1) < kk ∧ kk ≤ G b

/-- After `t` trips of a scan of the vectors `start`, `start - 1`, …, 0. -/
def ScanInv (G : ℕ → ℕ) (kk start t : ℕ) (a : ScanSt) : Prop :=
  (a.2.2.2.2 = 0#32 ∧ a.1 = BitVec.ofNat 32 (G (16 * (start + 1 - t))) ∧ (t ≤ start → a.2.1 = BitVec.ofNat 32 (start - t))
      ∧ G (16 * (start + 1 - t)) < kk)
    ∨ (a.2.2.2.2 = 1#32 ∧ ∃ b, b < 16 * (start + 1) ∧ a.2.2.1 = BitVec.ofNat 32 b ∧ a.2.2.2.1 = BitVec.ofNat 32 (G (b + 1)) ∧ IsBin G kk b)

theorem scanInv_init (G : ℕ → ℕ) (kk start : ℕ) (hz : G (16 * (start + 1)) = 0) (hk : 0 < kk) (x y : BitVec 32) :
    ScanInv G kk start 0 (0#32, BitVec.ofNat 32 start, x, y, 0#32) := by
  refine .inl ⟨rfl, ?_, fun _ => rfl, ?_⟩
  · show 0#32 = _
    rw [Nat.sub_zero, hz]
  · rw [Nat.sub_zero, hz]; exact hk

/-- What the last trip leaves. -/
theorem scanInv_done {G : ℕ → ℕ} {kk start : ℕ} {a : ScanSt} (h : ScanInv G kk start (start + 1) a) (hk : kk ≤ G 0) :
    ∃ b, b < 16 * (start + 1) ∧ a.2.2.1 = BitVec.ofNat 32 b ∧ a.2.2.2.1 = BitVec.ofNat 32 (G (b + 1)) ∧ IsBin G kk b := by
  rcases h with ⟨-, -, -, h⟩ | ⟨-, h⟩
  · rw [Nat.sub_self, Nat.mul_zero] at h; omega
  · exact h

theorem scanInv_skip {G : ℕ → ℕ} {kk start t : ℕ} {a : ScanSt} (h : ScanInv G kk start t a) (hd : a.2.2.2.2 ≠ 0#32) :
    ScanInv G kk start (t + 1) a := by
  rcases h with ⟨h, -⟩ | h
  · exact absurd h hd
  · exact .inr h

/-- Which vector a trip of an unfinished scan reads. -/
theorem scanInv_vec {G : ℕ → ℕ} {kk start t : ℕ} {a : ScanSt} (h : ScanInv G kk start t a) (hd : a.2.2.2.2 = 0#32) (ht : t ≤ start) :
    a.2.1 = BitVec.ofNat 32 (start - t) := by
  rcases h with ⟨-, -, h, -⟩ | ⟨h, -⟩
  · exact h ht
  · rw [hd] at h; exact absurd h (by decide)

theorem scanInv_next {G : ℕ → ℕ} (hG : Antitone G) (h0 : G 0 < 2 ^ 30) {kk start t : ℕ} (hkk : kk < 2 ^ 30) (hst : start < 2 ^ 20)
    {a : ScanSt} (h : ScanInv G kk start t a) (hd : a.2.2.2.2 = 0#32) (ht : t ≤ start) {v : Vec Bits S16 .i32}
    (hv : ∀ y, v y = BitVec.ofNat 32 (G (16 * (start - t) + (y 0).val) - G (16 * (start - t) + (y 0).val + 1)))
    {v3 : IVec S16 32} (hv3 : ∀ y, v3 y = BitVec.ofNat 32 (y 0).val) :
    ScanInv G kk start (t + 1) (scanNext v3 (BitVec.ofNat 32 kk) v a) := by
  obtain ⟨c, vi, b, cg, done⟩ := a
  rcases h with ⟨-, hc, hvi, hlt⟩ | ⟨h, -⟩
  swap
  · rw [hd] at h; exact absurd h (by decide)
  simp only at hc hvi hd
  have hvi := hvi ht
  have ho : 16 * (start + 1 - t) = 16 * (start - t) + 16 := by omega
  rw [ho] at hc hlt
  have hb : ∀ k, G k ≤ G 0 := fun k => hG (Nat.zero_le k)
  subst hc hvi
  unfold scanNext
  simp only [total_eq hG h0 hv, lanes_eq hG h0 hv hkk, above_eq hG h0 hv hkk hv3]
  generalize hoo : 16 * (start - t) = o at *
  have hle : G (o + 16) ≤ G o := hG (by omega)
  have hadd : Scalar.addi (BitVec.ofNat 32 (G (o + 16))) (BitVec.ofNat 32 (G o - G (o + 16))) = BitVec.ofNat 32 (G o) := by
    show BitVec.ofNat 32 _ + BitVec.ofNat 32 _ = _
    rw [← BitVec.ofNat_add]; congr 1; omega
  have hr16 := reach_le G kk o
  have hcmp : Scalar.cmpi .sgt (BitVec.ofNat 32 (reach G kk o)) 0#32 = BitVec.ofBool (decide (0 < reach G kk o)) :=
    congrArg BitVec.ofBool (slt_small (a := 0) (by omega) (by omega))
  rw [hadd, hcmp]
  rcases Nat.eq_zero_or_pos (reach G kk o) with hr | hr
  · left
    refine ⟨?_, ?_, fun hs => ?_, ?_⟩
    · rw [hr]; rfl
    · show BitVec.ofNat 32 (G o) = _
      rw [← hoo]; congr 3; omega
    · show BitVec.ofNat 32 (start - t) - BitVec.ofNat 32 1 = _
      rw [ofNat_sub (by omega)]; congr 1
    · have := reach_iff hG kk o 0 (by decide)
      rw [hr, Nat.add_zero] at this
      have e : 16 * (start + 1 - (t + 1)) = o := by omega
      rw [e]; omega
  · right
    have hdt : decide (0 < reach G kk o) = true := decide_eq_true hr
    rw [hdt]
    refine ⟨rfl, o + reach G kk o - 1, by omega, ?_, ?_, ?_, ?_⟩
    · show BitVec.ofNat 32 (start - t) * BitVec.ofNat 32 16 + BitVec.ofNat 32 (reach G kk o) - BitVec.ofNat 32 1 = _
      rw [← BitVec.ofNat_mul, ← BitVec.ofNat_add, ofNat_sub (by omega)]
      congr 1; omega
    · show BitVec.ofNat 32 (G o) - BitVec.ofNat 32 _ = _
      rw [if_neg (by omega)]
      have : G (o + reach G kk o) ≤ G o := hG (by omega)
      rw [ofNat_sub (by omega), show o + reach G kk o - 1 + 1 = o + reach G kk o by omega]
      congr 1; omega
    · rw [show o + reach G kk o - 1 + 1 = o + reach G kk o by omega]
      rcases Nat.lt_or_ge (reach G kk o) 16 with h | h
      · have := reach_iff hG kk o (reach G kk o) h
        omega
      · rw [show reach G kk o = 16 by omega]; exact hlt
    · have := reach_iff hG kk o (reach G kk o - 1) (by omega)
      rw [show o + reach G kk o - 1 = o + (reach G kk o - 1) by omega]
      exact this.mpr (by omega)

end Cert.Proof.Thresh
-- ==== Proof.Keys.lean ====
/-
  The order of the kernel's keys. `mono b` is the word whose unsigned order is the total order of the floating-point
  pattern `b` (`mono_eq_totalOrderKey`), `unmono` its inverse; `d1`, `d2`, `d3` are the key's digits (sixteen, eight and
  eight bits). `IsKth w z` says that `z` is the 64-th largest of the words `w 0`, …, `w 16383` in that order, repetitions
  counted; at most one word is (`IsKth.unique`). `isKth_of_bins` is the selection by digits: the bin of each digit's
  histogram at which the count from above reaches what is still to be counted makes the 64-th largest key.
-/
module

public import proofs.«01_k».proof.Proof.Scan

@[expose] public section

namespace Cert.Proof.Thresh

open Cert.Kernel Cert.Kernel.Gen
open Idealize.ShloMosaic

/-! ## Keys -/

def mono (b : BitVec 32) : BitVec 32 := if b.ult 2147483648#32 then b ^^^ 2147483648#32 else b ^^^ 4294967295#32
def unmono (k : BitVec 32) : BitVec 32 := if (2147483648#32).ule k then k ^^^ 2147483648#32 else k ^^^ 4294967295#32

theorem ult_top (b : BitVec 32) : b.ult 2147483648#32 = !b.msb := by
  have h3 : (2147483648#32).toNat = 2 ^ 31 := by decide
  rw [BitVec.ult, h3]
  have := b.isLt
  by_cases h : b.toNat < 2 ^ 31
  · rw [decide_eq_true h, BitVec.msb_eq_false_iff_two_mul_lt.mpr (by omega)]; rfl
  · rw [decide_eq_false h, BitVec.msb_eq_true_iff_two_mul_ge.mpr (by omega)]; rfl

theorem ule_top (b : BitVec 32) : (2147483648#32).ule b = b.msb := by
  have h3 : (2147483648#32).toNat = 2 ^ 31 := by decide
  rw [BitVec.ule, h3]
  have := b.isLt
  by_cases h : 2 ^ 31 ≤ b.toNat
  · rw [decide_eq_true h, BitVec.msb_eq_true_iff_two_mul_ge.mpr (by omega)]
  · rw [decide_eq_false h, BitVec.msb_eq_false_iff_two_mul_lt.mpr (by omega)]

theorem xor_xor_same (a b : BitVec 32) : a ^^^ b ^^^ b = a := by
  rw [BitVec.xor_assoc, BitVec.xor_self, BitVec.xor_zero]

theorem mono_low {b : BitVec 32} (h : b.msb = false) : mono b = b ^^^ 2147483648#32 := if_pos (by rw [ult_top, h]; rfl)
theorem mono_high {b : BitVec 32} (h : b.msb = true) : mono b = b ^^^ 4294967295#32 := if_neg (by rw [ult_top, h]; decide)
theorem unmono_low {k : BitVec 32} (h : k.msb = false) : unmono k = k ^^^ 4294967295#32 := if_neg (by rw [ule_top, h]; decide)
theorem unmono_high {k : BitVec 32} (h : k.msb = true) : unmono k = k ^^^ 2147483648#32 := if_pos (by rw [ule_top, h])

theorem msb_xor_top (b : BitVec 32) : (b ^^^ 2147483648#32).msb = !b.msb := by
  have e : (2147483648#32).msb = true := by decide
  rw [BitVec.msb_xor, e, Bool.xor_true]
theorem msb_xor_ones (b : BitVec 32) : (b ^^^ 4294967295#32).msb = !b.msb := by
  have e : (4294967295#32).msb = true := by decide
  rw [BitVec.msb_xor, e, Bool.xor_true]

theorem mono_unmono (k : BitVec 32) : mono (unmono k) = k := by
  cases h : k.msb
  · rw [unmono_low h, mono_high (by rw [msb_xor_ones, h]; rfl), xor_xor_same]
  · rw [unmono_high h, mono_low (by rw [msb_xor_top, h]; rfl), xor_xor_same]

theorem unmono_mono (b : BitVec 32) : unmono (mono b) = b := by
  cases h : b.msb
  · rw [mono_low h, unmono_high (by rw [msb_xor_top, h]; rfl), xor_xor_same]
  · rw [mono_high h, unmono_low (by rw [msb_xor_ones, h]; rfl), xor_xor_same]

theorem mono_eq_totalOrderKey (b : BitVec 32) : mono b = totalOrderKey b := by
  unfold mono
  rw [ult_top]
  cases h : b.msb
  · rw [if_pos (by decide), totalOrderKey_of_msb_false b h]
    have hb : b.toNat < 2 ^ 31 := by have := BitVec.msb_eq_false_iff_two_mul_lt.mp h; omega
    apply BitVec.eq_of_getLsbD_eq
    intro i hi
    have hi0 : i = 31 → b.getLsbD i = false := fun e => by subst e; exact h
    have hm : (2147483648#32) = BitVec.intMin 32 := by decide
    rw [BitVec.getLsbD_xor, BitVec.getLsbD_or, hm, BitVec.getLsbD_intMin]
    by_cases e : i = 31
    · rw [hi0 e]; simp
    · simp [e]
  · rw [if_neg (by decide), totalOrderKey_of_msb_true b h]
    have hm : (4294967295#32) = BitVec.allOnes 32 := by decide
    rw [hm, BitVec.xor_allOnes]

/-- A word's key as a natural number, and its three digits. -/
def keyN (b : BitVec 32) : ℕ := (mono b).toNat
def d1 (b : BitVec 32) : ℕ := keyN b / 65536
def d2 (b : BitVec 32) : ℕ := keyN b / 256 % 256
def d3 (b : BitVec 32) : ℕ := keyN b % 256

theorem keyN_lt (b : BitVec 32) : keyN b < 2 ^ 32 := (mono b).isLt
theorem d1_lt (b : BitVec 32) : d1 b < 65536 := by unfold d1; have := keyN_lt b; omega
theorem d2_lt (b : BitVec 32) : d2 b < 256 := by unfold d2; omega
theorem d3_lt (b : BitVec 32) : d3 b < 256 := by unfold d3; omega
theorem keyN_digits (b : BitVec 32) : keyN b = d1 b * 65536 + d2 b * 256 + d3 b := by unfold d1 d2 d3; omega

theorem keyN_injective {a b : BitVec 32} (h : keyN a = keyN b) : a = b := by
  have := congrArg unmono (BitVec.eq_of_toNat_eq h)
  rwa [unmono_mono, unmono_mono] at this

/-! ## The 64-th largest -/

/-- `z` is the 64-th largest of the 16384 words `w`. -/
def IsKth (w : ℕ → BitVec 32) (z : BitVec 32) : Prop :=
  Nat.count (fun l => keyN z < keyN (w l)) 16384 < 64 ∧ 64 ≤ Nat.count (fun l => keyN z ≤ keyN (w l)) 16384

theorem count_mono {p q : ℕ → Prop} [DecidablePred p] [DecidablePred q] (h : ∀ l, p l → q l) (n : ℕ) : Nat.count p n ≤ Nat.count q n := by
  induction n with
  | zero => exact le_refl _
  | succ n ih =>
    rw [Nat.count_succ, Nat.count_succ]
    by_cases hp : p n
    · rw [if_pos hp, if_pos (h n hp)]; omega
    · rw [if_neg hp]; omega

theorem IsKth.unique {w : ℕ → BitVec 32} {a b : BitVec 32} (ha : IsKth w a) (hb : IsKth w b) : a = b := by
  apply keyN_injective
  rcases Nat.lt_trichotomy (keyN a) (keyN b) with h | h | h
  · have := count_mono (p := fun l => keyN b ≤ keyN (w l)) (q := fun l => keyN a < keyN (w l)) (fun l hl => by omega) 16384
    have := ha.1; have := hb.2; omega
  · exact h
  · have := count_mono (p := fun l => keyN a ≤ keyN (w l)) (q := fun l => keyN b < keyN (w l)) (fun l hl => by omega) 16384
    have := hb.1; have := ha.2; omega

/-- The 64-th largest of the words `w`. -/
noncomputable def kth (w : ℕ → BitVec 32) : BitVec 32 := Classical.epsilon (IsKth w)

theorem IsKth.eq_kth {w : ℕ → BitVec 32} {z : BitVec 32} (h : IsKth w z) : z = kth w :=
  h.unique (Classical.epsilon_spec (p := IsKth w) ⟨z, h⟩)

theorem count_congr_lt {p q : ℕ → Prop} [DecidablePred p] [DecidablePred q] (n : ℕ) (h : ∀ l < n, (p l ↔ q l)) : Nat.count p n = Nat.count q n := by
  induction n with
  | zero => rfl
  | succ n ih =>
    rw [Nat.count_succ, Nat.count_succ, ih (fun l hl => h l (by omega))]
    by_cases hp : p n
    · rw [if_pos hp, if_pos ((h n (by omega)).mp hp)]
    · rw [if_neg hp, if_neg (fun hq => hp ((h n (by omega)).mpr hq))]

theorem IsKth.congr {w w' : ℕ → BitVec 32} (h : ∀ l < 16384, w l = w' l) {z : BitVec 32} (hz : IsKth w z) : IsKth w' z := by
  unfold IsKth at *
  rw [count_congr_lt (p := fun l => keyN z < keyN (w' l)) (q := fun l => keyN z < keyN (w l)) 16384 (fun l hl => by rw [h l hl]),
    count_congr_lt (p := fun l => keyN z ≤ keyN (w' l)) (q := fun l => keyN z ≤ keyN (w l)) 16384 (fun l hl => by rw [h l hl])]
  exact hz

/-! ## The histograms, by counts from above -/

/-- The words whose first digit is at least `j`; of those with first digit `b1`, those whose second is; of those with
    first and second digits `b1` and `b2`, those whose third is. -/
def G1 (w : ℕ → BitVec 32) (j : ℕ) : ℕ := Nat.count (fun l => j ≤ d1 (w l)) 16384
def G2 (w : ℕ → BitVec 32) (b1 j : ℕ) : ℕ := Nat.count (fun l => d1 (w l) = b1 ∧ j ≤ d2 (w l)) 16384
def G3 (w : ℕ → BitVec 32) (b1 b2 j : ℕ) : ℕ := Nat.count (fun l => (d1 (w l) = b1 ∧ d2 (w l) = b2) ∧ j ≤ d3 (w l)) 16384

section Hist

variable (p : ℕ → Prop) [DecidablePred p] (d : ℕ → ℕ) (n : ℕ)

theorem hist_antitone : Antitone fun j => Nat.count (fun l => p l ∧ j ≤ d l) n :=
  fun _ _ hij => count_mono (fun _ h => ⟨h.1, le_trans hij h.2⟩) n

theorem hist_le (j : ℕ) : Nat.count (fun l => p l ∧ j ≤ d l) n ≤ n := Nat.count_le _

/-- A bin's count is the difference of the counts from above. -/
theorem hist_bin (j : ℕ) : Nat.count (fun l => p l ∧ d l = j) n
    = Nat.count (fun l => p l ∧ j ≤ d l) n - Nat.count (fun l => p l ∧ j + 1 ≤ d l) n := by
  have : Nat.count (fun l => p l ∧ j ≤ d l) n = Nat.count (fun l => p l ∧ d l = j) n + Nat.count (fun l => p l ∧ j + 1 ≤ d l) n := by
    induction n with
    | zero => rfl
    | succ n ih =>
      rw [Nat.count_succ, Nat.count_succ, Nat.count_succ, ih]
      by_cases hp : p n
      · by_cases h1 : d n = j
        · rw [if_pos ⟨hp, by omega⟩, if_pos ⟨hp, h1⟩, if_neg (fun h => by omega)]; omega
        · by_cases h2 : j + 1 ≤ d n
          · rw [if_pos ⟨hp, by omega⟩, if_neg (fun h => h1 h.2), if_pos ⟨hp, h2⟩]; omega
          · rw [if_neg (fun h => by omega), if_neg (fun h => h1 h.2), if_neg (fun h => h2 h.2)]; omega
      · rw [if_neg (fun h => hp h.1), if_neg (fun h => hp h.1), if_neg (fun h => hp h.1)]; omega
  omega

end Hist

theorem G1_eq (w : ℕ → BitVec 32) : G1 w = fun j => Nat.count (fun l => True ∧ j ≤ d1 (w l)) 16384 := by
  funext j; unfold G1; exact count_congr_lt _ fun l _ => by rw [true_and]

theorem G1_antitone (w : ℕ → BitVec 32) : Antitone (G1 w) := by rw [G1_eq]; exact hist_antitone _ _ _
theorem G2_antitone (w : ℕ → BitVec 32) (b1 : ℕ) : Antitone (G2 w b1) := hist_antitone (fun l => d1 (w l) = b1) _ _
theorem G3_antitone (w : ℕ → BitVec 32) (b1 b2 : ℕ) : Antitone (G3 w b1 b2) := hist_antitone (fun l => d1 (w l) = b1 ∧ d2 (w l) = b2) _ _
theorem G1_le (w : ℕ → BitVec 32) (j : ℕ) : G1 w j ≤ 16384 := Nat.count_le _
theorem G2_le (w : ℕ → BitVec 32) (b1 j : ℕ) : G2 w b1 j ≤ 16384 := Nat.count_le _
theorem G3_le (w : ℕ → BitVec 32) (b1 b2 j : ℕ) : G3 w b1 b2 j ≤ 16384 := Nat.count_le _

theorem bin1 (w : ℕ → BitVec 32) (j : ℕ) : Nat.count (fun l => d1 (w l) = j) 16384 = G1 w j - G1 w (j + 1) := by
  rw [G1_eq, ← hist_bin]; exact count_congr_lt _ fun l _ => by rw [true_and]
theorem bin2 (w : ℕ → BitVec 32) (b1 j : ℕ) : Nat.count (fun l => d1 (w l) = b1 ∧ d2 (w l) = j) 16384 = G2 w b1 j - G2 w b1 (j + 1) :=
  hist_bin (fun l => d1 (w l) = b1) _ _ j
theorem bin3 (w : ℕ → BitVec 32) (b1 b2 j : ℕ) : Nat.count (fun l => (d1 (w l) = b1 ∧ d2 (w l) = b2) ∧ d3 (w l) = j) 16384
    = G3 w b1 b2 j - G3 w b1 b2 (j + 1) :=
  hist_bin (fun l => d1 (w l) = b1 ∧ d2 (w l) = b2) _ _ j

theorem count_true (n : ℕ) (p : ℕ → Prop) [DecidablePred p] (h : ∀ l, p l) : Nat.count p n = n := by
  induction n with
  | zero => rfl
  | succ n ih => rw [Nat.count_succ, ih, if_pos (h n)]
theorem count_false (n : ℕ) (p : ℕ → Prop) [DecidablePred p] (h : ∀ l < n, ¬p l) : Nat.count p n = 0 := by
  induction n with
  | zero => rfl
  | succ n ih => rw [Nat.count_succ, ih (fun l hl => h l (by omega)), if_neg (h n (by omega))]

theorem G1_zero (w : ℕ → BitVec 32) : G1 w 0 = 16384 := count_true _ _ fun _ => Nat.zero_le _
theorem G1_top (w : ℕ → BitVec 32) (j : ℕ) (h : ∀ l < 16384, d1 (w l) < j) : G1 w j = 0 :=
  count_false _ _ fun l hl => by have := h l hl; omega
theorem G2_zero (w : ℕ → BitVec 32) (b1 : ℕ) : G2 w b1 0 = G1 w b1 - G1 w (b1 + 1) := by
  rw [← bin1]; exact count_congr_lt _ fun l _ => ⟨fun h => h.1, fun h => ⟨h, Nat.zero_le _⟩⟩
theorem G2_top (w : ℕ → BitVec 32) (b1 : ℕ) : G2 w b1 256 = 0 :=
  count_false _ _ fun l _ h => by have := d2_lt (w l); omega
theorem G3_zero (w : ℕ → BitVec 32) (b1 b2 : ℕ) : G3 w b1 b2 0 = G2 w b1 b2 - G2 w b1 (b2 + 1) := by
  rw [← bin2]; exact count_congr_lt _ fun l _ => ⟨fun h => h.1, fun h => ⟨h, Nat.zero_le _⟩⟩
theorem G3_top (w : ℕ → BitVec 32) (b1 b2 : ℕ) : G3 w b1 b2 256 = 0 :=
  count_false _ _ fun l _ h => by have := d3_lt (w l); omega

/-- Counts of three disjoint cases add. -/
theorem count_add3 {p a b c : ℕ → Prop} [DecidablePred p] [DecidablePred a] [DecidablePred b] [DecidablePred c] (n : ℕ)
    (h : ∀ l, (p l ↔ a l ∨ b l ∨ c l)) (hab : ∀ l, a l → ¬b l) (hac : ∀ l, a l → ¬c l) (hbc : ∀ l, b l → ¬c l) :
    Nat.count p n = Nat.count a n + Nat.count b n + Nat.count c n := by
  induction n with
  | zero => rfl
  | succ n ih =>
    rw [Nat.count_succ, Nat.count_succ, Nat.count_succ, Nat.count_succ, ih]
    by_cases ha : a n
    · rw [if_pos ((h n).mpr (.inl ha)), if_pos ha, if_neg (hab n ha), if_neg (hac n ha)]; omega
    · by_cases hb : b n
      · rw [if_pos ((h n).mpr (.inr (.inl hb))), if_neg ha, if_pos hb, if_neg (hbc n hb)]; omega
      · by_cases hc : c n
        · rw [if_pos ((h n).mpr (.inr (.inr hc))), if_neg ha, if_neg hb, if_pos hc]; omega
        · rw [if_neg (fun hp => by rcases (h n).mp hp with h | h | h <;> contradiction), if_neg ha, if_neg hb, if_neg hc]; omega

/-- The selection by digits. -/
theorem isKth_of_bins (w : ℕ → BitVec 32) {b1 b2 b3 : ℕ} (h2 : b2 < 256) (h3 : b3 < 256)
    (H1 : IsBin (G1 w) 64 b1) (H2 : IsBin (G2 w b1) (64 - G1 w (b1 + 1)) b2)
    (H3 : IsBin (G3 w b1 b2) (64 - G1 w (b1 + 1) - G2 w b1 (b2 + 1)) b3)
    {z : BitVec 32} (hz : keyN z = b1 * 65536 + b2 * 256 + b3) : IsKth w z := by
  have e1 : Nat.count (fun l => keyN z < keyN (w l)) 16384 = G1 w (b1 + 1) + G2 w b1 (b2 + 1) + G3 w b1 b2 (b3 + 1) := by
    unfold G1 G2 G3
    refine count_add3 _ (fun l => ?_) (fun l _ => ?_) (fun l _ => ?_) (fun l _ => ?_)
    all_goals (have := keyN_digits (w l); have := d2_lt (w l); have := d3_lt (w l); omega)
  have e2 : Nat.count (fun l => keyN z ≤ keyN (w l)) 16384 = G1 w (b1 + 1) + G2 w b1 (b2 + 1) + G3 w b1 b2 b3 := by
    unfold G1 G2 G3
    refine count_add3 _ (fun l => ?_) (fun l _ => ?_) (fun l _ => ?_) (fun l _ => ?_)
    all_goals (have := keyN_digits (w l); have := d2_lt (w l); have := d3_lt (w l); omega)
  obtain ⟨h1a, h1b⟩ := H1
  obtain ⟨h2a, h2b⟩ := H2
  obtain ⟨h3a, h3b⟩ := H3
  exact ⟨by omega, by omega⟩

end Cert.Proof.Thresh
-- ==== Proof.Pays.lean ====
/-
  The kernel's payloads lane by lane: the digits of a lane's key (`pay35_eq`, `pay39_eq`, `pay40_eq`, `pay43_eq`), the
  masks of the second and the third histogram (`pay41_iff`, `pay44_iff`), and the lane of the result register that a row
  sets (`pay2_eq`, `pay45_eq`).
-/
module

public import proofs.«01_k».proof.Proof.Keys
public import proofs.«01_k».proof.Proof.Gen.Kernel.Skeleton

@[expose] public section

namespace Cert.Proof.Thresh

open Cert.Kernel Cert.Kernel.Gen
open Idealize.ShloMosaic

theorem select_ofBool {α : Type} (c : Bool) (a b : α) : Scalar.select (BitVec.ofBool c) a b = if c = true then a else b := by
  cases c <;> rfl

theorem pay38_eq (v : Vec Bits S16 .f32) (y : S16.Idx) : k0_pay38 (F := Bits) v y = mono (v y) :=
  select_ofBool ((v y : BitVec 32).ult 2147483648#32) _ _

theorem shr_eq (k : BitVec 32) (s n : ℕ) (hs : s < 32) (hn : n = 2 ^ s) : IntOp.shrui .vector k (BitVec.ofNat 32 s) = BitVec.ofNat 32 (k.toNat / n) := by
  have h : (BitVec.ofNat 32 s).toNat = s := toNat_small (by omega)
  unfold IntOp.shrui
  rw [if_pos (by rw [h]; exact hs)]
  apply BitVec.eq_of_toNat_eq
  have hk := k.isLt
  have : k.toNat / n ≤ k.toNat := Nat.div_le_self _ _
  rw [toNat_small (by omega), BitVec.ushiftRight_eq', BitVec.toNat_ushiftRight, h, Nat.shiftRight_eq_div_pow, hn]

theorem and_low_eq (n s m : ℕ) (hm : m = 2 ^ s - 1) (hs : s ≤ 32) : IntOp.andi (BitVec.ofNat 32 n) (BitVec.ofNat 32 m) = BitVec.ofNat 32 (n % 2 ^ s) := by
  unfold IntOp.andi
  apply BitVec.eq_of_toNat_eq
  have h32 : 2 ^ s ≤ 2 ^ 32 := Nat.pow_le_pow_right (by decide) hs
  have hp : 0 < 2 ^ s := Nat.two_pow_pos s
  have hlt := Nat.mod_lt n hp
  rw [BitVec.toNat_and, toNat_small (a := n % 2 ^ s) (by omega), toNat_small (a := m) (by omega), hm, Nat.and_two_pow_sub_one_eq_mod,
    BitVec.toNat_ofNat, Nat.mod_mod_of_dvd _ (Nat.pow_dvd_pow 2 hs)]

theorem pay39_eq (v : Vec Bits S16 .f32) (y : S16.Idx) : k0_pay39 (F := Bits) v y = BitVec.ofNat 32 (d1 (v y)) := by
  show IntOp.shrui .vector (k0_pay38 (F := Bits) v y) (BitVec.ofNat 32 16) = _
  rw [pay38_eq, shr_eq _ 16 65536 (by decide) (by decide)]; rfl

theorem pay35_eq (v : Vec Bits S16 .f32) (y : S16.Idx) : k0_pay35 (F := Bits) v y = BitVec.ofNat 32 (d1 (v y)) := pay39_eq v y

theorem pay40_eq (v : Vec Bits S16 .f32) (y : S16.Idx) : k0_pay40 (F := Bits) v y = BitVec.ofNat 32 (d2 (v y)) := by
  show IntOp.andi (IntOp.shrui .vector (k0_pay38 (F := Bits) v y) (BitVec.ofNat 32 8)) (BitVec.ofNat 32 255) = _
  rw [pay38_eq, shr_eq _ 8 256 (by decide) (by decide), and_low_eq _ 8 255 (by decide) (by decide)]; rfl

theorem pay43_eq (v : Vec Bits S16 .f32) (y : S16.Idx) : k0_pay43 (F := Bits) v y = BitVec.ofNat 32 (d3 (v y)) := by
  show IntOp.andi (k0_pay38 (F := Bits) v y) (BitVec.ofNat 32 255) = _
  rw [pay38_eq]
  have : mono (v y) = BitVec.ofNat 32 (keyN (v y)) := BitVec.eq_of_toNat_eq (toNat_small (keyN_lt (v y))).symm
  rw [this, and_low_eq _ 8 255 (by decide) (by decide)]; rfl

theorem cmpi_eq_iff (a b : BitVec 32) : IntOp.cmpi .eq a b = 1 ↔ a = b := by
  unfold IntOp.cmpi
  rw [ofBool_eq_one]
  exact beq_iff_eq

theorem pay41_iff (b1 : ℕ) (hb : b1 < 2 ^ 32) (v : Vec Bits S16 .f32) (y : S16.Idx) :
    k0_pay41 (BitVec.ofNat 32 b1) (k0_pay39 (F := Bits) v) y = 1 ↔ d1 (v y) = b1 := by
  show IntOp.cmpi .eq (k0_pay39 (F := Bits) v y) (BitVec.ofNat 32 b1) = 1 ↔ _
  rw [cmpi_eq_iff, pay39_eq]
  have := d1_lt (v y)
  exact ⟨fun h => ofNat_inj (by omega) hb h, fun h => by rw [h]⟩

theorem and_bit_iff : ∀ a b : BitVec 1, IntOp.andi a b = 1 ↔ a = 1 ∧ b = 1 := by decide

theorem pay44_iff (b1 b2 : ℕ) (hb : b1 < 2 ^ 32) (hb2 : b2 < 2 ^ 32) (v : Vec Bits S16 .f32) (y : S16.Idx) :
    k0_pay44 (F := Bits) (BitVec.ofNat 32 b1) (BitVec.ofNat 32 b2) v y = 1 ↔ d1 (v y) = b1 ∧ d2 (v y) = b2 := by
  show IntOp.andi (k0_pay41 (BitVec.ofNat 32 b1) (k0_pay39 (F := Bits) v) y) (IntOp.cmpi .eq (k0_pay40 (F := Bits) v y) (BitVec.ofNat 32 b2)) = 1 ↔ _
  rw [and_bit_iff, pay41_iff b1 hb, cmpi_eq_iff, pay40_eq]
  have := d2_lt (v y)
  exact and_congr_right fun _ => ⟨fun h => ofNat_inj (by omega) hb2 h, fun h => by rw [h]⟩

/-! ## The word a row's digits make -/

/-- The key whose digits are `b1`, `b2` and `b3`, as the kernel makes it. -/
theorem join_toNat {b1 b2 b3 : ℕ} (h1 : b1 < 65536) (h2 : b2 < 256) (h3 : b3 < 256) :
    (IntOp.ori (IntOp.ori (IntOp.shli .vector (BitVec.ofNat 32 b1) 16#32) (IntOp.shli .vector (BitVec.ofNat 32 b2) 8#32)) (BitVec.ofNat 32 b3)).toNat
      = b1 * 65536 + b2 * 256 + b3 := by
  have e1 : IntOp.shli .vector (BitVec.ofNat 32 b1) 16#32 = BitVec.ofNat 32 (b1 <<< 16) := by
    unfold IntOp.shli
    rw [if_pos (by decide)]
    apply BitVec.eq_of_toNat_eq
    rw [BitVec.shiftLeft_eq', BitVec.toNat_shiftLeft, toNat_small (by omega), BitVec.toNat_ofNat]; rfl
  have e2 : IntOp.shli .vector (BitVec.ofNat 32 b2) 8#32 = BitVec.ofNat 32 (b2 <<< 8) := by
    unfold IntOp.shli
    rw [if_pos (by decide)]
    apply BitVec.eq_of_toNat_eq
    rw [BitVec.shiftLeft_eq', BitVec.toNat_shiftLeft, toNat_small (by omega), BitVec.toNat_ofNat]; rfl
  rw [e1, e2]
  unfold IntOp.ori
  have s1 : b1 <<< 16 = b1 * 65536 := Nat.shiftLeft_eq _ _
  have s2 : b2 <<< 8 = b2 * 256 := Nat.shiftLeft_eq _ _
  rw [BitVec.toNat_or, BitVec.toNat_or, toNat_small (a := b1 <<< 16) (by omega), toNat_small (a := b2 <<< 8) (by omega), toNat_small (a := b3) (by omega)]
  have o1 : b1 <<< 16 ||| b2 <<< 8 = (b1 * 256 + b2) <<< 8 := by
    have : b1 <<< 16 = (b1 <<< 8) <<< 8 := by rw [← Nat.shiftLeft_add]
    rw [this, ← Nat.shiftLeft_or_distrib, ← Nat.shiftLeft_add_eq_or_of_lt (i := 8) (by omega), Nat.shiftLeft_eq, Nat.shiftLeft_eq, Nat.shiftLeft_eq]
  rw [o1, ← Nat.shiftLeft_add_eq_or_of_lt (i := 8) (by omega), Nat.shiftLeft_eq]
  omega

/-- The kernel's key of the row. -/
noncomputable abbrev joinW (B1 B2 B3 : BitVec 32) : BitVec 32 :=
  IntOp.ori (IntOp.ori (IntOp.shli .vector B1 16#32) (IntOp.shli .vector B2 8#32)) B3

theorem keyN_unmono (k : BitVec 32) : keyN (unmono k) = k.toNat := by unfold keyN; rw [mono_unmono]

theorem unmono_eq (k : BitVec 32) : Scalar.select (IntOp.cmpi .uge k 2147483648#32) (IntOp.xori k 2147483648#32) (IntOp.xori k 4294967295#32) = unmono k :=
  select_ofBool ((2147483648#32).ule k) _ _

theorem and15_eq (n : ℕ) : Scalar.andi (BitVec.ofNat 32 n) 15#32 = BitVec.ofNat 32 (n % 16) := and_low_eq n 4 15 (by decide) (by decide)

/-- A row's word, put into its lane of the result register. -/
theorem pay45_eq (v3 : IVec S16 32) (hv3 : ∀ y, v3 y = BitVec.ofNat 32 (y 0).val) (acc : FVec Bits S16 .f32) (n : ℕ) (B1 B2 B3 : BitVec 32) (y : S16.Idx) :
    k0_pay45 (F := Bits) v3 acc (BitVec.ofNat 32 n) B1 B2 B3 y = if (y 0).val = n % 16 then unmono (joinW B1 B2 B3) else acc y := by
  show Scalar.select (IntOp.cmpi .eq (v3 y) (Scalar.andi (BitVec.ofNat 32 n) 15#32))
    (Scalar.select (IntOp.cmpi .uge (joinW B1 B2 B3) 2147483648#32) (IntOp.xori (joinW B1 B2 B3) 2147483648#32) (IntOp.xori (joinW B1 B2 B3) 4294967295#32)) (acc y) = _
  rw [unmono_eq, and15_eq, hv3]
  have hy : (y 0).val < 16 := (y 0).isLt
  have : IntOp.cmpi .eq (BitVec.ofNat 32 (y 0).val) (BitVec.ofNat 32 (n % 16)) = 1 ↔ (y 0).val = n % 16 := by
    rw [cmpi_eq_iff]; exact ⟨fun h => ofNat_inj (by omega) (by omega) h, fun h => by rw [h]⟩
  unfold Scalar.select
  by_cases h : (y 0).val = n % 16
  · rw [if_pos h, if_pos (this.mpr h)]
  · rw [if_neg h, if_neg (fun h' => h (this.mp h'))]

theorem pay2_eq (v3 : IVec S16 32) (acc : FVec Bits S16 .f32) (V B1 B2 B3 : BitVec 32) :
    k0_pay2 (F := Bits) v3 acc V (k0_pay56 B1 B2 B3) = k0_pay45 (F := Bits) v3 acc V B1 B2 B3 := rfl

end Cert.Proof.Thresh
-- ==== Proof.Hist.lean ====
/-
  The passes over a row's words that fill the histograms. `wp_t3` counts the first digits and keeps the lanes' greatest;
  `wp_t6` clears those bins again while it counts the second digits of the words in the chosen bin; `wp_t8` counts the
  third digits. A histogram's element is, after `t` trips, the count over the first `16 t` words. The statements are over
  any memrefs of the shapes, so each serves both rows of a pair.
-/
module

public import proofs.«01_k».proof.Proof.Setup
public import proofs.«01_k».proof.Proof.Pays

@[expose] public section

noncomputable section

namespace Cert.Proof.Thresh

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

/-- The tile of coordinates `i` on device `d`. -/
abbrev thrOf (d : Dev nD) (i : grid0.Coords) : Thread nD τ := ⟨d, .scVector ((i 0).castLE hcore0) ((i 1).castLE hsub0)⟩

/-! ## Counts, sixteen words at a time -/

theorem count_step (p : ℕ → Prop) [DecidablePred p] (t : ℕ) :
    Nat.count p (16 * (t + 1)) = Nat.count p (16 * t) + Nat.count (fun k => p (16 * t + k)) 16 := by
  rw [Nat.mul_add, Nat.mul_one, Nat.count_add]

theorem ofNat_count_step (p : ℕ → Prop) [DecidablePred p] (t : ℕ) :
    BitVec.ofNat 32 (Nat.count p (16 * (t + 1))) = BitVec.ofNat 32 (Nat.count p (16 * t)) + BitVec.ofNat 32 (Nat.count (fun k => p (16 * t + k)) 16) := by
  rw [count_step, BitVec.ofNat_add]

/-- The lanes' greatest first digits over the first `t` trips: `acc` holds bounds of them, below 65536. -/
def MaxInv (w : ℕ → BitVec 32) (t : ℕ) (acc : IVec S16 32) : Prop :=
  ∃ m : ℕ → ℕ, (∀ k, m k < 65536) ∧ (∀ y, acc y = BitVec.ofNat 32 (m (y 0).val)) ∧ ∀ k, k < 16 → ∀ t', t' < t → d1 (w (16 * t' + k)) ≤ m k

theorem maxInv_init (w : ℕ → BitVec 32) (acc : IVec S16 32) (h : ∀ y, acc y = 0#32) : MaxInv w 0 acc :=
  ⟨fun _ => 0, fun _ => (by decide : 0 < 65536), fun y => h y, fun k _ t' ht => absurd ht (Nat.not_lt_zero _)⟩

theorem maxInv_step {w : ℕ → BitVec 32} {t : ℕ} {acc : IVec S16 32} (h : MaxInv w t acc) (v : Vec Bits S16 .f32)
    (hv : ∀ y, v y = w (16 * t + (y 0).val)) : MaxInv w (t + 1) (k0_pay36 acc (k0_pay35 (F := Bits) v)) := by
  obtain ⟨m, h1, h2, h3⟩ := h
  refine ⟨fun k => max (m k) (d1 (w (16 * t + k))), fun k => ?_, fun y => ?_, fun k hk t' ht => ?_⟩
  · have := h1 k; have := d1_lt (w (16 * t + k)); show max (m k) (d1 (w (16 * t + k))) < 65536; omega
  · show IntOp.maxsi (acc y) (k0_pay35 (F := Bits) v y) = BitVec.ofNat 32 (max (m (y 0).val) (d1 (w (16 * t + (y 0).val))))
    rw [pay35_eq, h2, hv]
    unfold IntOp.maxsi
    have a1 := h1 (y 0).val
    have a2 := d1_lt (w (16 * t + (y 0).val))
    rw [slt_small (by omega) (by omega)]
    by_cases hlt : d1 (w (16 * t + (y 0).val)) < m (y 0).val
    · rw [if_pos (decide_eq_true hlt), Nat.max_eq_left (by omega)]
    · rw [if_neg (by rw [decide_eq_false hlt]; decide), Nat.max_eq_right (by omega)]
  · show d1 (w (16 * t' + k)) ≤ max (m k) (d1 (w (16 * t + k)))
    rcases Nat.lt_succ_iff_lt_or_eq.mp ht with h | h
    · have := h3 k hk t' h; omega
    · subst h; omega

/-- The greatest of the kept lanes bounds every word's first digit. -/
theorem maxInv_done {w : ℕ → BitVec 32} {acc : IVec S16 32} (h : MaxInv w 1024 acc) :
    ∃ M, M < 65536 ∧ extractAt ![15] (k0_pay37 acc) inpos_S16_p15 = BitVec.ofNat 32 M ∧ ∀ l, l < 16384 → d1 (w l) ≤ M := by
  obtain ⟨m, h1, h2, h3⟩ := h
  have hmax : ∀ n, ∃ k, k < n + 1 ∧ ∀ k', k' < n + 1 → m k' ≤ m k := fun n => by
    induction n with
    | zero => exact ⟨0, by omega, fun k' hk' => by have : k' = 0 := by omega
                                                   rw [this]⟩
    | succ n ih =>
      obtain ⟨k, hk, hle⟩ := ih
      by_cases hc : m k ≤ m (n + 1)
      · refine ⟨n + 1, by omega, fun k' hk' => ?_⟩
        rcases Nat.lt_succ_iff_lt_or_eq.mp hk' with h | h
        · exact le_trans (hle k' h) hc
        · rw [h]
      · refine ⟨k, by omega, fun k' hk' => ?_⟩
        rcases Nat.lt_succ_iff_lt_or_eq.mp hk' with h | h
        · exact hle k' h
        · rw [h]; omega
  obtain ⟨k, hk, hle⟩ := hmax 15
  refine ⟨m k, h1 k, lastMax_eq acc m (fun k => by have := h1 k; omega) h2 (m k) (fun k' hk' => hle k' hk') ⟨k, hk, rfl⟩ _, fun l hl => ?_⟩
  have := h3 (l % 16) (by omega) (l / 16) (by omega)
  rw [Nat.div_add_mod] at this
  exact le_trans this (hle _ (by omega))

/-- A tile's program. -/
abbrev WPt (d : Dev nD) (i : grid0.Coords) {α : Type} (p : Prog (TpuEff nD τ sig (Elt Bits) Λ₀ (thrOf d i).2) α) (Q : α → sProp 𝕄) : sProp 𝕄 :=
  wp frame (wpE (defs₀ (F := Bits)) 𝒱₀ (thrOf d i) none) Set.univ p Q

section Loops

variable (d : Dev nD) (i : grid0.Coords)
variable (arg2 : Memref sig .scVector .hbm S2048x16384 .f32) (harg2 : arg2.IsWhole) (arg3 : Memref sig .scVector .hbm S2048 .f32) (harg3 : arg3.IsWhole)
  (arg4 : Memref sig .scVector .vmem S16384 .f32) (harg4 : arg4.IsWhole) (arg5 : Memref sig .scVector .vmem S16384 .f32) (harg5 : arg5.IsWhole)
  (arg6 : Memref sig .scVector .vmem S65536 .i32) (harg6 : arg6.IsWhole) (arg7 : Memref sig .scVector .vmem S256 .i32) (harg7 : arg7.IsWhole)
  (arg8 : Memref sig .scVector .vmem S256 .i32) (harg8 : arg8.IsWhole) (arg9 : Memref sig .scVector .vmem S64 .f32) (harg9 : arg9.IsWhole)
  (arg10 : DmaSems sig S_) (arg11 : DmaSems sig S_) (v46_r0 : DmaSems sig S_)

/-- One trip of `wp_t3`. -/
theorem t3_trip (w : ℕ → BitVec 32) (v2 : BitVec 32) (v3 v4 v5 : IVec S16 32) (hv5 : ∀ y, v5 y = 1#32) (c1 c2 : BitVec 32) (t2 : Fin k0_t2_loop.trips)
    (t : Fin k0_t3_loop.trips) (acc : IVec S16 32) :
    iprop(⌜MaxInv w t.val acc⌝ ∗ Has1 (thrOf d i) arg4 w ∗ Has1 (thrOf d i) arg6 (fun j => BitVec.ofNat 32 (Nat.count (fun l => d1 (w l) = j) (16 * t.val))))
      ⊢ WPt d i (k0_t3_body (F := Bits) i arg2 harg2 arg3 harg3 arg4 harg4 arg5 harg5 arg6 harg6 arg7 harg7 arg8 harg8 arg9 harg9 arg10 arg11 v46_r0 v2 v3 v4 v5 c1 c2 t2 t acc)
        (fun acc' => iprop(⌜MaxInv w (t.val + 1) acc'⌝ ∗ Has1 (thrOf d i) arg4 w
          ∗ Has1 (thrOf d i) arg6 (fun j => BitVec.ofNat 32 (Nat.count (fun l => d1 (w l) = j) (16 * (t.val + 1)))))) := by
  unfold k0_t3_body
  simp only [Prog.lift, Prog.bind_op, Prog.bind_ret, Prog.pure_eq_ret]
  iintro ⟨%hm, H4, H6⟩
  iapply has1_load $$ H4
  iintro H4
  have hoff : k0_off5 t 0 = 16 * t.val := by rw [k0_off5_eq]; rfl
  rw [hoff]
  generalize hv : (fun y : S16.Idx => w (16 * t.val + (y 0).val)) = v
  have hv' : ∀ y, v y = w (16 * t.val + (y 0).val) := fun y => by rw [← hv]
  have hidx : ∀ y : S16.Idx, (k0_pay35 (F := Bits) v y).toNat = d1 (w (16 * t.val + (y 0).val)) := fun y => by
    rw [pay35_eq, hv', toNat_small]; have := d1_lt (w (16 * t.val + (y 0).val)); omega
  have hchk : k0_chk1 (k0_pay35 (F := Bits) v) := by
    intro a x
    rw [Fin.eq_zero a]
    show (k0_pay35 (F := Bits) v x).toNat < 65536
    rw [hidx]; exact d1_lt _
  rw [wp_assume_of _ _ _ _ hchk]
  iapply (has1_scatter (fun j => BitVec.ofNat 32 (Nat.count (fun l => d1 (w l) = j) (16 * (t.val + 1)))) (fun j => ?_)) $$ H6
  · refine (storeIdx_ones _ ![k0_pay35 (F := Bits) v] v5 _ _ (fun k => d1 (w (16 * t.val + k))) (fun _ => True) hv5 hidx
      (fun _ => ⟨fun _ => trivial, fun _ => rfl⟩) j).trans ?_
    rw [ofNat_count_step]
    congr 2
    exact count_congr_lt _ fun k _ => iff_of_eq (true_and _)
  · iintro H6
    rw [wp_ret]; imodintro
    isplitr
    · ipureintro
      exact maxInv_step hm v hv'
    isplitl [H4]; · iexact H4
    iexact H6

/-- The first pass over a row: at its end every word is counted, and the lanes' greatest are kept. -/
theorem wp_t3 {β : Type} (w : ℕ → BitVec 32) (v2 : BitVec 32) (v3 v4 v5 : IVec S16 32) (hv4 : ∀ y, v4 y = 0#32) (hv5 : ∀ y, v5 y = 1#32) (c1 c2 : BitVec 32)
    (t2 : Fin k0_t2_loop.trips) (kk : IVec S16 32 → Prog (TpuEff nD τ sig (Elt Bits) Λ₀ (thrOf d i).2) β) (Q : β → sProp 𝕄) :
    iprop(Has1 (thrOf d i) arg4 w ∗ Has1 (thrOf d i) arg6 (fun _ => 0#32))
      ⊢ iprop((∀ acc, ⌜MaxInv w 1024 acc⌝ -∗ Has1 (thrOf d i) arg4 w
            -∗ Has1 (thrOf d i) arg6 (fun j => BitVec.ofNat 32 (Nat.count (fun l => d1 (w l) = j) 16384)) -∗ WPt d i (kk acc) Q)
        -∗ WPt d i (Scf.Loop.for k0_t3_loop k0_t3_ok v4
            (k0_t3_body (F := Bits) i arg2 harg2 arg3 harg3 arg4 harg4 arg5 harg5 arg6 harg6 arg7 harg7 arg8 harg8 arg9 harg9 arg10 arg11 v46_r0 v2 v3 v4 v5 c1 c2 t2) >>= kk) Q) := by
  iintro ⟨H4, H6⟩ Hk
  iapply (Scf.wp_for_bind frame (wpE (defs₀ (F := Bits)) 𝒱₀ (thrOf d i) none) Set.univ _ _ _ k0_t3_ok v4 _
    (fun t acc => iprop(⌜MaxInv w t acc⌝ ∗ Has1 (thrOf d i) arg4 w ∗ Has1 (thrOf d i) arg6 (fun j => BitVec.ofNat 32 (Nat.count (fun l => d1 (w l) = j) (16 * t)))))
    (fun t acc => t3_trip d i arg2 harg2 arg3 harg3 arg4 harg4 arg5 harg5 arg6 harg6 arg7 harg7 arg8 harg8 arg9 harg9 arg10 arg11 v46_r0 w v2 v3 v4 v5 hv5 c1 c2 t2 t acc)) $$ [H4 H6]
  · isplitr; · ipureintro; exact maxInv_init w v4 hv4
    isplitl [H4]; · iexact H4
    iexact H6
  · iintro %acc ⟨%hm, H4, H6⟩
    have ht : Scf.trips k0_t3_loop.lb k0_t3_loop.ub k0_t3_loop.st = 1024 := by decide
    rw [ht] at hm ⊢
    iapply Hk $$ %acc %hm H4 H6

/-- One trip of `wp_t8`. -/
theorem t8_trip (w : ℕ → BitVec 32) (v3 v4 v5 : IVec S16 32) (hv5 : ∀ y, v5 y = 1#32) (b1 b2 : ℕ) (hb1 : b1 < 65536) (hb2 : b2 < 256) (v75 c1 c2 : BitVec 32)
    (t : Fin k0_t8_loop.trips) (u : Unit) :
    iprop(Has1 (thrOf d i) arg4 w ∗ Has1 (thrOf d i) arg8 (fun j => BitVec.ofNat 32 (Nat.count (fun l => (d1 (w l) = b1 ∧ d2 (w l) = b2) ∧ d3 (w l) = j) (16 * t.val))))
      ⊢ WPt d i (k0_t8_body (F := Bits) i arg2 harg2 arg3 harg3 arg4 harg4 arg5 harg5 arg6 harg6 arg7 harg7 arg8 harg8 arg9 harg9 arg10 arg11 v46_r0 v3 v4 v5 (BitVec.ofNat 32 b1) v75 c1 c2 (BitVec.ofNat 32 b2) t u)
        (fun _ => iprop(Has1 (thrOf d i) arg4 w
          ∗ Has1 (thrOf d i) arg8 (fun j => BitVec.ofNat 32 (Nat.count (fun l => (d1 (w l) = b1 ∧ d2 (w l) = b2) ∧ d3 (w l) = j) (16 * (t.val + 1)))))) := by
  unfold k0_t8_body
  simp only [Prog.lift, Prog.bind_op, Prog.bind_ret, Prog.pure_eq_ret]
  iintro ⟨H4, H8⟩
  iapply has1_load $$ H4
  iintro H4
  have hoff : k0_off10 t 0 = 16 * t.val := by rw [k0_off10_eq]; rfl
  rw [hoff]
  generalize hv : (fun y : S16.Idx => w (16 * t.val + (y 0).val)) = v
  have hv' : ∀ y, v y = w (16 * t.val + (y 0).val) := fun y => by rw [← hv]
  have hidx : ∀ y : S16.Idx, (k0_pay43 (F := Bits) v y).toNat = d3 (w (16 * t.val + (y 0).val)) := fun y => by
    rw [pay43_eq, hv', toNat_small]; have := d3_lt (w (16 * t.val + (y 0).val)); omega
  have hchk : k0_chk8 (k0_pay43 (F := Bits) v) := by
    intro a x
    rw [Fin.eq_zero a]
    show (k0_pay43 (F := Bits) v x).toNat < 256
    rw [hidx]; exact d3_lt _
  rw [wp_assume_of _ _ _ _ hchk]
  iapply (has1_scatter (fun j => BitVec.ofNat 32 (Nat.count (fun l => (d1 (w l) = b1 ∧ d2 (w l) = b2) ∧ d3 (w l) = j) (16 * (t.val + 1)))) (fun j => ?_)) $$ H8
  · refine (storeIdx_ones _ ![k0_pay43 (F := Bits) v] v5 _ _ (fun k => d3 (w (16 * t.val + k)))
      (fun k => d1 (w (16 * t.val + k)) = b1 ∧ d2 (w (16 * t.val + k)) = b2) hv5 hidx
      (fun y => by rw [pay44_iff b1 b2 (by omega) (by omega), hv']) j).trans ?_
    rw [ofNat_count_step]
  · iintro H8
    rw [wp_ret]; imodintro
    isplitl [H4]; · iexact H4
    iexact H8

/-- The third pass over a row: at its end the words of the chosen first and second digits are counted by the third. -/
theorem wp_t8 {β : Type} (w : ℕ → BitVec 32) (v3 v4 v5 : IVec S16 32) (hv5 : ∀ y, v5 y = 1#32) (b1 b2 : ℕ) (hb1 : b1 < 65536) (hb2 : b2 < 256)
    (v75 c1 c2 : BitVec 32) (kk : Unit → Prog (TpuEff nD τ sig (Elt Bits) Λ₀ (thrOf d i).2) β) (Q : β → sProp 𝕄) :
    iprop(Has1 (thrOf d i) arg4 w ∗ Has1 (thrOf d i) arg8 (fun _ => 0#32))
      ⊢ iprop((Has1 (thrOf d i) arg4 w
            -∗ Has1 (thrOf d i) arg8 (fun j => BitVec.ofNat 32 (G3 w b1 b2 j - G3 w b1 b2 (j + 1))) -∗ WPt d i (kk ⟨⟩) Q)
        -∗ WPt d i (Scf.Loop.for k0_t8_loop k0_t8_ok ⟨⟩
            (k0_t8_body (F := Bits) i arg2 harg2 arg3 harg3 arg4 harg4 arg5 harg5 arg6 harg6 arg7 harg7 arg8 harg8 arg9 harg9 arg10 arg11 v46_r0 v3 v4 v5 (BitVec.ofNat 32 b1) v75 c1 c2 (BitVec.ofNat 32 b2)) >>= kk) Q) := by
  iintro ⟨H4, H8⟩ Hk
  iapply (Scf.wp_for_bind frame (wpE (defs₀ (F := Bits)) 𝒱₀ (thrOf d i) none) Set.univ _ _ _ k0_t8_ok ⟨⟩ _
    (fun t _ => iprop(Has1 (thrOf d i) arg4 w
      ∗ Has1 (thrOf d i) arg8 (fun j => BitVec.ofNat 32 (Nat.count (fun l => (d1 (w l) = b1 ∧ d2 (w l) = b2) ∧ d3 (w l) = j) (16 * t)))))
    (fun t u => t8_trip d i arg2 harg2 arg3 harg3 arg4 harg4 arg5 harg5 arg6 harg6 arg7 harg7 arg8 harg8 arg9 harg9 arg10 arg11 v46_r0 w v3 v4 v5 hv5 b1 b2 hb1 hb2 v75 c1 c2 t u)) $$ [H4 H8]
  · isplitl [H4]; · iexact H4
    iexact H8
  · iintro %u ⟨H4, H8⟩
    have ht : 16 * Scf.trips k0_t8_loop.lb k0_t8_loop.ub k0_t8_loop.st = 16384 := by decide
    simp only [ht, bin3]
    iapply Hk $$ H4 H8

/-- One trip of `wp_t6`. -/
theorem t6_trip (w : ℕ → BitVec 32) (v3 v4 v5 : IVec S16 32) (hv4 : ∀ y, v4 y = 0#32) (hv5 : ∀ y, v5 y = 1#32) (b1 : ℕ) (hb1 : b1 < 65536) (v75 c1 c2 : BitVec 32)
    (h : ℕ → BitVec 32) (t : Fin k0_t6_loop.trips) (u : Unit) :
    iprop(Has1 (thrOf d i) arg4 w ∗ Has1 (thrOf d i) arg6 (fun j => if Nat.count (fun l => d1 (w l) = j) (16 * t.val) = 0 then h j else 0#32)
        ∗ Has1 (thrOf d i) arg7 (fun j => BitVec.ofNat 32 (Nat.count (fun l => d1 (w l) = b1 ∧ d2 (w l) = j) (16 * t.val))))
      ⊢ WPt d i (k0_t6_body (F := Bits) i arg2 harg2 arg3 harg3 arg4 harg4 arg5 harg5 arg6 harg6 arg7 harg7 arg8 harg8 arg9 harg9 arg10 arg11 v46_r0 v3 v4 v5 (BitVec.ofNat 32 b1) v75 c1 c2 t u)
        (fun _ => iprop(Has1 (thrOf d i) arg4 w
          ∗ Has1 (thrOf d i) arg6 (fun j => if Nat.count (fun l => d1 (w l) = j) (16 * (t.val + 1)) = 0 then h j else 0#32)
          ∗ Has1 (thrOf d i) arg7 (fun j => BitVec.ofNat 32 (Nat.count (fun l => d1 (w l) = b1 ∧ d2 (w l) = j) (16 * (t.val + 1)))))) := by
  unfold k0_t6_body
  simp only [Prog.lift, Prog.bind_op, Prog.bind_ret, Prog.pure_eq_ret]
  iintro ⟨H4, H6, H7⟩
  iapply has1_load $$ H4
  iintro H4
  have hoff : k0_off8 t 0 = 16 * t.val := by rw [k0_off8_eq]; rfl
  rw [hoff]
  generalize hv : (fun y : S16.Idx => w (16 * t.val + (y 0).val)) = v
  have hv' : ∀ y, v y = w (16 * t.val + (y 0).val) := fun y => by rw [← hv]
  have hidx : ∀ y : S16.Idx, (k0_pay39 (F := Bits) v y).toNat = d1 (w (16 * t.val + (y 0).val)) := fun y => by
    rw [pay39_eq, hv', toNat_small]; have := d1_lt (w (16 * t.val + (y 0).val)); omega
  have hidx2 : ∀ y : S16.Idx, (k0_pay40 (F := Bits) v y).toNat = d2 (w (16 * t.val + (y 0).val)) := fun y => by
    rw [pay40_eq, hv', toNat_small]; have := d2_lt (w (16 * t.val + (y 0).val)); omega
  have hchk : k0_chk5 (k0_pay39 (F := Bits) v) := by
    intro a x
    rw [Fin.eq_zero a]
    show (k0_pay39 (F := Bits) v x).toNat < 65536
    rw [hidx]; exact d1_lt _
  have hchk2 : k0_chk6 (k0_pay40 (F := Bits) v) := by
    intro a x
    rw [Fin.eq_zero a]
    show (k0_pay40 (F := Bits) v x).toNat < 256
    rw [hidx2]; exact d2_lt _
  rw [wp_assume_of _ _ _ _ hchk]
  iapply (has1_scatter (fun j => if Nat.count (fun l => d1 (w l) = j) (16 * (t.val + 1)) = 0 then h j else 0#32) (fun j => ?_)) $$ H6
  · refine (storeIdx_zeros _ ![k0_pay39 (F := Bits) v] v4 _ _ (fun k => d1 (w (16 * t.val + k))) hv4 hidx (fun _ => rfl) j).trans ?_
    show (if _ then (if _ then _ else _) else _) = if _ then _ else _
    rw [count_step]
    by_cases h1 : Nat.count (fun k => d1 (w (16 * t.val + k)) = (j 0).val) 16 = 0
    · rw [if_pos h1, h1, Nat.add_zero]
    · rw [if_neg h1, if_neg (by omega)]
  · iintro H6
    rw [wp_assume_of _ _ _ _ hchk2]
    iapply (has1_scatter (fun j => BitVec.ofNat 32 (Nat.count (fun l => d1 (w l) = b1 ∧ d2 (w l) = j) (16 * (t.val + 1)))) (fun j => ?_)) $$ H7
    · refine (storeIdx_ones _ ![k0_pay40 (F := Bits) v] v5 _ _ (fun k => d2 (w (16 * t.val + k)))
        (fun k => d1 (w (16 * t.val + k)) = b1) hv5 hidx2 (fun y => by rw [pay41_iff b1 (by omega), hv']) j).trans ?_
      rw [ofNat_count_step]
    · iintro H7
      rw [wp_ret]; imodintro
      isplitl [H4]; · iexact H4
      isplitl [H6]; · iexact H6
      iexact H7

/-- The second pass over a row: at its end the first histogram is clear again, and the words of the chosen first digit
    are counted by the second. -/
theorem wp_t6 {β : Type} (w : ℕ → BitVec 32) (v3 v4 v5 : IVec S16 32) (hv4 : ∀ y, v4 y = 0#32) (hv5 : ∀ y, v5 y = 1#32) (b1 : ℕ) (hb1 : b1 < 65536)
    (v75 c1 c2 : BitVec 32) (kk : Unit → Prog (TpuEff nD τ sig (Elt Bits) Λ₀ (thrOf d i).2) β) (Q : β → sProp 𝕄) :
    iprop(Has1 (thrOf d i) arg4 w ∗ Has1 (thrOf d i) arg6 (fun j => BitVec.ofNat 32 (Nat.count (fun l => d1 (w l) = j) 16384)) ∗ Has1 (thrOf d i) arg7 (fun _ => 0#32))
      ⊢ iprop((Has1 (thrOf d i) arg4 w -∗ Has1 (thrOf d i) arg6 (fun _ => 0#32)
            -∗ Has1 (thrOf d i) arg7 (fun j => BitVec.ofNat 32 (G2 w b1 j - G2 w b1 (j + 1))) -∗ WPt d i (kk ⟨⟩) Q)
        -∗ WPt d i (Scf.Loop.for k0_t6_loop k0_t6_ok ⟨⟩
            (k0_t6_body (F := Bits) i arg2 harg2 arg3 harg3 arg4 harg4 arg5 harg5 arg6 harg6 arg7 harg7 arg8 harg8 arg9 harg9 arg10 arg11 v46_r0 v3 v4 v5 (BitVec.ofNat 32 b1) v75 c1 c2) >>= kk) Q) := by
  iintro ⟨H4, H6, H7⟩ Hk
  iapply (Scf.wp_for_bind frame (wpE (defs₀ (F := Bits)) 𝒱₀ (thrOf d i) none) Set.univ _ _ _ k0_t6_ok ⟨⟩ _
    (fun t _ => iprop(Has1 (thrOf d i) arg4 w
      ∗ Has1 (thrOf d i) arg6 (fun j => if Nat.count (fun l => d1 (w l) = j) (16 * t) = 0 then BitVec.ofNat 32 (Nat.count (fun l => d1 (w l) = j) 16384) else 0#32)
      ∗ Has1 (thrOf d i) arg7 (fun j => BitVec.ofNat 32 (Nat.count (fun l => d1 (w l) = b1 ∧ d2 (w l) = j) (16 * t)))))
    (fun t u => t6_trip d i arg2 harg2 arg3 harg3 arg4 harg4 arg5 harg5 arg6 harg6 arg7 harg7 arg8 harg8 arg9 harg9 arg10 arg11 v46_r0 w v3 v4 v5 hv4 hv5 b1 hb1 v75 c1 c2 _ t u)) $$ [H4 H6 H7]
  · isplitl [H4]; · iexact H4
    isplitl [H6]; · iexact H6
    iexact H7
  · iintro %u ⟨H4, H6, H7⟩
    have ht : 16 * Scf.trips k0_t6_loop.lb k0_t6_loop.ub k0_t6_loop.st = 16384 := by decide
    have hz : ∀ j, (if Nat.count (fun l => d1 (w l) = j) 16384 = 0 then BitVec.ofNat 32 (Nat.count (fun l => d1 (w l) = j) 16384) else 0#32) = 0#32 := fun j => by
      by_cases h : Nat.count (fun l => d1 (w l) = j) 16384 = 0
      · rw [if_pos h, h]
      · rw [if_neg h]
    simp only [ht, bin2, hz]
    iapply Hk $$ H4 H6 H7

/-! ## The second row's passes and scans are the first row's -/

theorem t10_eq (v2 : BitVec 32) (v3 v4 v5 : IVec S16 32) (v147 c1 c2 : BitVec 32) (t2 : Fin k0_t2_loop.trips) :
  k0_t10_body (F := Bits) i arg2 harg2 arg3 harg3 arg4 harg4 arg5 harg5 arg6 harg6 arg7 harg7 arg8 harg8 arg9 harg9 arg10 arg11 v46_r0 v3 v4 v5 v147
   = k0_t3_body (F := Bits) i arg2 harg2 arg3 harg3 arg5 harg5 arg4 harg4 arg6 harg6 arg7 harg7 arg8 harg8 arg9 harg9 arg10 arg11 v46_r0 v2 v3 v4 v5 c1 c2 t2 := rfl

theorem t13_eq (v3 v4 v5 : IVec S16 32) (v147 v165_2 v75 c1 c2 : BitVec 32) :
  k0_t13_body (F := Bits) i arg2 harg2 arg3 harg3 arg4 harg4 arg5 harg5 arg6 harg6 arg7 harg7 arg8 harg8 arg9 harg9 arg10 arg11 v46_r0 v3 v4 v5 v147 v165_2
   = k0_t6_body (F := Bits) i arg2 harg2 arg3 harg3 arg5 harg5 arg4 harg4 arg6 harg6 arg7 harg7 arg8 harg8 arg9 harg9 arg10 arg11 v46_r0 v3 v4 v5 v165_2 v75 c1 c2 := rfl

theorem t15_eq (v3 v4 v5 : IVec S16 32) (v165_2 v169_2 v170 c1 c2 v75 c3 c4 : BitVec 32) :
  k0_t15_body (F := Bits) i arg2 harg2 arg3 harg3 arg4 harg4 arg5 harg5 arg6 harg6 arg7 harg7 arg8 harg8 arg9 harg9 arg10 arg11 v46_r0 v3 v4 v5 v165_2 v169_2 v170 c1 c2
   = k0_t8_body (F := Bits) i arg2 harg2 arg3 harg3 arg5 harg5 arg4 harg4 arg6 harg6 arg7 harg7 arg8 harg8 arg9 harg9 arg10 arg11 v46_r0 v3 v4 v5 v165_2 v75 c3 c4 v169_2 := rfl

theorem t11_eq (v2 : BitVec 32) (v3 v4 v5 : IVec S16 32) (v147 v156 c1 c2 : BitVec 32) (h : k0_chk2 v156) (t2 : Fin k0_t2_loop.trips) :
  k0_t11_body (F := Bits) i arg2 harg2 arg3 harg3 arg4 harg4 arg5 harg5 arg6 harg6 arg7 harg7 arg8 harg8 arg9 harg9 arg10 arg11 v46_r0 v3 v4 v5 v147 v156 h
   = k0_t4_body (F := Bits) i arg2 harg2 arg3 harg3 arg5 harg5 arg4 harg4 arg6 harg6 arg7 harg7 arg8 harg8 arg9 harg9 arg10 arg11 v46_r0 v2 v3 v4 v5 c1 c2 t2 v156 h := rfl

theorem t14_eq (v3 v4 v5 : IVec S16 32) (v147 v166 v74_2 c1 c2 : BitVec 32) :
  k0_t14_body (F := Bits) i arg2 harg2 arg3 harg3 arg4 harg4 arg5 harg5 arg6 harg6 arg7 harg7 arg8 harg8 arg9 harg9 arg10 arg11 v46_r0 v3 v4 v5 v147 v166
   = k0_t7_body (F := Bits) i arg2 harg2 arg3 harg3 arg5 harg5 arg4 harg4 arg6 harg6 arg7 harg7 arg8 harg8 arg9 harg9 arg10 arg11 v46_r0 v3 v4 v5 v74_2 v166 c1 c2 := rfl

theorem t16_eq (v3 v4 v5 : IVec S16 32) (v165_2 v169_2 v170 c1 c2 v74_2 v75 c3 c4 : BitVec 32) :
  k0_t16_body (F := Bits) i arg2 harg2 arg3 harg3 arg4 harg4 arg5 harg5 arg6 harg6 arg7 harg7 arg8 harg8 arg9 harg9 arg10 arg11 v46_r0 v3 v4 v5 v165_2 v169_2 v170 c1 c2
   = k0_t9_body (F := Bits) i arg2 harg2 arg3 harg3 arg5 harg5 arg4 harg4 arg6 harg6 arg7 harg7 arg8 harg8 arg9 harg9 arg10 arg11 v46_r0 v3 v4 v5 v74_2 v75 c3 c4 v170 := rfl

end Loops

end Cert.Proof.Thresh
-- ==== Proof.Fetch.lean ====
/-
  A row's fetch: the copy that brings one row of the latents to a buffer of the tile, from its start (`fetch_start`) to
  its wait (`fetch_wait`). In between, the tile holds `Fetching`: the copy under way, which delivers the buffer holding
  the row, and the rest of the share of the latents that the copy reads by.
-/
module

public import proofs.«01_k».proof.Proof.Hist

@[expose] public section

noncomputable section

namespace Cert.Proof.Thresh

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

/-- What a tile owes, after waits of its own copies only. -/
def Owed (thr : Thread nD τ) (O : CellTallies nD τ sig (HIx 1)) (W : Waits sig (HIx 1)) : sProp 𝕄 :=
  iprop(∃ W', ⌜∀ p ∈ W', p ∈ W ∨ p.2 = none⌝ ∗ owes thr O W')

/-- One row of the latents, as a vector. -/
abbrev rowM (arg2 : Memref sig .scVector .hbm S2048x16384 .f32) (off : Fin 2 → ℕ) (inb : ∀ a, off a + S1x16384.size a ≤ S2048x16384.size a) :
    Memref sig .scVector .hbm S16384 .f32 :=
  (arg2.slice (Rect.unit (s := S2048x16384) off S1x16384.size inb) (fun _ => rfl)).squeeze S16384 squeezes_S1x16384_S16384

variable (d : Dev nD) (i : grid0.Coords) (arg2 : Memref sig .scVector .hbm S2048x16384 .f32)

theorem rowM_read (f : Buf (Elt Bits) (arg2.view.loc (thrOf d i))) (lat : ℕ → ℕ → BitVec 32)
    (hf : arg2.view.read (Elt Bits) f = fun j => lat (j 0).val (j 1).val) (r : ℕ)
    (off : Fin 2 → ℕ) (inb : ∀ a, off a + S1x16384.size a ≤ S2048x16384.size a) (hoff : off = ![r, 0]) :
    (rowM arg2 off inb).view.read (Elt Bits) f = fun y => lat r (y 0).val := by
  subst hoff
  funext y
  have h1 : (rowM arg2 ![r, 0] inb).view.read (Elt Bits) f y
      = arg2.view.read (Elt Bits) f ((Rect.unit (s := S2048x16384) ![r, 0] S1x16384.size inb).emb (Shape.reshapeEquiv squeezes_S1x16384_S16384.numel_eq y)) := rfl
  rw [h1, hf, Shape.reshapeEquiv_cons_one]
  show lat (r + 1 * 0) (0 + 1 * (y 0).val) = _
  rw [Nat.mul_zero, Nat.add_zero, Nat.zero_add, Nat.one_mul]

/-- Row `r` of the latents `f` on its way to the buffer `B`. -/
def Fetching (q : PosShare TreeShare) (f : Buf (Elt Bits) (arg2.view.loc (thrOf d i))) (lat : ℕ → ℕ → BitVec 32) (r : ℕ)
    (B : Memref sig .scVector .vmem S16384 .f32) (sem : DmaSem sig) : sProp 𝕄 :=
  iprop(∃ off inb, Transfers.Flight countersEmb (thrOf d i) (.dma sem) none B.view.dmaCredit
      iprop(Has1 (thrOf d i) B (lat r) ∗ (rowM arg2 off inb).view.loc (thrOf d i) ↦[(rowM arg2 off inb).view.set]{q} f)
    ∗ arg2.view.loc (thrOf d i) ↦[Finset.univ \ (rowM arg2 off inb).view.set]{q} f)

variable {d i arg2} {α : Type} {Q : α → sProp 𝕄} {q : PosShare TreeShare} {f : Buf (Elt Bits) (arg2.view.loc (thrOf d i))} {lat : ℕ → ℕ → BitVec 32}
  {B : Memref sig .scVector .vmem S16384 .f32} {sem : DmaSem sig}

theorem fetch_start (hf : arg2.view.read (Elt Bits) f = fun j => lat (j 0).val (j 1).val) (r : ℕ) {w : ℕ → BitVec 32}
    {off : Fin 2 → ℕ} {inb : ∀ a, off a + S1x16384.size a ≤ S2048x16384.size a} (hoff : off = ![r, 0])
    {h1 : (rowM arg2 off inb).view.WordExact} {h2 : (DmaTarget.here B : DmaTarget nD τ sig (thrOf d i).2 .vmem S16384 .f32).view.WordExact} {h3 : (DmaTarget.here B : DmaTarget nD τ sig (thrOf d i).2 .vmem S16384 .f32).Typed .hbm (.dma sem)}
    {k : PUnit → Prog (TpuEff nD τ sig (Elt Bits) Λ₀ (thrOf d i).2) α} :
    iprop((arg2.view.loc (thrOf d i) ↦{q} f) ∗ Has1 (thrOf d i) B w ∗ semVal (thrOf d i, .dma sem) 0)
      ⊢ iprop((Fetching d i arg2 q f lat r B sem -∗ WPt d i (k ⟨⟩) Q)
        -∗ WPt d i (.op (.enqueueDma (rowM arg2 off inb) (.here B) (.dma sem) h1 h2 h3) k) Q) := by
  iintro ⟨Hf, HB, Hs⟩ Hk
  unfold Has1
  icases HB with ⟨%g, %hg, HB⟩
  ihave Hf' := (pointsTo_split_subset (q := q) (f := f) (S := Finset.univ) (Finset.subset_univ (rowM arg2 off inb).view.set)).1 $$ Hf
  icases Hf' with ⟨Hrow, Hrest⟩
  iapply (Transfers.wp_dmaLocal countersEmb 𝒱₀ (thrOf d i) none (src := rowM arg2 off inb) (via := .same) (dst := B) none B.view.dmaCredit rfl
    (B.view.dmaCredit_pos (by decide)) (Finset.subset_univ _)) $$ [Hrow HB Hs]
  · isplitl [Hrow]; · iexact Hrow
    isplitl [HB]; · iexact HB
    iexact Hs
  iintro Hfl
  iapply Hk
  unfold Fetching
  iexists off, inb
  isplitl [Hfl]
  · iapply (Transfers.Flight_mono countersEmb (thrOf d i) ?_) $$ Hfl
    iintro ⟨HB, Hrow⟩
    isplitl [HB]
    · unfold Has1
      iexists _
      isplitr
      rotate_left
      · iexact HB
      · ipureintro
        refine (View.read_write_univ _ _).trans ?_
        exact rowM_read d i arg2 f lat hf r off inb hoff
    iexact Hrow
  iexact Hrest

theorem fetch_wait {r : ℕ} {O : CellTallies nD τ sig (HIx 1)} {W : Waits sig (HIx 1)} (hO : ∀ g, O g none = 0)
    {srcw : Memref sig .scVector .hbm S16384 .f32} {h1 : srcw.view.WordExact} {h2 : B.view.WordExact}
    {k : PUnit → Prog (TpuEff nD τ sig (Elt Bits) Λ₀ (thrOf d i).2) α} :
    iprop(levAts K.L K.lev ∗ Fetching d i arg2 q f lat r B sem ∗ Owed (thrOf d i) O W)
      ⊢ iprop(((arg2.view.loc (thrOf d i) ↦{q} f) -∗ Has1 (thrOf d i) B (lat r) -∗ semVal (thrOf d i, .dma sem) 0 -∗ Owed (thrOf d i) O W -∗ WPt d i (k ⟨⟩) Q)
        -∗ WPt d i (.op (.waitDma2 sem srcw B h1 h2) k) Q) := by
  unfold Fetching Owed
  iintro ⟨Hlv, ⟨%off, %inb, Hfl, Hrest⟩, %W', %hW', HO⟩ Hk
  iapply (Transfers.wp_waitLocalO countersEmb 𝒱₀ (thrOf d i) none (dstw := B) none rfl) $$ [Hfl HO Hlv]
  · isplitl [Hfl]; · iexact Hfl
    isplitl [HO]; · iexact HO
    iapply (K.mayWait_none (SemLoc.dma sem) hO); iexact Hlv
  iintro ⟨⟨HB, Hrow⟩, Hs, HO⟩
  ihave Hf := (pointsTo_split_subset (q := q) (f := f) (S := Finset.univ) (Finset.subset_univ (rowM arg2 off inb).view.set)).2 $$ [Hrow Hrest]
  · isplitl [Hrow] <;> iassumption
  iapply Hk $$ Hf HB Hs
  iexists _
  isplitr
  rotate_left
  · iexact HO
  · ipureintro
    intro p hp
    rcases Finset.mem_insert.mp hp with hp | hp
    · exact .inr (hp ▸ rfl)
    · exact hW' p hp

end Cert.Proof.Thresh
-- ==== Proof.Sweep.lean ====
/-
  The scans of the histograms from the top. `wp_t4`, `wp_t7` and `wp_t9` walk the bins of a histogram downwards, sixteen
  at a time, and leave the bin in which the count from above reaches the number sought, with the count above that bin.
  The bins hold the differences of an antitone count `G`, so each statement is `ScanInv` of `G` along the loop.
-/
module

public import proofs.«01_k».proof.Proof.Hist

@[expose] public section

noncomputable section

namespace Cert.Proof.Thresh

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

/-- The contents of a histogram whose count from above is `G`. -/
abbrev binsOf (G : ℕ → ℕ) : ℕ → BitVec 32 := fun j => BitVec.ofNat 32 (G j - G (j + 1))

theorem off6_val {n : ℕ} (hn : n < 2 ^ 20) : k0_off6 (BitVec.ofNat 32 n) 0 = 16 * n := by
  show (BitVec.ofNat 32 n * BitVec.ofNat 32 16).toNat = _
  rw [← BitVec.ofNat_mul, toNat_small (by omega), Nat.mul_comm]

theorem cond1_iff (x : BitVec 32) : k0_cond1 x = 1#1 ↔ x = 0#32 := by
  show BitVec.ofBool ((BitVec.ofBool (x == 0#32)).setWidth 32 != 0#32) = 1#1 ↔ _
  by_cases h : x = 0#32
  · rw [h]; decide
  · rw [beq_eq_false_iff_ne.mpr h]
    exact ⟨fun hh => absurd hh (by decide), fun hh => absurd hh h⟩

/-- The trips of the first scan, from the vector holding bin `M` down to the first. -/
theorem t4_trips {M : ℕ} (hM : M < 65536) : (k0_t4_loop (BitVec.ofNat 32 M)).trips = M / 16 + 1 := by
  have hM' : (BitVec.ofNat 32 M).toInt = M := by
    rw [BitVec.toInt_eq_toNat_of_lt (by rw [toNat_small (by omega)]; omega), toNat_small (by omega)]
  have h_0 : Affine.IsInt 0#32 0 := Affine.ofNat _ (by omega)
  have h_1 : Affine.IsInt 1#32 1 := Affine.ofNat _ (by omega)
  have h_4 : Affine.IsInt 4#32 4 := Affine.ofNat _ (by omega)
  have h_M : Affine.IsInt (BitVec.ofNat 32 M) M := by rw [← hM']; exact Affine.word _
  have h_q : Affine.IsInt _ ((M : ℤ) / 16) := Affine.shrsi h_M h_4 4 16 (by omega) (by omega)
  have h_a : Affine.IsInt _ ((M : ℤ) / 16 + 1) := Affine.addi h_q h_1 (by omega)
  have h_b : Affine.IsInt _ ((M : ℤ) / 16 + 1) := Affine.subi h_a h_0 (by omega)
  have h_c : Affine.IsInt _ ((M : ℤ) / 16 + 1) := Affine.divsi_one h_b h_1 (by omega)
  have h_d : Affine.IsInt _ ((M : ℤ) / 16 + 1) := Affine.muli h_c h_1 (by omega)
  have h_e : Affine.IsInt _ ((M : ℤ) / 16 + 1) := Affine.addi h_0 h_d (by omega)
  exact Affine.trips_eq h_0 h_e h_1 _ (by omega)

section Loops

variable (d : Dev nD) (i : grid0.Coords)
variable (arg2 : Memref sig .scVector .hbm S2048x16384 .f32) (harg2 : arg2.IsWhole) (arg3 : Memref sig .scVector .hbm S2048 .f32) (harg3 : arg3.IsWhole)
  (arg4 : Memref sig .scVector .vmem S16384 .f32) (harg4 : arg4.IsWhole) (arg5 : Memref sig .scVector .vmem S16384 .f32) (harg5 : arg5.IsWhole)
  (arg6 : Memref sig .scVector .vmem S65536 .i32) (harg6 : arg6.IsWhole) (arg7 : Memref sig .scVector .vmem S256 .i32) (harg7 : arg7.IsWhole)
  (arg8 : Memref sig .scVector .vmem S256 .i32) (harg8 : arg8.IsWhole) (arg9 : Memref sig .scVector .vmem S64 .f32) (harg9 : arg9.IsWhole)
  (arg10 : DmaSems sig S_) (arg11 : DmaSems sig S_) (v46_r0 : DmaSems sig S_)

/-- One trip of `wp_t4`. -/
theorem t4_trip {G : ℕ → ℕ} (hG : Antitone G) (h0 : G 0 < 2 ^ 30) {M : ℕ} (hM : M < 65536) (v2 : BitVec 32) (v3 v4 v5 : IVec S16 32)
    (hv3 : ∀ y, v3 y = BitVec.ofNat 32 (y 0).val) (c1 c2 : BitVec 32) (t2 : Fin k0_t2_loop.trips) (hw : k0_chk2 (BitVec.ofNat 32 M))
    (t : Fin (k0_t4_loop (BitVec.ofNat 32 M)).trips) (a : ScanSt) :
    iprop(⌜ScanInv G 64 (M / 16) t.val a⌝ ∗ Has1 (thrOf d i) arg6 (binsOf G))
      ⊢ WPt d i (k0_t4_body (F := Bits) i arg2 harg2 arg3 harg3 arg4 harg4 arg5 harg5 arg6 harg6 arg7 harg7 arg8 harg8 arg9 harg9 arg10 arg11 v46_r0 v2 v3 v4 v5 c1 c2 t2 (BitVec.ofNat 32 M) hw t a)
        (fun a' => iprop(⌜ScanInv G 64 (M / 16) (t.val + 1) a'⌝ ∗ Has1 (thrOf d i) arg6 (binsOf G))) := by
  have ht : t.val ≤ M / 16 := by have h1 := t.isLt; have h2 := t4_trips hM; omega
  obtain ⟨c, vi, b, cg, done⟩ := a
  unfold k0_t4_body
  simp only [Prog.lift, Prog.bind_op, Prog.bind_ret, Prog.pure_eq_ret]
  iintro ⟨%hi, H6⟩
  have hchk : k0_chk3 vi done := by
    intro h1 a
    have e := scanInv_vec hi ((cond1_iff done).mp h1) ht
    simp only at e
    rw [Fin.eq_zero a, e, off6_val (by omega)]
    show 16 * (M / 16 - t.val) + 16 ≤ 65536
    omega
  iapply (wp_assume 𝒱₀ (thrOf d i) none Set.univ hchk)
  by_cases hd : k0_cond1 done = 1#1
  · have hdone := (cond1_iff done).mp hd
    have e := scanInv_vec hi hdone ht
    simp only at e
    rw [dif_pos hd]
    rw [k0_part1_eq_skeleton]
    unfold k0_part1_skel
    simp only [Prog.lift, Prog.bind_op, Prog.bind_ret, Prog.pure_eq_ret]
    iapply has1_load $$ H6
    iintro H6
    rw [wp_ret]; imodintro
    isplitr
    · ipureintro
      refine scanInv_next hG h0 (by decide) (by omega) hi hdone ht (v := fun y => binsOf G (k0_off6 vi 0 + (y 0).val)) (fun y => ?_) hv3
      rw [e, off6_val (by omega)]
    iexact H6
  · rw [dif_neg hd]
    simp only [Prog.bind_ret]
    rw [wp_ret]; imodintro
    isplitr
    · ipureintro
      exact scanInv_skip hi fun h => hd ((cond1_iff done).mpr h)
    iexact H6

/-- The first scan: it leaves the bin where the count from above reaches 64, and the count above it. -/
theorem wp_t4 {β : Type} {G : ℕ → ℕ} (hG : Antitone G) (h0 : G 0 < 2 ^ 30) (hk : 64 ≤ G 0) {M : ℕ} (hM : M < 65536) (hz : G (16 * (M / 16 + 1)) = 0)
    (v2 : BitVec 32) (v3 v4 v5 : IVec S16 32)
    (hv3 : ∀ y, v3 y = BitVec.ofNat 32 (y 0).val) (c1 c2 : BitVec 32) (t2 : Fin k0_t2_loop.trips) (hw : k0_chk2 (BitVec.ofNat 32 M)) (x : BitVec 32)
    (hx : x = BitVec.ofNat 32 (M / 16))
    (kk : ScanSt → Prog (TpuEff nD τ sig (Elt Bits) Λ₀ (thrOf d i).2) β) (Q : β → sProp 𝕄) :
    Has1 (thrOf d i) arg6 (binsOf G)
      ⊢ iprop((∀ a b, ⌜b < 65536 ∧ a.2.2.1 = BitVec.ofNat 32 b ∧ a.2.2.2.1 = BitVec.ofNat 32 (G (b + 1)) ∧ IsBin G 64 b⌝
            -∗ Has1 (thrOf d i) arg6 (binsOf G) -∗ WPt d i (kk a) Q)
        -∗ WPt d i (Scf.Loop.for (k0_t4_loop (BitVec.ofNat 32 M)) (k0_t4_ok (BitVec.ofNat 32 M) hw) (0#32, x, 0#32, 0#32, 0#32)
            (k0_t4_body (F := Bits) i arg2 harg2 arg3 harg3 arg4 harg4 arg5 harg5 arg6 harg6 arg7 harg7 arg8 harg8 arg9 harg9 arg10 arg11 v46_r0 v2 v3 v4 v5 c1 c2 t2 (BitVec.ofNat 32 M) hw) >>= kk) Q) := by
  subst hx
  iintro H6 Hk
  iapply (Scf.wp_for_bind frame (wpE (defs₀ (F := Bits)) 𝒱₀ (thrOf d i) none) Set.univ _ _ _ (k0_t4_ok (BitVec.ofNat 32 M) hw) _ _
    (fun t a => iprop(⌜ScanInv G 64 (M / 16) t a⌝ ∗ Has1 (thrOf d i) arg6 (binsOf G)))
    (fun t a => t4_trip d i arg2 harg2 arg3 harg3 arg4 harg4 arg5 harg5 arg6 harg6 arg7 harg7 arg8 harg8 arg9 harg9 arg10 arg11 v46_r0 hG h0 hM v2 v3 v4 v5 hv3 c1 c2 t2 hw t a)) $$ [H6]
  · isplitr
    · ipureintro; exact scanInv_init G 64 (M / 16) hz (by decide) _ _
    iexact H6
  · iintro %a ⟨%hi, H6⟩
    have hi' : ScanInv G 64 (M / 16) (M / 16 + 1) a := by
      rw [← t4_trips hM]; exact hi
    obtain ⟨b, hb, h1, h2, h3⟩ := scanInv_done hi' hk
    iapply Hk $$ %a %b [] H6
    ipureintro
    exact ⟨by omega, h1, h2, h3⟩

/-- The rest of the first scan makes no trip. -/
theorem wp_t5 {β : Type} (v2 : BitVec 32) (v3 v4 v5 : IVec S16 32) (c1 c2 : BitVec 32) (t2 : Fin k0_t2_loop.trips) (v65 : BitVec 32) (hw : k0_chk2 v65) (a : ScanSt)
    (kk : ScanSt → Prog (TpuEff nD τ sig (Elt Bits) Λ₀ (thrOf d i).2) β) (Q : β → sProp 𝕄) :
    WPt d i (kk a) Q ⊢ WPt d i (Scf.Loop.for (k0_t5_loop v65) (k0_t5_ok v65 hw) a
            (k0_t5_body (F := Bits) i arg2 harg2 arg3 harg3 arg4 harg4 arg5 harg5 arg6 harg6 arg7 harg7 arg8 harg8 arg9 harg9 arg10 arg11 v46_r0 v2 v3 v4 v5 c1 c2 t2 v65 hw) >>= kk) Q := by
  have h0 : (k0_t5_loop v65).trips = 0 := Nat.le_zero.mp (k0_t5_abs v65).2.1
  iintro Hk
  iapply (Scf.wp_for_bind frame (wpE (defs₀ (F := Bits)) 𝒱₀ (thrOf d i) none) Set.univ _ _ _ (k0_t5_ok v65 hw) a _
    (fun t a' => iprop(⌜a' = a⌝)) (fun t a' => absurd t.isLt (by show ¬ t.val < (k0_t5_loop v65).trips; rw [h0]; exact Nat.not_lt_zero _))) $$ []
  · ipureintro; rfl
  · iintro %a' %h
    subst h
    iexact Hk

/-- The rest of the second row's first scan makes no trip. -/
theorem wp_t12 {β : Type} (v3 v4 v5 : IVec S16 32) (v147 v156 : BitVec 32) (hw : k0_chk11 v156) (a : ScanSt)
    (kk : ScanSt → Prog (TpuEff nD τ sig (Elt Bits) Λ₀ (thrOf d i).2) β) (Q : β → sProp 𝕄) :
    WPt d i (kk a) Q ⊢ WPt d i (Scf.Loop.for (k0_t12_loop v156) (k0_t12_ok v156 hw) a
            (k0_t12_body (F := Bits) i arg2 harg2 arg3 harg3 arg4 harg4 arg5 harg5 arg6 harg6 arg7 harg7 arg8 harg8 arg9 harg9 arg10 arg11 v46_r0 v3 v4 v5 v147 v156 hw) >>= kk) Q := by
  have h0 : (k0_t12_loop v156).trips = 0 := Nat.le_zero.mp (k0_t12_abs v156).2.1
  iintro Hk
  iapply (Scf.wp_for_bind frame (wpE (defs₀ (F := Bits)) 𝒱₀ (thrOf d i) none) Set.univ _ _ _ (k0_t12_ok v156 hw) a _
    (fun t a' => iprop(⌜a' = a⌝)) (fun t a' => absurd t.isLt (by show ¬ t.val < (k0_t12_loop v156).trips; rw [h0]; exact Nat.not_lt_zero _))) $$ []
  · ipureintro; rfl
  · iintro %a' %h
    subst h
    iexact Hk

/-- One trip of `wp_t7`. -/
theorem t7_trip {G : ℕ → ℕ} (hG : Antitone G) (h0 : G 0 < 2 ^ 30) {q : ℕ} (hq : q < 2 ^ 30) (v3 v4 v5 : IVec S16 32)
    (hv3 : ∀ y, v3 y = BitVec.ofNat 32 (y 0).val) (v74_2 c1 c2 : BitVec 32) (t : Fin k0_t7_loop.trips) (a : ScanSt) :
    iprop(⌜ScanInv G q 15 t.val a⌝ ∗ Has1 (thrOf d i) arg7 (binsOf G))
      ⊢ WPt d i (k0_t7_body (F := Bits) i arg2 harg2 arg3 harg3 arg4 harg4 arg5 harg5 arg6 harg6 arg7 harg7 arg8 harg8 arg9 harg9 arg10 arg11 v46_r0 v3 v4 v5 v74_2 (BitVec.ofNat 32 q) c1 c2 t a)
        (fun a' => iprop(⌜ScanInv G q 15 (t.val + 1) a'⌝ ∗ Has1 (thrOf d i) arg7 (binsOf G))) := by
  have ht : t.val ≤ 15 := by have := t.isLt; have e : k0_t7_loop.trips = 16 := by decide
                             omega
  obtain ⟨c, vi, b, cg, done⟩ := a
  unfold k0_t7_body
  simp only [Prog.lift, Prog.bind_op, Prog.bind_ret, Prog.pure_eq_ret]
  iintro ⟨%hi, H⟩
  have hchk : k0_chk7 vi done := by
    intro h1 a
    have e := scanInv_vec hi ((cond1_iff done).mp h1) ht
    simp only at e
    rw [Fin.eq_zero a, e]
    show k0_off6 (BitVec.ofNat 32 (15 - t.val)) 0 + 16 ≤ 256
    rw [off6_val (by omega)]
    omega
  iapply (wp_assume 𝒱₀ (thrOf d i) none Set.univ hchk)
  by_cases hd : k0_cond3 done = 1#1
  · have hdone := (cond1_iff done).mp hd
    have e := scanInv_vec hi hdone ht
    simp only at e
    rw [dif_pos hd]
    rw [k0_part3_eq_skeleton]
    unfold k0_part3_skel
    simp only [Prog.lift, Prog.bind_op, Prog.bind_ret, Prog.pure_eq_ret]
    iapply has1_load $$ H
    iintro H
    rw [wp_ret]; imodintro
    isplitr
    · ipureintro
      refine scanInv_next hG h0 hq (by decide) hi hdone ht (v := fun y => binsOf G (k0_off6 vi 0 + (y 0).val)) (fun y => ?_) hv3
      rw [e, off6_val (by omega)]
    iexact H
  · rw [dif_neg hd]
    simp only [Prog.bind_ret]
    rw [wp_ret]; imodintro
    isplitr
    · ipureintro
      exact scanInv_skip hi fun h => hd ((cond1_iff done).mpr h)
    iexact H

/-- The second scan. -/
theorem wp_t7 {β : Type} {G : ℕ → ℕ} (hG : Antitone G) (h0 : G 0 < 2 ^ 30) (hz : G 256 = 0) {q : ℕ} (hq : q < 2 ^ 30) (hpos : 0 < q) (hk : q ≤ G 0) (v3 v4 v5 : IVec S16 32)
    (hv3 : ∀ y, v3 y = BitVec.ofNat 32 (y 0).val) (v74_2 c1 c2 v75 : BitVec 32) (hx : v75 = BitVec.ofNat 32 q)
    (kk : ScanSt → Prog (TpuEff nD τ sig (Elt Bits) Λ₀ (thrOf d i).2) β) (Q : β → sProp 𝕄) :
    Has1 (thrOf d i) arg7 (binsOf G)
      ⊢ iprop((∀ a b, ⌜b < 256 ∧ a.2.2.1 = BitVec.ofNat 32 b ∧ a.2.2.2.1 = BitVec.ofNat 32 (G (b + 1)) ∧ IsBin G q b⌝
            -∗ Has1 (thrOf d i) arg7 (binsOf G) -∗ WPt d i (kk a) Q)
        -∗ WPt d i (Scf.Loop.for k0_t7_loop k0_t7_ok (0#32, 15#32, 0#32, 0#32, 0#32)
            (k0_t7_body (F := Bits) i arg2 harg2 arg3 harg3 arg4 harg4 arg5 harg5 arg6 harg6 arg7 harg7 arg8 harg8 arg9 harg9 arg10 arg11 v46_r0 v3 v4 v5 v74_2 v75 c1 c2) >>= kk) Q) := by
  subst hx
  iintro H Hk
  iapply (Scf.wp_for_bind frame (wpE (defs₀ (F := Bits)) 𝒱₀ (thrOf d i) none) Set.univ _ _ _ k0_t7_ok _ _
    (fun t a => iprop(⌜ScanInv G q 15 t a⌝ ∗ Has1 (thrOf d i) arg7 (binsOf G)))
    (fun t a => t7_trip d i arg2 harg2 arg3 harg3 arg4 harg4 arg5 harg5 arg6 harg6 arg7 harg7 arg8 harg8 arg9 harg9 arg10 arg11 v46_r0 hG h0 hq v3 v4 v5 hv3 v74_2 c1 c2 t a)) $$ [H]
  · isplitr
    · ipureintro; exact scanInv_init G q 15 hz hpos _ _
    iexact H
  · iintro %a ⟨%hi, H⟩
    have hi' : ScanInv G q 15 (15 + 1) a := hi
    obtain ⟨b, hb, h1, h2, h3⟩ := scanInv_done hi' hk
    iapply Hk $$ %a %b [] H
    ipureintro
    exact ⟨by omega, h1, h2, h3⟩

/-- One trip of `wp_t9`. -/
theorem t9_trip {G : ℕ → ℕ} (hG : Antitone G) (h0 : G 0 < 2 ^ 30) {q : ℕ} (hq : q < 2 ^ 30) (v3 v4 v5 : IVec S16 32)
    (hv3 : ∀ y, v3 y = BitVec.ofNat 32 (y 0).val) (v74_2 v75 c1 c2 : BitVec 32) (t : Fin k0_t9_loop.trips) (a : ScanSt) :
    iprop(⌜ScanInv G q 15 t.val a⌝ ∗ Has1 (thrOf d i) arg8 (binsOf G))
      ⊢ WPt d i (k0_t9_body (F := Bits) i arg2 harg2 arg3 harg3 arg4 harg4 arg5 harg5 arg6 harg6 arg7 harg7 arg8 harg8 arg9 harg9 arg10 arg11 v46_r0 v3 v4 v5 v74_2 v75 c1 c2 (BitVec.ofNat 32 q) t a)
        (fun a' => iprop(⌜ScanInv G q 15 (t.val + 1) a'⌝ ∗ Has1 (thrOf d i) arg8 (binsOf G))) := by
  have ht : t.val ≤ 15 := by have := t.isLt; have e : k0_t9_loop.trips = 16 := by decide
                             omega
  obtain ⟨c, vi, b, cg, done⟩ := a
  unfold k0_t9_body
  simp only [Prog.lift, Prog.bind_op, Prog.bind_ret, Prog.pure_eq_ret]
  iintro ⟨%hi, H⟩
  have hchk : k0_chk9 vi done := by
    intro h1 a
    have e := scanInv_vec hi ((cond1_iff done).mp h1) ht
    simp only at e
    rw [Fin.eq_zero a, e]
    show k0_off6 (BitVec.ofNat 32 (15 - t.val)) 0 + 16 ≤ 256
    rw [off6_val (by omega)]
    omega
  iapply (wp_assume 𝒱₀ (thrOf d i) none Set.univ hchk)
  by_cases hd : k0_cond4 done = 1#1
  · have hdone := (cond1_iff done).mp hd
    have e := scanInv_vec hi hdone ht
    simp only at e
    rw [dif_pos hd]
    rw [k0_part4_eq_skeleton]
    unfold k0_part4_skel
    simp only [Prog.lift, Prog.bind_op, Prog.bind_ret, Prog.pure_eq_ret]
    iapply has1_load $$ H
    iintro H
    rw [wp_ret]; imodintro
    isplitr
    · ipureintro
      refine scanInv_next hG h0 hq (by decide) hi hdone ht (v := fun y => binsOf G (k0_off6 vi 0 + (y 0).val)) (fun y => ?_) hv3
      rw [e, off6_val (by omega)]
    iexact H
  · rw [dif_neg hd]
    simp only [Prog.bind_ret]
    rw [wp_ret]; imodintro
    isplitr
    · ipureintro
      exact scanInv_skip hi fun h => hd ((cond1_iff done).mpr h)
    iexact H

/-- The third scan. -/
theorem wp_t9 {β : Type} {G : ℕ → ℕ} (hG : Antitone G) (h0 : G 0 < 2 ^ 30) (hz : G 256 = 0) {q : ℕ} (hq : q < 2 ^ 30) (hpos : 0 < q) (hk : q ≤ G 0) (v3 v4 v5 : IVec S16 32)
    (hv3 : ∀ y, v3 y = BitVec.ofNat 32 (y 0).val) (v74_2 v75 c1 c2 v79 : BitVec 32) (hx : v79 = BitVec.ofNat 32 q)
    (kk : ScanSt → Prog (TpuEff nD τ sig (Elt Bits) Λ₀ (thrOf d i).2) β) (Q : β → sProp 𝕄) :
    Has1 (thrOf d i) arg8 (binsOf G)
      ⊢ iprop((∀ a b, ⌜b < 256 ∧ a.2.2.1 = BitVec.ofNat 32 b ∧ a.2.2.2.1 = BitVec.ofNat 32 (G (b + 1)) ∧ IsBin G q b⌝
            -∗ Has1 (thrOf d i) arg8 (binsOf G) -∗ WPt d i (kk a) Q)
        -∗ WPt d i (Scf.Loop.for k0_t9_loop k0_t9_ok (0#32, 15#32, 0#32, 0#32, 0#32)
            (k0_t9_body (F := Bits) i arg2 harg2 arg3 harg3 arg4 harg4 arg5 harg5 arg6 harg6 arg7 harg7 arg8 harg8 arg9 harg9 arg10 arg11 v46_r0 v3 v4 v5 v74_2 v75 c1 c2 v79) >>= kk) Q) := by
  subst hx
  iintro H Hk
  iapply (Scf.wp_for_bind frame (wpE (defs₀ (F := Bits)) 𝒱₀ (thrOf d i) none) Set.univ _ _ _ k0_t9_ok _ _
    (fun t a => iprop(⌜ScanInv G q 15 t a⌝ ∗ Has1 (thrOf d i) arg8 (binsOf G)))
    (fun t a => t9_trip d i arg2 harg2 arg3 harg3 arg4 harg4 arg5 harg5 arg6 harg6 arg7 harg7 arg8 harg8 arg9 harg9 arg10 arg11 v46_r0 hG h0 hq v3 v4 v5 hv3 v74_2 v75 c1 c2 t a)) $$ [H]
  · isplitr
    · ipureintro; exact scanInv_init G q 15 hz hpos _ _
    iexact H
  · iintro %a ⟨%hi, H⟩
    have hi' : ScanInv G q 15 (15 + 1) a := hi
    obtain ⟨b, hb, h1, h2, h3⟩ := scanInv_done hi' hk
    iapply Hk $$ %a %b [] H
    ipureintro
    exact ⟨by omega, h1, h2, h3⟩

end Loops

end Cert.Proof.Thresh
-- ==== Proof.Parts.lean ====
/-
  The parts of a tile's program, one lemma each: the clearing of the histograms before the rows (`wp_part16`,
  `wp_part17`), and of one trip, the first row's passes and scans (`wp_part9`, `wp_part10`), the second row's
  (`wp_part13`, `wp_part14`), and the clearing after each row (`wp_part11`, `wp_part15`).
-/
module

public import proofs.«01_k».proof.Proof.Fetch
public import proofs.«01_k».proof.Proof.Sweep

@[expose] public section

noncomputable section

namespace Cert.Proof.Thresh

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## Clearing a histogram, sixteen bins at a time -/

/-- The first `c` words of `B` are zero. -/
def Cleared (thr : Thread nD τ) (B : Memref sig thr.2.kind .vmem S256 .i32) (c : ℕ) : sProp 𝕄 :=
  iprop(∃ w : ℕ → BitVec 32, ⌜∀ n < c, w n = 0#32⌝ ∗ Has1 thr B w)

section Clear

variable {thr : Thread nD τ} {B : Memref sig thr.2.kind .vmem S256 .i32} {α : Type} {Q : α → sProp 𝕄}

theorem cleared_start {w : ℕ → BitVec 32} : Has1 thr B w ⊢ Cleared thr B 0 := by
  unfold Cleared
  iintro H
  iexists w
  isplitr
  · ipureintro; exact fun n hn => absurd hn (Nat.not_lt_zero _)
  iexact H

theorem cleared_all : Cleared thr B 256 ⊢ Has1 thr B (fun _ => 0#32) := by
  unfold Cleared
  iintro ⟨%w, %hw, H⟩
  iapply (Has1_congr (w := w) (w' := fun _ => 0#32) hw) $$ H

theorem cleared_load {c : ℕ} {off : Fin 1 → ℕ} {inb : ∀ a, off a + S16.size a ≤ S256.size a}
    {hl : B.view.LoadsAt (Rect.unit (s := S256) off S16.size inb).toLoadRect}
    {k : (S16.Idx → BitVec 32) → Prog (TpuEff nD τ sig (Elt Bits) Λ₀ thr.2) α} :
    Cleared thr B c ⊢ iprop((∀ v, Cleared thr B c -∗ wp frame (wpE (defs₀ (F := Bits)) 𝒱₀ thr none) Set.univ (k v) Q)
      -∗ wp frame (wpE (defs₀ (F := Bits)) 𝒱₀ thr none) Set.univ (.op (.load B (Rect.unit (s := S256) off S16.size inb).toLoadRect hl) k) Q) := by
  unfold Cleared
  iintro ⟨%w, %hw, H⟩ Hk
  iapply has1_load $$ H
  iintro H
  iapply Hk
  iexists w
  isplitr
  · ipureintro; exact hw
  iexact H

theorem cleared_store {c : ℕ} {inb : ∀ a, (![c] : Fin 1 → ℕ) a + S16.size a ≤ S256.size a} {v : S16.Idx → BitVec 32} (hv : ∀ y, v y = 0#32)
    {hx : (B.access (Rect.unit (s := S256) ![c] S16.size inb)).Stores Finset.univ}
    {hm : (Finset.univ : Finset (Rect.unit (s := S256) ![c] S16.size inb).shape.Idx) = Finset.univ
      ∨ ∀ a, (Rect.unit (s := S256) ![c] S16.size inb).stride a = 1}
    {k : PUnit → Prog (TpuEff nD τ sig (Elt Bits) Λ₀ thr.2) α} :
    Cleared thr B c ⊢ iprop((Cleared thr B (c + 16) -∗ wp frame (wpE (defs₀ (F := Bits)) 𝒱₀ thr none) Set.univ (k ⟨⟩) Q)
      -∗ wp frame (wpE (defs₀ (F := Bits)) 𝒱₀ thr none) Set.univ (.op (.store B (Rect.unit (s := S256) ![c] S16.size inb) v Finset.univ hx hm) k) Q) := by
  unfold Cleared
  iintro ⟨%w, %hw, H⟩ Hk
  iapply (has1_store (fun _ => 0#32) hv) $$ H
  iintro H
  iapply Hk
  iexists _
  isplitr
  rotate_left
  · iexact H
  · ipureintro
    intro n hn
    show (if c ≤ n ∧ n < c + 16 then 0#32 else w n) = 0#32
    by_cases h : c ≤ n ∧ n < c + 16
    · rw [if_pos h]
    · rw [if_neg h]; exact hw n (by omega)

end Clear

section Parts

variable (d : Dev nD) (i : grid0.Coords)
variable (arg2 : Memref sig .scVector .hbm S2048x16384 .f32) (harg2 : arg2.IsWhole) (arg3 : Memref sig .scVector .hbm S2048 .f32) (harg3 : arg3.IsWhole)
  (arg4 : Memref sig .scVector .vmem S16384 .f32) (harg4 : arg4.IsWhole) (arg5 : Memref sig .scVector .vmem S16384 .f32) (harg5 : arg5.IsWhole)
  (arg6 : Memref sig .scVector .vmem S65536 .i32) (harg6 : arg6.IsWhole) (arg7 : Memref sig .scVector .vmem S256 .i32) (harg7 : arg7.IsWhole)
  (arg8 : Memref sig .scVector .vmem S256 .i32) (harg8 : arg8.IsWhole) (arg9 : Memref sig .scVector .vmem S64 .f32) (harg9 : arg9.IsWhole)
  (arg10 : DmaSems sig S_) (arg11 : DmaSems sig S_) (v46_r0 : DmaSems sig S_)

/-! ## A row's first pass and scan -/

/-- What the first pass and scan of the row `w` find: the bin of the first digit, and how many of the 64 are left. -/
def Found1 (w : ℕ → BitVec 32) (B1 q : BitVec 32) : Prop :=
  ∃ b1, b1 < 65536 ∧ IsBin (G1 w) 64 b1 ∧ B1 = BitVec.ofNat 32 b1 ∧ q = BitVec.ofNat 32 (64 - G1 w (b1 + 1))

theorem sub_bin {G : ℕ → ℕ} {q b : ℕ} (h : IsBin G q b) {x y : BitVec 32} (hx : x = BitVec.ofNat 32 q) (hy : y = BitVec.ofNat 32 (G (b + 1))) :
    Scalar.subi x y = BitVec.ofNat 32 (q - G (b + 1)) := by
  rw [hx, hy]; exact ofNat_sub (le_of_lt h.1)

theorem start_eq {M : ℕ} (hM : M < 65536) : Scalar.shrsi (BitVec.ofNat 32 M) 4#32 = BitVec.ofNat 32 (M / 16) := by
  have hM' : (BitVec.ofNat 32 M).toInt = M := by
    rw [BitVec.toInt_eq_toNat_of_lt (by rw [toNat_small (by omega)]; omega), toNat_small (by omega)]
  have h_4 : Affine.IsInt 4#32 4 := Affine.ofNat _ (by omega)
  have h_M : Affine.IsInt (BitVec.ofNat 32 M) M := by rw [← hM']; exact Affine.word _
  have h_q : Affine.IsInt _ ((M : ℤ) / 16) := Affine.shrsi h_M h_4 4 16 (by omega) (by omega)
  have h_r : Affine.IsInt (BitVec.ofNat 32 (M / 16)) (((M / 16 : ℕ)) : ℤ) := Affine.ofNat _ (by omega)
  apply BitVec.eq_of_toInt_eq
  have e1 : (Scalar.shrsi (BitVec.ofNat 32 M) 4#32).toInt = (M : ℤ) / 16 := by unfold Affine.IsInt at h_q; exact h_q
  have e2 : (BitVec.ofNat 32 (M / 16)).toInt = ((M / 16 : ℕ) : ℤ) := by unfold Affine.IsInt at h_r; exact h_r
  rw [e1, e2]; omega

/-! ## The clearing before the rows -/

theorem zero_step {w : ℕ → BitVec 32} {m : ℕ} (hw : ∀ n < 16 * m, w n = 0#32) :
    ∀ n < 16 * (m + 1), (if 16 * m ≤ n ∧ n < 16 * m + 16 then 0#32 else w n) = 0#32 := fun n hn => by
  by_cases h : 16 * m ≤ n ∧ n < 16 * m + 16
  · rw [if_pos h]
  · rw [if_neg h]; exact hw n (by omega)

theorem pay57_eq (y : S16.Idx) : k0_pay57 y = 0#32 := rfl

theorem t1_trip (t : Fin k0_t1_loop.trips) (u : Unit) : iprop(∃ w : ℕ → BitVec 32, ⌜∀ n < 16 * t.val, w n = 0#32⌝ ∗ Has1 (thrOf d i) arg6 w)
      ⊢ WPt d i (k0_t1_body (F := Bits) i arg2 harg2 arg3 harg3 arg4 harg4 arg5 harg5 arg6 harg6 arg7 harg7 arg8 harg8 arg9 harg9 arg10 arg11 v46_r0 t u) (fun _ => iprop(∃ w : ℕ → BitVec 32, ⌜∀ n < 16 * (t.val + 1), w n = 0#32⌝ ∗ Has1 (thrOf d i) arg6 w)) := by
  unfold k0_t1_body
  simp only [Prog.lift, Prog.bind_op, Prog.bind_ret, Prog.pure_eq_ret]
  iintro ⟨%w, %hw, H⟩
  iapply has1_load $$ H
  iintro H
  iapply (has1_store (v := k0_pay57) (fun _ => 0#32) (fun y => pay57_eq y)) $$ H
  iintro H
  rw [wp_ret]
  imodintro
  iexists _
  isplitr
  rotate_left
  · iexact H
  · ipureintro
    have hoff : k0_off1 t 0 = 16 * t.val := by rw [k0_off1_eq]; rfl
    rw [hoff]
    exact zero_step hw

theorem wp_t1 {β : Type} (w : ℕ → BitVec 32) (kk : Unit → Prog (TpuEff nD τ sig (Elt Bits) Λ₀ (thrOf d i).2) β) (Q : β → sProp 𝕄) :
    Has1 (thrOf d i) arg6 w ⊢ iprop((Has1 (thrOf d i) arg6 (fun _ => 0#32) -∗ WPt d i (kk ⟨⟩) Q)
      -∗ WPt d i (Scf.Loop.for k0_t1_loop k0_t1_ok ⟨⟩ (k0_t1_body (F := Bits) i arg2 harg2 arg3 harg3 arg4 harg4 arg5 harg5 arg6 harg6 arg7 harg7 arg8 harg8 arg9 harg9 arg10 arg11 v46_r0) >>= kk) Q) := by
  iintro H Hk
  iapply (Scf.wp_for_bind frame (wpE (defs₀ (F := Bits)) 𝒱₀ (thrOf d i) none) Set.univ _ _ _ k0_t1_ok ⟨⟩ _
    (fun t _ => iprop(∃ w : ℕ → BitVec 32, ⌜∀ n < 16 * t, w n = 0#32⌝ ∗ Has1 (thrOf d i) arg6 w))
    (fun t u => t1_trip d i arg2 harg2 arg3 harg3 arg4 harg4 arg5 harg5 arg6 harg6 arg7 harg7 arg8 harg8 arg9 harg9 arg10 arg11 v46_r0 t u)) $$ [H]
  · iexists w
    isplitr
    · ipureintro; exact fun n hn => absurd hn (by omega)
    iexact H
  · iintro %u ⟨%w', %hw, H⟩
    have ht : 16 * Scf.trips k0_t1_loop.lb k0_t1_loop.ub k0_t1_loop.st = 65536 := by decide
    rw [ht] at hw
    iapply Hk
    iapply (Has1_congr (w := w') (w' := fun _ => 0#32) hw) $$ H

theorem wp_part16 {β : Type} (w6 w7 : ℕ → BitVec 32) (kk : (Σ' (v2 : BitVec 32) (v3 : IVec S16 32) (v4 : IVec S16 32), IVec S16 32) → Prog (TpuEff nD τ sig (Elt Bits) Λ₀ (thrOf d i).2) β) (Q : β → sProp 𝕄) :
    iprop(Has1 (thrOf d i) arg6 w6 ∗ Has1 (thrOf d i) arg7 w7)
      ⊢ iprop((∀ v2 v3 v4 v5, ⌜(∀ y, v3 y = BitVec.ofNat 32 (y 0).val) ∧ (∀ y, v4 y = 0#32) ∧ ∀ y, v5 y = 1#32⌝
            -∗ Has1 (thrOf d i) arg6 (fun _ => 0#32) -∗ Cleared (thrOf d i) arg7 224 -∗ WPt d i (kk ⟨v2, v3, v4, v5⟩) Q)
        -∗ WPt d i (k0_part16 (F := Bits) i arg2 harg2 arg3 harg3 arg4 harg4 arg5 harg5 arg6 harg6 arg7 harg7 arg8 harg8 arg9 harg9 arg10 arg11 v46_r0 >>= kk) Q) := by
  rw [k0_part16_eq_skeleton]
  unfold k0_part16_skel
  simp only [Prog.lift, Prog.bind_op, Prog.bind_ret, Prog.pure_eq_ret, Prog.bind_assoc]
  iintro ⟨H6, H7⟩ Hk
  iapply (wp_t1 d i arg2 harg2 arg3 harg3 arg4 harg4 arg5 harg5 arg6 harg6 arg7 harg7 arg8 harg8 arg9 harg9 arg10 arg11 v46_r0) $$ H6
  iintro H6
  ihave H7 := cleared_start $$ H7
  iterate 14 (iapply cleared_load $$ H7; iintro %v H7; iapply (cleared_store pay57_eq) $$ H7; iintro H7)
  iapply Hk $$ [] H6 H7
  ipureintro
  exact ⟨fun y => by show BitVec.ofNat 32 (0 * 16 + (y 0).val) = _; rw [Nat.zero_mul, Nat.zero_add], fun _ => rfl, fun _ => rfl⟩

theorem wp_part17 {β : Type} (v4 : IVec S16 32) (hv4 : ∀ y, v4 y = 0#32) (w8 : ℕ → BitVec 32) (kk : PUnit → Prog (TpuEff nD τ sig (Elt Bits) Λ₀ (thrOf d i).2) β) (Q : β → sProp 𝕄) :
    iprop(Cleared (thrOf d i) arg7 224 ∗ Has1 (thrOf d i) arg8 w8)
      ⊢ iprop((Has1 (thrOf d i) arg7 (fun _ => 0#32) -∗ Has1 (thrOf d i) arg8 (fun _ => 0#32) -∗ WPt d i (kk ⟨⟩) Q)
        -∗ WPt d i (k0_part17 (F := Bits) i arg2 harg2 arg3 harg3 arg4 harg4 arg5 harg5 arg6 harg6 arg7 harg7 arg8 harg8 arg9 harg9 arg10 arg11 v46_r0 v4 >>= kk) Q) := by
  rw [k0_part17_eq_skeleton]
  unfold k0_part17_skel
  simp only [Prog.lift, Prog.bind_op, Prog.bind_ret, Prog.pure_eq_ret]
  iintro ⟨H7, H8⟩ Hk
  ihave H8 := cleared_start $$ H8
  iterate 2 (iapply cleared_load $$ H7; iintro %v H7; iapply (cleared_store hv4) $$ H7; iintro H7)
  iterate 16 (iapply cleared_load $$ H8; iintro %v H8; iapply (cleared_store hv4) $$ H8; iintro H8)
  ihave H7 := cleared_all $$ H7
  ihave H8 := cleared_all $$ H8
  iapply Hk $$ H7 H8

end Parts

end Cert.Proof.Thresh
-- ==== Proof.Rows.lean ====
/-
  The parts of one trip of a tile's loop over pairs of rows: the first row's passes and scans (`wp_part9`, `wp_part10`),
  the second row's (`wp_part13`, `wp_part14`), and the clearing of the small histograms after each
  (`wp_part11`, `wp_part12`, `wp_part15`).
-/
module

public import proofs.«01_k».proof.Proof.Parts

@[expose] public section

noncomputable section

namespace Cert.Proof.Thresh

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

section Rows

variable (d : Dev nD) (i : grid0.Coords)
variable (arg2 : Memref sig .scVector .hbm S2048x16384 .f32) (harg2 : arg2.IsWhole) (arg3 : Memref sig .scVector .hbm S2048 .f32) (harg3 : arg3.IsWhole)
  (arg4 : Memref sig .scVector .vmem S16384 .f32) (harg4 : arg4.IsWhole) (arg5 : Memref sig .scVector .vmem S16384 .f32) (harg5 : arg5.IsWhole)
  (arg6 : Memref sig .scVector .vmem S65536 .i32) (harg6 : arg6.IsWhole) (arg7 : Memref sig .scVector .vmem S256 .i32) (harg7 : arg7.IsWhole)
  (arg8 : Memref sig .scVector .vmem S256 .i32) (harg8 : arg8.IsWhole) (arg9 : Memref sig .scVector .vmem S64 .f32) (harg9 : arg9.IsWhole)
  (arg10 : DmaSems sig S_) (arg11 : DmaSems sig S_) (v46_r0 : DmaSems sig S_)

/-- The first row of trip `t` of the loop. -/
abbrev rowOf (t : ℕ) : ℕ := 128 * (i 1).val + 64 * (i 0).val + 2 * t

theorem lit64 : 64#32 = BitVec.ofNat 32 64 := rfl

theorem lit64_le (w : ℕ → BitVec 32) : 64 ≤ G1 w 0 := by rw [G1_zero]; decide

theorem iv_eq (t : ℕ) : Scf.iv 0#32 1#32 t = BitVec.ofNat 32 t := by
  show 0#32 + BitVec.ofNat 32 t * 1#32 = _
  rw [BitVec.mul_one, BitVec.zero_add]

theorem twice_eq (t : ℕ) : Scalar.muli 2#32 (BitVec.ofNat 32 t) = BitVec.ofNat 32 (2 * t) := by
  show BitVec.ofNat 32 2 * BitVec.ofNat 32 t = _
  rw [← BitVec.ofNat_mul]

/-- The scan of a row's first histogram, from the vector of the greatest first digit. -/
theorem wp_scan1 {β : Type} (w : ℕ → BitVec 32) {x : BitVec 32} {M : ℕ} (hx : x = BitVec.ofNat 32 M) (hM : M < 65536) (hle : ∀ l, l < 16384 → d1 (w l) ≤ M)
    (v2 : BitVec 32) (v3 v4 v5 : IVec S16 32) (hv3 : ∀ y, v3 y = BitVec.ofNat 32 (y 0).val) (c1 c2 : BitVec 32) (t2 : Fin k0_t2_loop.trips) (hw : k0_chk2 x)
    (kk : ScanSt → Prog (TpuEff nD τ sig (Elt Bits) Λ₀ (thrOf d i).2) β) (Q : β → sProp 𝕄) :
    Has1 (thrOf d i) arg6 (binsOf (G1 w))
      ⊢ iprop((∀ a b, ⌜b < 65536 ∧ a.2.2.1 = BitVec.ofNat 32 b ∧ a.2.2.2.1 = BitVec.ofNat 32 (G1 w (b + 1)) ∧ IsBin (G1 w) 64 b⌝
            -∗ Has1 (thrOf d i) arg6 (binsOf (G1 w)) -∗ WPt d i (kk a) Q)
        -∗ WPt d i (Scf.Loop.for (k0_t4_loop x) (k0_t4_ok x hw) (0#32, Scalar.shrsi x 4#32, 0#32, 0#32, 0#32)
            (k0_t4_body (F := Bits) i arg2 harg2 arg3 harg3 arg4 harg4 arg5 harg5 arg6 harg6 arg7 harg7 arg8 harg8 arg9 harg9 arg10 arg11 v46_r0 v2 v3 v4 v5 c1 c2 t2 x hw) >>= kk) Q) := by
  subst hx
  have hz : G1 w (16 * (M / 16 + 1)) = 0 := G1_top _ _ fun l hl => by have := hle l hl; omega
  exact wp_t4 d i arg2 harg2 arg3 harg3 arg4 harg4 arg5 harg5 arg6 harg6 arg7 harg7 arg8 harg8 arg9 harg9 arg10 arg11 v46_r0 (G1_antitone w) (by have := G1_le w 0; omega) (lit64_le _) hM hz v2 v3 v4 v5 hv3 c1 c2 t2 hw _ (start_eq hM) kk Q

theorem wp_part9 {β : Type} {qa qb : PosShare TreeShare} {f : Buf (Elt Bits) (arg2.view.loc (thrOf d i))} {lat : ℕ → ℕ → BitVec 32}
    (hf : arg2.view.read (Elt Bits) f = fun j => lat (j 0).val (j 1).val)
    {O : CellTallies nD τ sig (HIx 1)} {W : Waits sig (HIx 1)} (hO : ∀ g, O g none = 0) (w5 : ℕ → BitVec 32)
    (v2 : BitVec 32) (v3 v4 v5 : IVec S16 32) (hv3 : ∀ y, v3 y = BitVec.ofNat 32 (y 0).val) (hv4 : ∀ y, v4 y = 0#32) (hv5 : ∀ y, v5 y = 1#32) (t2 : Fin k0_t2_loop.trips)
    (kk : (Σ' (_ : BitVec 32) (_ : BitVec 32) (_ : BitVec 32) (_ : BitVec 32) (_ : BitVec 32) (_ : BitVec 32), BitVec 32) → Prog (TpuEff nD τ sig (Elt Bits) Λ₀ (thrOf d i).2) β) (Q : β → sProp 𝕄) :
    iprop(levAts K.L K.lev ∗ (arg2.view.loc (thrOf d i) ↦{qb} f) ∗ Has1 (thrOf d i) arg5 w5 ∗ semVal ((thrOf d i), .dma arg11.sem) 0
        ∗ Fetching d i arg2 qa f lat (rowOf i t2.val) arg4 arg10.sem ∗ Owed (thrOf d i) O W ∗ Has1 (thrOf d i) arg6 (fun _ => 0#32))
      ⊢ iprop((∀ v47 B1 q, ⌜Found1 (lat (rowOf i t2.val)) B1 q⌝ -∗ Fetching d i arg2 qb f lat (rowOf i t2.val + 1) arg5 arg11.sem
            -∗ (arg2.view.loc (thrOf d i) ↦{qa} f) -∗ Has1 (thrOf d i) arg4 (lat (rowOf i t2.val)) -∗ semVal ((thrOf d i), .dma arg10.sem) 0 -∗ Owed (thrOf d i) O W
            -∗ Has1 (thrOf d i) arg6 (binsOf (G1 (lat (rowOf i t2.val))))
            -∗ WPt d i (kk ⟨BitVec.ofNat 32 t2.val, v47, BitVec.ofNat 32 (2 * t2.val), B1, q, 0#32, 1024#32⟩) Q)
        -∗ WPt d i (k0_part9 (F := Bits) i arg2 harg2 arg3 harg3 arg4 harg4 arg5 harg5 arg6 harg6 arg7 harg7 arg8 harg8 arg9 harg9 arg10 arg11 v46_r0 v2 v3 v4 v5 0#32 1#32 t2 >>= kk) Q) := by
  rw [k0_part9_eq_skeleton]
  unfold k0_part9_skel
  simp only [Prog.lift, Prog.bind_op, Prog.bind_ret, Prog.pure_eq_ret, Prog.bind_assoc, iv_eq, twice_eq]
  iintro ⟨Hlv, Hf, H5, Hs, Hfl, HO, H6⟩ Hk
  iapply (fetch_start hf (rowOf i t2.val + 1) (k0_off3_eq i t2)) $$ [Hf H5 Hs]
  · isplitl [Hf]; · iexact Hf
    isplitl [H5] <;> iassumption
  iintro Hfl5
  iapply (fetch_wait hO) $$ [Hlv Hfl HO]
  · isplitl [Hlv]; · iexact Hlv
    isplitl [Hfl] <;> iassumption
  iintro Hf H4 Hs HO
  iapply (wp_t3 d i arg2 harg2 arg3 harg3 arg4 harg4 arg5 harg5 arg6 harg6 arg7 harg7 arg8 harg8 arg9 harg9 arg10 arg11 v46_r0 (lat (rowOf i t2.val)) v2 v3 v4 v5 hv4 hv5 0#32 1#32 t2) $$ [H4 H6]
  · isplitl [H4] <;> iassumption
  iintro %acc %hacc H4 H6
  obtain ⟨M, hM, hx, hle⟩ := maxInv_done hacc
  simp only [bin1]
  iapply (wp_assume 𝒱₀ (thrOf d i) none Set.univ (k0_chk2_all _))
  iapply (wp_scan1 d i arg2 harg2 arg3 harg3 arg4 harg4 arg5 harg5 arg6 harg6 arg7 harg7 arg8 harg8 arg9 harg9 arg10 arg11 v46_r0 (lat (rowOf i t2.val)) hx hM hle v2 v3 v4 v5 hv3 0#32 1#32 t2 (k0_chk2_all _)) $$ H6
  iintro %a %b %hb H6
  obtain ⟨h1, h2, h3, h4⟩ := hb
  iapply (wp_t5 d i arg2 harg2 arg3 harg3 arg4 harg4 arg5 harg5 arg6 harg6 arg7 harg7 arg8 harg8 arg9 harg9 arg10 arg11 v46_r0)
  iapply Hk $$ [] Hfl5 Hf H4 Hs HO H6
  ipureintro
  exact ⟨b, h1, h4, h2, sub_bin h4 lit64 h3⟩

/-! ## A row's second and third pass and scan -/

/-- What the passes and scans over the row `w` find. -/
def Found2 (w : ℕ → BitVec 32) (B1 B2 q : BitVec 32) : Prop :=
  ∃ b1 b2, b1 < 65536 ∧ b2 < 256 ∧ IsBin (G1 w) 64 b1 ∧ IsBin (G2 w b1) (64 - G1 w (b1 + 1)) b2 ∧ B1 = BitVec.ofNat 32 b1 ∧ B2 = BitVec.ofNat 32 b2
    ∧ q = BitVec.ofNat 32 (64 - G1 w (b1 + 1) - G2 w b1 (b2 + 1))

/-- The three digits found are those of the 64-th largest word. -/
def Found3 (w : ℕ → BitVec 32) (B1 B2 B3 : BitVec 32) : Prop := unmono (joinW B1 B2 B3) = kth w

theorem found3_of {w : ℕ → BitVec 32} {b1 b2 b3 : ℕ} (h1 : b1 < 65536) (h2 : b2 < 256) (h3 : b3 < 256)
    (H1 : IsBin (G1 w) 64 b1) (H2 : IsBin (G2 w b1) (64 - G1 w (b1 + 1)) b2)
    (H3 : IsBin (G3 w b1 b2) (64 - G1 w (b1 + 1) - G2 w b1 (b2 + 1)) b3) :
    Found3 w (BitVec.ofNat 32 b1) (BitVec.ofNat 32 b2) (BitVec.ofNat 32 b3) :=
  (isKth_of_bins w h2 h3 H1 H2 H3 ((keyN_unmono _).trans (join_toNat h1 h2 h3))).eq_kth

theorem wp_part10 {β : Type} (w : ℕ → BitVec 32) (B1 q : BitVec 32) (hB : Found1 w B1 q)
    (v3 v4 v5 : IVec S16 32) (hv3 : ∀ y, v3 y = BitVec.ofNat 32 (y 0).val) (hv4 : ∀ y, v4 y = 0#32) (hv5 : ∀ y, v5 y = 1#32)
    (kk : (Σ' (_ : BitVec 32), BitVec 32) → Prog (TpuEff nD τ sig (Elt Bits) Λ₀ (thrOf d i).2) β) (Q : β → sProp 𝕄) :
    iprop(Has1 (thrOf d i) arg4 w ∗ Has1 (thrOf d i) arg6 (binsOf (G1 w)) ∗ Has1 (thrOf d i) arg7 (fun _ => 0#32) ∗ Has1 (thrOf d i) arg8 (fun _ => 0#32))
      ⊢ iprop((∀ B2 B3 w8, ⌜Found3 w B1 B2 B3⌝ -∗ Has1 (thrOf d i) arg4 w -∗ Has1 (thrOf d i) arg6 (fun _ => 0#32) -∗ Cleared (thrOf d i) arg7 144 -∗ Has1 (thrOf d i) arg8 w8
            -∗ WPt d i (kk ⟨B2, B3⟩) Q)
        -∗ WPt d i (k0_part10 (F := Bits) i arg2 harg2 arg3 harg3 arg4 harg4 arg5 harg5 arg6 harg6 arg7 harg7 arg8 harg8 arg9 harg9 arg10 arg11 v46_r0 v3 v4 v5 B1 q 0#32 1024#32 >>= kk) Q) := by
  obtain ⟨b1, hb1, H1, rfl, hq⟩ := hB
  rw [k0_part10_eq_skeleton]
  unfold k0_part10_skel
  simp only [Prog.lift, Prog.bind_op, Prog.bind_ret, Prog.pure_eq_ret, Prog.bind_assoc]
  iintro ⟨H4, H6, H7, H8⟩ Hk
  iapply (wp_t6 d i arg2 harg2 arg3 harg3 arg4 harg4 arg5 harg5 arg6 harg6 arg7 harg7 arg8 harg8 arg9 harg9 arg10 arg11 v46_r0 w v3 v4 v5 hv4 hv5 b1 hb1 q 0#32 1024#32) $$ [H4 H6 H7]
  · simp only [bin1]
    isplitl [H4]; · iexact H4
    isplitl [H6] <;> iassumption
  iintro H4 H6 H7
  have l1 := G1_le w 0
  have hk2 : 64 - G1 w (b1 + 1) ≤ G2 w b1 0 := by rw [G2_zero]; have := H1.2; omega
  iapply (wp_t7 d i arg2 harg2 arg3 harg3 arg4 harg4 arg5 harg5 arg6 harg6 arg7 harg7 arg8 harg8 arg9 harg9 arg10 arg11 v46_r0 (G2_antitone w b1) (by have := G2_le w b1 0; omega) (G2_top w b1) (q := 64 - G1 w (b1 + 1)) (by omega) (by have := H1.1; omega) hk2 v3 v4 v5 hv3 _ 0#32 1024#32 q hq) $$ H7
  iintro %a2 %b2 %hb2 H7
  obtain ⟨hb2, e2, e2', H2⟩ := hb2
  have hq3 := sub_bin H2 hq e2'
  rw [e2]
  iapply (wp_t8 d i arg2 harg2 arg3 harg3 arg4 harg4 arg5 harg5 arg6 harg6 arg7 harg7 arg8 harg8 arg9 harg9 arg10 arg11 v46_r0 w v3 v4 v5 hv5 b1 b2 (by omega) (by omega) q 0#32 1024#32) $$ [H4 H8]
  · isplitl [H4] <;> iassumption
  iintro H4 H8
  have hk3 : 64 - G1 w (b1 + 1) - G2 w b1 (b2 + 1) ≤ G3 w b1 b2 0 := by rw [G3_zero]; have := H2.2; omega
  iapply (wp_t9 d i arg2 harg2 arg3 harg3 arg4 harg4 arg5 harg5 arg6 harg6 arg7 harg7 arg8 harg8 arg9 harg9 arg10 arg11 v46_r0 (G3_antitone w b1 b2) (by have := G3_le w b1 b2 0; omega) (G3_top w b1 b2) (q := 64 - G1 w (b1 + 1) - G2 w b1 (b2 + 1)) (by omega) (by have := H2.1; omega) hk3 v3 v4 v5 hv3 _ q 0#32 1024#32 _ hq3) $$ H8
  iintro %a3 %b3 %hb3 H8
  obtain ⟨hb3, e3, -, H3⟩ := hb3
  rw [e3]
  ihave H7 := cleared_start $$ H7
  iterate 9 (iapply cleared_load $$ H7; iintro %v H7; iapply (cleared_store hv4) $$ H7; iintro H7)
  iapply Hk $$ [] H4 H6 H7 H8
  ipureintro
  exact found3_of hb1 hb2 hb3 H1 H2 H3

theorem wp_part11 {β : Type} (w8 : ℕ → BitVec 32) (v4 : IVec S16 32) (hv4 : ∀ y, v4 y = 0#32) (kk : PUnit → Prog (TpuEff nD τ sig (Elt Bits) Λ₀ (thrOf d i).2) β) (Q : β → sProp 𝕄) :
    iprop(Cleared (thrOf d i) arg7 144 ∗ Has1 (thrOf d i) arg8 w8)
      ⊢ iprop((Has1 (thrOf d i) arg7 (fun _ => 0#32) -∗ Cleared (thrOf d i) arg8 208 -∗ WPt d i (kk ⟨⟩) Q)
        -∗ WPt d i (k0_part11 (F := Bits) i arg2 harg2 arg3 harg3 arg4 harg4 arg5 harg5 arg6 harg6 arg7 harg7 arg8 harg8 arg9 harg9 arg10 arg11 v46_r0 v4 >>= kk) Q) := by
  rw [k0_part11_eq_skeleton]
  unfold k0_part11_skel
  simp only [Prog.lift, Prog.bind_op, Prog.bind_ret, Prog.pure_eq_ret]
  iintro ⟨H7, H8⟩ Hk
  ihave H8 := cleared_start $$ H8
  iterate 7 (iapply cleared_load $$ H7; iintro %v H7; iapply (cleared_store hv4) $$ H7; iintro H7)
  iterate 13 (iapply cleared_load $$ H8; iintro %v H8; iapply (cleared_store hv4) $$ H8; iintro H8)
  ihave H7 := cleared_all $$ H7
  iapply Hk $$ H7 H8

theorem cond5_never : ∀ t : Fin k0_t2_loop.trips, ¬ k0_cond5 t = 1#1 := by decide +kernel
theorem cond6_iff : ∀ t : Fin k0_t2_loop.trips, k0_cond6 t = 1#1 ↔ t.val + 1 < 32 := by decide +kernel

/-- The buffer that the next trip's first row goes to: the row on its way there, if there is a next trip. -/
def Next (q : PosShare TreeShare) (f : Buf (Elt Bits) (arg2.view.loc (thrOf d i))) (lat : ℕ → ℕ → BitVec 32) (t : ℕ) : sProp 𝕄 :=
  if t < 32 then Fetching d i arg2 q f lat (rowOf i t) arg4 arg10.sem
  else iprop((arg2.view.loc (thrOf d i) ↦{q} f) ∗ (∃ w : ℕ → BitVec 32, Has1 (thrOf d i) arg4 w) ∗ semVal ((thrOf d i), .dma arg10.sem) 0)

theorem wp_part12 {β : Type} {qa qb : PosShare TreeShare} {f : Buf (Elt Bits) (arg2.view.loc (thrOf d i))} {lat : ℕ → ℕ → BitVec 32}
    (hf : arg2.view.read (Elt Bits) f = fun j => lat (j 0).val (j 1).val)
    {O : CellTallies nD τ sig (HIx 1)} {W : Waits sig (HIx 1)} (hO : ∀ g, O g none = 0) (w4 : ℕ → BitVec 32)
    (v3 v4 : IVec S16 32) (hv4 : ∀ y, v4 y = 0#32) (t2 : Fin k0_t2_loop.trips) (acc : FVec Bits S16 .f32) (v47 B1 B2 B3 : BitVec 32)
    (kk : (Σ' (_ : FVec Bits S16 .f32), BitVec 32) → Prog (TpuEff nD τ sig (Elt Bits) Λ₀ (thrOf d i).2) β) (Q : β → sProp 𝕄) :
    iprop(levAts K.L K.lev ∗ (arg2.view.loc (thrOf d i) ↦{qa} f) ∗ Has1 (thrOf d i) arg4 w4 ∗ semVal ((thrOf d i), .dma arg10.sem) 0
        ∗ Fetching d i arg2 qb f lat (rowOf i t2.val + 1) arg5 arg11.sem ∗ Owed (thrOf d i) O W ∗ Cleared (thrOf d i) arg8 208)
      ⊢ iprop((Next d i arg2 arg4 arg10 qa f lat (t2.val + 1)
            -∗ (arg2.view.loc (thrOf d i) ↦{qb} f) -∗ Has1 (thrOf d i) arg5 (lat (rowOf i t2.val + 1)) -∗ semVal ((thrOf d i), .dma arg11.sem) 0 -∗ Owed (thrOf d i) O W
            -∗ Has1 (thrOf d i) arg8 (fun _ => 0#32)
            -∗ WPt d i (kk ⟨k0_pay45 (F := Bits) v3 acc (BitVec.ofNat 32 (2 * t2.val)) B1 B2 B3, BitVec.ofNat 32 (2 * t2.val)⟩) Q)
        -∗ WPt d i (k0_part12 (F := Bits) i arg2 harg2 arg3 harg3 arg4 harg4 arg5 harg5 arg6 harg6 arg7 harg7 arg8 harg8 arg9 harg9 arg10 arg11 v46_r0 v3 v4 t2 acc (BitVec.ofNat 32 t2.val) v47 (BitVec.ofNat 32 (2 * t2.val)) B1 B2 B3 >>= kk) Q) := by
  rw [k0_part12_eq_skeleton]
  unfold k0_part12_skel
  simp only [Prog.lift, Prog.bind_op, Prog.bind_ret, Prog.pure_eq_ret, Prog.bind_assoc, twice_eq]
  iintro ⟨Hlv, Hf, H4, Hs, Hfl, HO, H8⟩ Hk
  iterate 3 (iapply cleared_load $$ H8; iintro %v H8; iapply (cleared_store hv4) $$ H8; iintro H8)
  ihave H8 := cleared_all $$ H8
  rw [dif_neg (cond5_never t2)]
  simp only [Prog.bind_ret]
  by_cases h6 : k0_cond6 t2 = 1#1
  · rw [dif_pos h6]
    have hoff : k0_off13 i t2 = ![rowOf i (t2.val + 1), 0] := k0_off13_eq i t2
    iapply (fetch_start hf (rowOf i (t2.val + 1)) hoff) $$ [Hf H4 Hs]
    · isplitl [Hf]; · iexact Hf
      isplitl [H4] <;> iassumption
    iintro Hfl4
    iapply (fetch_wait hO) $$ [Hlv Hfl HO]
    · isplitl [Hlv]; · iexact Hlv
      isplitl [Hfl] <;> iassumption
    iintro Hf H5 Hs HO
    iapply Hk $$ [Hfl4] Hf H5 Hs HO H8
    unfold Next
    rw [if_pos ((cond6_iff t2).mp h6)]
    iexact Hfl4
  · rw [dif_neg h6]
    iapply (fetch_wait hO) $$ [Hlv Hfl HO]
    · isplitl [Hlv]; · iexact Hlv
      isplitl [Hfl] <;> iassumption
    iintro Hf' H5 Hs' HO
    iapply Hk $$ [Hf H4 Hs] Hf' H5 Hs' HO H8
    unfold Next
    rw [if_neg (fun h => h6 ((cond6_iff t2).mpr h))]
    isplitl [Hf]; · iexact Hf
    isplitl [H4]
    · iexists w4; iexact H4
    iexact Hs

theorem wp_part13 {β : Type} (w : ℕ → BitVec 32)
    (v3 v4 v5 : IVec S16 32) (hv3 : ∀ y, v3 y = BitVec.ofNat 32 (y 0).val) (hv4 : ∀ y, v4 y = 0#32) (hv5 : ∀ y, v5 y = 1#32) (n : ℕ) (t2 : Fin k0_t2_loop.trips)
    (kk : (Σ' (_ : BitVec 32) (_ : BitVec 32) (_ : BitVec 32) (_ : BitVec 32) (_ : BitVec 32), BitVec 32) → Prog (TpuEff nD τ sig (Elt Bits) Λ₀ (thrOf d i).2) β) (Q : β → sProp 𝕄) :
    iprop(Has1 (thrOf d i) arg5 w ∗ Has1 (thrOf d i) arg6 (fun _ => 0#32) ∗ Has1 (thrOf d i) arg7 (fun _ => 0#32))
      ⊢ iprop((∀ B1 B2 q w7, ⌜Found2 w B1 B2 q⌝ -∗ Has1 (thrOf d i) arg5 w -∗ Has1 (thrOf d i) arg6 (fun _ => 0#32) -∗ Has1 (thrOf d i) arg7 w7
            -∗ WPt d i (kk ⟨BitVec.ofNat 32 (n + 1), B1, B2, q, 0#32, 1#32⟩) Q)
        -∗ WPt d i (k0_part13 (F := Bits) i arg2 harg2 arg3 harg3 arg4 harg4 arg5 harg5 arg6 harg6 arg7 harg7 arg8 harg8 arg9 harg9 arg10 arg11 v46_r0 v3 v4 v5 (BitVec.ofNat 32 n) >>= kk) Q) := by
  have hn : Scalar.addi (BitVec.ofNat 32 n) 1#32 = BitVec.ofNat 32 (n + 1) := (BitVec.ofNat_add (n := 32) n 1).symm
  rw [k0_part13_eq_skeleton]
  unfold k0_part13_skel
  simp only [Prog.lift, Prog.bind_op, Prog.bind_ret, Prog.pure_eq_ret, Prog.bind_assoc, hn]
  rw [t10_eq i arg2 harg2 arg3 harg3 arg4 harg4 arg5 harg5 arg6 harg6 arg7 harg7 arg8 harg8 arg9 harg9 arg10 arg11 v46_r0 0#32 v3 v4 v5 _ 0#32 1#32 t2]
  iintro ⟨H5, H6, H7⟩ Hk
  iapply (wp_t3 d i arg2 harg2 arg3 harg3 arg5 harg5 arg4 harg4 arg6 harg6 arg7 harg7 arg8 harg8 arg9 harg9 arg10 arg11 v46_r0 w 0#32 v3 v4 v5 hv4 hv5 0#32 1#32 t2) $$ [H5 H6]
  · isplitl [H5] <;> iassumption
  iintro %acc %hacc H5 H6
  obtain ⟨M, hM, hx, hle⟩ := maxInv_done hacc
  have hx' : extractAt ![15] (k0_pay48 acc) inpos_S16_p15 = BitVec.ofNat 32 M := hx
  simp only [bin1]
  iapply (wp_assume 𝒱₀ (thrOf d i) none Set.univ (k0_chk11_all _))
  rw [t11_eq i arg2 harg2 arg3 harg3 arg4 harg4 arg5 harg5 arg6 harg6 arg7 harg7 arg8 harg8 arg9 harg9 arg10 arg11 v46_r0 0#32 v3 v4 v5 _ _ 0#32 1#32 (k0_chk2_all _) t2]
  iapply (wp_scan1 d i arg2 harg2 arg3 harg3 arg5 harg5 arg4 harg4 arg6 harg6 arg7 harg7 arg8 harg8 arg9 harg9 arg10 arg11 v46_r0 w hx' hM hle 0#32 v3 v4 v5 hv3 0#32 1#32 t2 (k0_chk2_all _)) $$ H6
  iintro %a %b1 %hb1 H6
  obtain ⟨hb1, e1, e1', H1⟩ := hb1
  iapply (wp_t12 d i arg2 harg2 arg3 harg3 arg4 harg4 arg5 harg5 arg6 harg6 arg7 harg7 arg8 harg8 arg9 harg9 arg10 arg11 v46_r0)
  have hq := sub_bin H1 lit64 e1'
  rw [e1, t13_eq i arg2 harg2 arg3 harg3 arg4 harg4 arg5 harg5 arg6 harg6 arg7 harg7 arg8 harg8 arg9 harg9 arg10 arg11 v46_r0 v3 v4 v5 _ _ 0#32 0#32 1024#32]
  iapply (wp_t6 d i arg2 harg2 arg3 harg3 arg5 harg5 arg4 harg4 arg6 harg6 arg7 harg7 arg8 harg8 arg9 harg9 arg10 arg11 v46_r0 w v3 v4 v5 hv4 hv5 b1 hb1 0#32 0#32 1024#32) $$ [H5 H6 H7]
  · simp only [bin1]
    isplitl [H5]; · iexact H5
    isplitl [H6] <;> iassumption
  iintro H5 H6 H7
  have hk2 : 64 - G1 w (b1 + 1) ≤ G2 w b1 0 := by rw [G2_zero]; have := H1.2; omega
  rw [t14_eq i arg2 harg2 arg3 harg3 arg4 harg4 arg5 harg5 arg6 harg6 arg7 harg7 arg8 harg8 arg9 harg9 arg10 arg11 v46_r0 v3 v4 v5 _ _ 0#32 0#32 1024#32]
  iapply (wp_t7 d i arg2 harg2 arg3 harg3 arg5 harg5 arg4 harg4 arg6 harg6 arg7 harg7 arg8 harg8 arg9 harg9 arg10 arg11 v46_r0 (G2_antitone w b1) (by have := G2_le w b1 0; omega) (G2_top w b1) (q := 64 - G1 w (b1 + 1)) (by omega) (by have := H1.1; omega) hk2 v3 v4 v5 hv3 _ 0#32 1024#32 _ hq) $$ H7
  iintro %a2 %b2 %hb2 H7
  obtain ⟨hb2, e2, e2', H2⟩ := hb2
  iapply Hk $$ [] H5 H6 H7
  ipureintro
  exact ⟨b1, b2, hb1, hb2, H1, H2, rfl, e2, sub_bin H2 hq e2'⟩

theorem wp_part14 {β : Type} (w w7 : ℕ → BitVec 32) (B1 B2 q : BitVec 32) (hB : Found2 w B1 B2 q)
    (v3 v4 v5 : IVec S16 32) (hv3 : ∀ y, v3 y = BitVec.ofNat 32 (y 0).val) (hv4 : ∀ y, v4 y = 0#32) (hv5 : ∀ y, v5 y = 1#32)
    (kk : BitVec 32 → Prog (TpuEff nD τ sig (Elt Bits) Λ₀ (thrOf d i).2) β) (Q : β → sProp 𝕄) :
    iprop(Has1 (thrOf d i) arg5 w ∗ Has1 (thrOf d i) arg7 w7 ∗ Has1 (thrOf d i) arg8 (fun _ => 0#32))
      ⊢ iprop((∀ B3 w8, ⌜Found3 w B1 B2 B3⌝ -∗ Has1 (thrOf d i) arg5 w -∗ Cleared (thrOf d i) arg7 240 -∗ Has1 (thrOf d i) arg8 w8 -∗ WPt d i (kk B3) Q)
        -∗ WPt d i (k0_part14 (F := Bits) i arg2 harg2 arg3 harg3 arg4 harg4 arg5 harg5 arg6 harg6 arg7 harg7 arg8 harg8 arg9 harg9 arg10 arg11 v46_r0 v3 v4 v5 B1 B2 q 0#32 1#32 >>= kk) Q) := by
  obtain ⟨b1, b2, hb1, hb2, H1, H2, rfl, rfl, hq⟩ := hB
  rw [k0_part14_eq_skeleton]
  unfold k0_part14_skel
  simp only [Prog.lift, Prog.bind_op, Prog.bind_ret, Prog.pure_eq_ret, Prog.bind_assoc]
  iintro ⟨H5, H7, H8⟩ Hk
  rw [t15_eq i arg2 harg2 arg3 harg3 arg4 harg4 arg5 harg5 arg6 harg6 arg7 harg7 arg8 harg8 arg9 harg9 arg10 arg11 v46_r0 v3 v4 v5 _ _ _ _ _ 0#32 0#32 1024#32]
  iapply (wp_t8 d i arg2 harg2 arg3 harg3 arg5 harg5 arg4 harg4 arg6 harg6 arg7 harg7 arg8 harg8 arg9 harg9 arg10 arg11 v46_r0 w v3 v4 v5 hv5 b1 b2 (by omega) (by omega) 0#32 0#32 1024#32) $$ [H5 H8]
  · isplitl [H5] <;> iassumption
  iintro H5 H8
  have hk3 : 64 - G1 w (b1 + 1) - G2 w b1 (b2 + 1) ≤ G3 w b1 b2 0 := by rw [G3_zero]; have := H2.2; omega
  rw [t16_eq i arg2 harg2 arg3 harg3 arg4 harg4 arg5 harg5 arg6 harg6 arg7 harg7 arg8 harg8 arg9 harg9 arg10 arg11 v46_r0 v3 v4 v5 _ _ _ _ _ 0#32 0#32 0#32 1024#32]
  iapply (wp_t9 d i arg2 harg2 arg3 harg3 arg5 harg5 arg4 harg4 arg6 harg6 arg7 harg7 arg8 harg8 arg9 harg9 arg10 arg11 v46_r0 (G3_antitone w b1 b2) (by have := G3_le w b1 b2 0; omega) (G3_top w b1 b2) (q := 64 - G1 w (b1 + 1) - G2 w b1 (b2 + 1)) (by omega) (by have := H2.1; omega) hk3 v3 v4 v5 hv3 _ _ 0#32 1024#32 _ hq) $$ H8
  iintro %a3 %b3 %hb3 H8
  obtain ⟨hb3, e3, -, H3⟩ := hb3
  rw [e3]
  ihave H7 := cleared_start $$ H7
  iterate 15 (iapply cleared_load $$ H7; iintro %v H7; iapply (cleared_store hv4) $$ H7; iintro H7)
  iapply cleared_load $$ H7
  iintro %v H7
  iapply Hk $$ [] H5 H7 H8
  ipureintro
  exact found3_of hb1 hb2 hb3 H1 H2 H3

theorem wp_part15 {β : Type} (w8 : ℕ → BitVec 32) (v4 : IVec S16 32) (hv4 : ∀ y, v4 y = 0#32) (B1 B2 B3 : BitVec 32)
    (kk : IVec S16 32 → Prog (TpuEff nD τ sig (Elt Bits) Λ₀ (thrOf d i).2) β) (Q : β → sProp 𝕄) :
    iprop(Cleared (thrOf d i) arg7 240 ∗ Has1 (thrOf d i) arg8 w8)
      ⊢ iprop((Has1 (thrOf d i) arg7 (fun _ => 0#32) -∗ Has1 (thrOf d i) arg8 (fun _ => 0#32) -∗ WPt d i (kk (k0_pay56 B1 B2 B3)) Q)
        -∗ WPt d i (k0_part15 (F := Bits) i arg2 harg2 arg3 harg3 arg4 harg4 arg5 harg5 arg6 harg6 arg7 harg7 arg8 harg8 arg9 harg9 arg10 arg11 v46_r0 v4 B1 B2 B3 >>= kk) Q) := by
  rw [k0_part15_eq_skeleton]
  unfold k0_part15_skel
  simp only [Prog.lift, Prog.bind_op, Prog.bind_ret, Prog.pure_eq_ret]
  iintro ⟨H7, H8⟩ Hk
  ihave H8 := cleared_start $$ H8
  iapply (cleared_store hv4) $$ H7
  iintro H7
  iterate 16 (iapply cleared_load $$ H8; iintro %v H8; iapply (cleared_store hv4) $$ H8; iintro H8)
  ihave H7 := cleared_all $$ H7
  ihave H8 := cleared_all $$ H8
  iapply Hk $$ H7 H8

end Rows

end Cert.Proof.Thresh
-- ==== Proof.Tile.lean ====
/-
  A tile's whole program (`wp_tile`): from its two shares of the latents, its buffers, its semaphores at zero and its
  64 elements of the result, it leaves in these elements the 64-th largest word of each of its 64 rows. The loop over
  pairs of rows runs by the invariant `TripInv`: the next pair's first row on its way, the histograms clear, the
  answers of the rows so far in the register `acc` (`AccInv`) and, sixteen at a time, in the buffer `arg9` (`ThrInv`).
-/
module

public import proofs.«01_k».proof.Proof.Rows

@[expose] public section

noncomputable section

namespace Cert.Proof.Thresh

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

/-! ## The answers so far -/

/-- The answers of the rows from the last multiple of sixteen up to `n` are in the register's lanes. -/
def AccInv (R : ℕ → BitVec 32) (n : ℕ) (acc : FVec Bits S16 .f32) : Prop :=
  ∀ y : S16.Idx, (y 0).val < n % 16 → acc y = R (16 * (n / 16) + (y 0).val)

/-- As `AccInv`, the answer of row `n` included. -/
def AccNow (R : ℕ → BitVec 32) (n : ℕ) (acc : FVec Bits S16 .f32) : Prop :=
  ∀ y : S16.Idx, (y 0).val ≤ n % 16 → acc y = R (16 * (n / 16) + (y 0).val)

/-- The answers below the last multiple of sixteen up to `n` are in the buffer. -/
def ThrInv (R : ℕ → BitVec 32) (n : ℕ) (th : ℕ → BitVec 32) : Prop := ∀ j < 16 * (n / 16), th j = R j

theorem accInv_put {R : ℕ → BitVec 32} {n : ℕ} {acc : FVec Bits S16 .f32} (h : AccInv R n acc) (v3 : IVec S16 32)
    (hv3 : ∀ y, v3 y = BitVec.ofNat 32 (y 0).val) (B1 B2 B3 : BitVec 32) (hB : unmono (joinW B1 B2 B3) = R n) :
    AccNow R n (k0_pay45 (F := Bits) v3 acc (BitVec.ofNat 32 n) B1 B2 B3) := fun y hy => by
  rw [pay45_eq v3 hv3]
  by_cases e : (y 0).val = n % 16
  · rw [if_pos e, hB, e, Nat.div_add_mod]
  · rw [if_neg e]; exact h y (by omega)

theorem accNow_next {R : ℕ → BitVec 32} {n : ℕ} {acc : FVec Bits S16 .f32} (h : AccNow R n acc) : AccInv R (n + 1) acc := fun y hy => by
  rw [h y (by omega), show (n + 1) / 16 = n / 16 by omega]

theorem thrInv_keep {R : ℕ → BitVec 32} {n : ℕ} {th : ℕ → BitVec 32} (h : ThrInv R n th) (hn : n % 16 ≠ 15) : ThrInv R (n + 1) th := fun j hj =>
  h j (by omega)

theorem thrInv_put {R : ℕ → BitVec 32} {n : ℕ} {th : ℕ → BitVec 32} (h : ThrInv R n th) (hn : n % 16 = 15) {val : ℕ → BitVec 32}
    (hval : ∀ k < 16, val k = R (16 * (n / 16) + k)) :
    ThrInv R (n + 1) (fun j => if 16 * (n / 16) ≤ j ∧ j < 16 * (n / 16) + 16 then val (j - 16 * (n / 16)) else th j) := fun j hj => by
  show (if 16 * (n / 16) ≤ j ∧ j < 16 * (n / 16) + 16 then val (j - 16 * (n / 16)) else th j) = R j
  by_cases e : 16 * (n / 16) ≤ j ∧ j < 16 * (n / 16) + 16
  · rw [if_pos e, hval _ (by omega), show 16 * (n / 16) + (j - 16 * (n / 16)) = j by omega]
  · rw [if_neg e]; exact h j (by omega)

theorem cond11_off : ∀ t : Fin k0_t2_loop.trips, k0_cond11 t = 1#1 → (2 * t.val + 1) % 16 = 15 ∧ k0_off22 t 0 = 16 * ((2 * t.val + 1) / 16) := by decide +kernel
theorem cond11_not : ∀ t : Fin k0_t2_loop.trips, ¬ k0_cond11 t = 1#1 → (2 * t.val + 1) % 16 ≠ 15 := by decide +kernel

/-- The lanes of a vector, as a function of the lane's number. -/
def lanesOf (v : S16.Idx → BitVec 32) (k : ℕ) : BitVec 32 := if h : k < 16 then v (fun a => ⟨k, by rw [Fin.eq_zero a]; exact h⟩) else 0#32

theorem lanesOf_eq (v : S16.Idx → BitVec 32) (y : S16.Idx) : v y = lanesOf v (y 0).val := by
  unfold lanesOf
  rw [dif_pos (show (y 0).val < 16 from (y 0).isLt)]
  congr 1
  funext a
  rw [Fin.eq_zero a]

section Tile

variable (d : Dev nD) (i : grid0.Coords)
variable (arg2 : Memref sig .scVector .hbm S2048x16384 .f32) (harg2 : arg2.IsWhole) (arg3 : Memref sig .scVector .hbm S2048 .f32) (harg3 : arg3.IsWhole)
  (arg4 : Memref sig .scVector .vmem S16384 .f32) (harg4 : arg4.IsWhole) (arg5 : Memref sig .scVector .vmem S16384 .f32) (harg5 : arg5.IsWhole)
  (arg6 : Memref sig .scVector .vmem S65536 .i32) (harg6 : arg6.IsWhole) (arg7 : Memref sig .scVector .vmem S256 .i32) (harg7 : arg7.IsWhole)
  (arg8 : Memref sig .scVector .vmem S256 .i32) (harg8 : arg8.IsWhole) (arg9 : Memref sig .scVector .vmem S64 .f32) (harg9 : arg9.IsWhole)
  (arg10 : DmaSems sig S_) (arg11 : DmaSems sig S_) (v46_r0 : DmaSems sig S_)

/-- The answer for the `n`-th row of the tile. -/
abbrev ansOf (lat : ℕ → ℕ → BitVec 32) (n : ℕ) : BitVec 32 := kth (lat (128 * (i 1).val + 64 * (i 0).val + n))

/-- Before trip `t` of the loop over pairs of rows. -/
def TripInv (qa qb : PosShare TreeShare) (f : Buf (Elt Bits) (arg2.view.loc (thrOf d i))) (lat : ℕ → ℕ → BitVec 32)
    (O : CellTallies nD τ sig (HIx 1)) (W : Waits sig (HIx 1)) (t : ℕ) (acc : FVec Bits S16 .f32) : sProp 𝕄 :=
  iprop(⌜AccInv (ansOf i lat) (2 * t) acc⌝ ∗ levAts K.L K.lev ∗ Next d i arg2 arg4 arg10 qa f lat t ∗ (arg2.view.loc (thrOf d i) ↦{qb} f)
    ∗ (∃ w : ℕ → BitVec 32, Has1 (thrOf d i) arg5 w) ∗ semVal ((thrOf d i), .dma arg11.sem) 0 ∗ Owed (thrOf d i) O W
    ∗ Has1 (thrOf d i) arg6 (fun _ => 0#32) ∗ Has1 (thrOf d i) arg7 (fun _ => 0#32) ∗ Has1 (thrOf d i) arg8 (fun _ => 0#32)
    ∗ ∃ th : ℕ → BitVec 32, ⌜ThrInv (ansOf i lat) (2 * t) th⌝ ∗ Has1 (thrOf d i) arg9 th)

theorem has1_intro {N : ℕ} {e : EltTy} {B : Memref sig .scVector .vmem ⟨1, ![N]⟩ e} {w : ℕ → Elt Bits e} {f9 : Buf (Elt Bits) (B.view.loc (thrOf d i))} (h : B.view.read (Elt Bits) f9 = fun j => w (j 0).val) :
    (B.view.loc (thrOf d i) ↦{fullShare} f9) ⊢ Has1 (thrOf d i) B w := by
  unfold Has1
  iintro H
  iexists f9
  isplitr
  · ipureintro; exact h
  iexact H

theorem owed_intro {O : CellTallies nD τ sig (HIx 1)} {W W' : Waits sig (HIx 1)} (h : ∀ p ∈ W', p ∈ W ∨ p.2 = none) :
    owes (thrOf d i) O W' ⊢ Owed (thrOf d i) O W := by
  unfold Owed
  iintro H
  iexists W'
  isplitr
  · ipureintro; exact h
  iexact H

theorem wpt_ret {β : Type} (a : β) (Q : β → sProp 𝕄) : Q a ⊢ WPt d i (Prog.ret a) Q := by
  show Q a ⊢ wp frame (wpE (defs₀ (F := Bits)) 𝒱₀ (thrOf d i) none) Set.univ (Prog.ret a) Q
  rw [wp_ret]
  iintro H
  imodintro
  iexact H

theorem tripInv_end {qa qb : PosShare TreeShare} {f : Buf (Elt Bits) (arg2.view.loc (thrOf d i))} {lat : ℕ → ℕ → BitVec 32}
    {O : CellTallies nD τ sig (HIx 1)} {W : Waits sig (HIx 1)} {acc : FVec Bits S16 .f32} :
    TripInv d i arg2 arg4 arg5 arg6 arg7 arg8 arg9 arg10 arg11 qa qb f lat O W 32 acc
      = iprop(⌜AccInv (ansOf i lat) 64 acc⌝ ∗ levAts K.L K.lev
        ∗ ((arg2.view.loc (thrOf d i) ↦{qa} f) ∗ (∃ w : ℕ → BitVec 32, Has1 (thrOf d i) arg4 w) ∗ semVal ((thrOf d i), .dma arg10.sem) 0) ∗ (arg2.view.loc (thrOf d i) ↦{qb} f)
        ∗ (∃ w : ℕ → BitVec 32, Has1 (thrOf d i) arg5 w) ∗ semVal ((thrOf d i), .dma arg11.sem) 0
        ∗ (∃ W', ⌜∀ p ∈ W', p ∈ W ∨ p.2 = none⌝ ∗ owes (thrOf d i) O W')
        ∗ Has1 (thrOf d i) arg6 (fun _ => 0#32) ∗ Has1 (thrOf d i) arg7 (fun _ => 0#32) ∗ Has1 (thrOf d i) arg8 (fun _ => 0#32)
        ∗ ∃ th : ℕ → BitVec 32, ⌜ThrInv (ansOf i lat) 64 th⌝ ∗ ∃ f9, ⌜arg9.view.read (Elt Bits) f9 = fun j => th (j 0).val⌝ ∗ arg9.view.loc (thrOf d i) ↦{fullShare} f9) := rfl

theorem t2_trip {qa qb : PosShare TreeShare} {f : Buf (Elt Bits) (arg2.view.loc (thrOf d i))} {lat : ℕ → ℕ → BitVec 32}
    (hf : arg2.view.read (Elt Bits) f = fun j => lat (j 0).val (j 1).val)
    {O : CellTallies nD τ sig (HIx 1)} {W : Waits sig (HIx 1)} (hO : ∀ g, O g none = 0)
    (v2 : BitVec 32) (v3 v4 v5 : IVec S16 32) (hv3 : ∀ y, v3 y = BitVec.ofNat 32 (y 0).val) (hv4 : ∀ y, v4 y = 0#32) (hv5 : ∀ y, v5 y = 1#32)
    (t : Fin k0_t2_loop.trips) (acc : FVec Bits S16 .f32) :
    TripInv d i arg2 arg4 arg5 arg6 arg7 arg8 arg9 arg10 arg11 qa qb f lat O W t.val acc
      ⊢ WPt d i (k0_t2_body (F := Bits) i arg2 harg2 arg3 harg3 arg4 harg4 arg5 harg5 arg6 harg6 arg7 harg7 arg8 harg8 arg9 harg9 arg10 arg11 v46_r0 v2 v3 v4 v5 t acc)
          (fun acc' => TripInv d i arg2 arg4 arg5 arg6 arg7 arg8 arg9 arg10 arg11 qa qb f lat O W (t.val + 1) acc') := by
  have ht : t.val < 32 := by
    have h := t.isLt
    have e : k0_t2_loop.trips = 32 := by decide
    omega
  unfold k0_t2_body TripInv
  rw [show Next d i arg2 arg4 arg10 qa f lat t.val = Fetching d i arg2 qa f lat (rowOf i t.val) arg4 arg10.sem from if_pos ht]
  simp only [Prog.lift, Prog.bind_op, Prog.bind_ret, Prog.pure_eq_ret]
  iintro ⟨%hacc, #Hlv, Hn, Hf, ⟨%w5, H5⟩, Hs, HO, H6, H7, H8, %th, %hth, H9⟩
  iapply (wp_part9 d i arg2 harg2 arg3 harg3 arg4 harg4 arg5 harg5 arg6 harg6 arg7 harg7 arg8 harg8 arg9 harg9 arg10 arg11 v46_r0 hf hO w5 v2 v3 v4 v5 hv3 hv4 hv5 t) $$ [Hn Hf H5 Hs HO H6]
  · isplitr; · iexact Hlv
    isplitl [Hf]; · iexact Hf
    isplitl [H5]; · iexact H5
    isplitl [Hs]; · iexact Hs
    isplitl [Hn]; · iexact Hn
    isplitl [HO] <;> iassumption
  iintro %v47 %B1 %q %hB1 Hfl Hf H4 Hs HO H6
  iapply (wp_part10 d i arg2 harg2 arg3 harg3 arg4 harg4 arg5 harg5 arg6 harg6 arg7 harg7 arg8 harg8 arg9 harg9 arg10 arg11 v46_r0 (lat (rowOf i t.val)) B1 q hB1 v3 v4 v5 hv3 hv4 hv5) $$ [H4 H6 H7 H8]
  · isplitl [H4]; · iexact H4
    isplitl [H6]; · iexact H6
    isplitl [H7] <;> iassumption
  iintro %B2 %B3 %w8 %hB3 H4 H6 H7 H8
  iapply (wp_part11 d i arg2 harg2 arg3 harg3 arg4 harg4 arg5 harg5 arg6 harg6 arg7 harg7 arg8 harg8 arg9 harg9 arg10 arg11 v46_r0 w8 v4 hv4) $$ [H7 H8]
  · isplitl [H7] <;> iassumption
  iintro H7 H8
  iapply (wp_part12 d i arg2 harg2 arg3 harg3 arg4 harg4 arg5 harg5 arg6 harg6 arg7 harg7 arg8 harg8 arg9 harg9 arg10 arg11 v46_r0 hf hO _ v3 v4 hv4 t acc v47 B1 B2 B3) $$ [Hf H4 Hs Hfl HO H8]
  · isplitr; · iexact Hlv
    isplitl [Hf]; · iexact Hf
    isplitl [H4]; · iexact H4
    isplitl [Hs]; · iexact Hs
    isplitl [Hfl]; · iexact Hfl
    isplitl [HO] <;> iassumption
  iintro Hn Hf H5 Hs HO H8
  have hnow := accInv_put hacc v3 hv3 B1 B2 B3 hB3
  have hnext := accNow_next hnow
  iapply (wp_part13 d i arg2 harg2 arg3 harg3 arg4 harg4 arg5 harg5 arg6 harg6 arg7 harg7 arg8 harg8 arg9 harg9 arg10 arg11 v46_r0 (lat (rowOf i t.val + 1)) v3 v4 v5 hv3 hv4 hv5 (2 * t.val) t) $$ [H5 H6 H7]
  · isplitl [H5]; · iexact H5
    isplitl [H6] <;> iassumption
  iintro %C1 %C2 %q' %w7 %hC H5 H6 H7
  iapply (wp_part14 d i arg2 harg2 arg3 harg3 arg4 harg4 arg5 harg5 arg6 harg6 arg7 harg7 arg8 harg8 arg9 harg9 arg10 arg11 v46_r0 (lat (rowOf i t.val + 1)) w7 C1 C2 q' hC v3 v4 v5 hv3 hv4 hv5) $$ [H5 H7 H8]
  · isplitl [H5]; · iexact H5
    isplitl [H7] <;> iassumption
  iintro %C3 %w8' %hC3 H5 H7 H8
  iapply (wp_part15 d i arg2 harg2 arg3 harg3 arg4 harg4 arg5 harg5 arg6 harg6 arg7 harg7 arg8 harg8 arg9 harg9 arg10 arg11 v46_r0 w8' v4 hv4 C1 C2 C3) $$ [H7 H8]
  · isplitl [H7] <;> iassumption
  iintro H7 H8
  have hnow' := accInv_put hnext v3 hv3 C1 C2 C3 hC3
  have hth' := thrInv_keep hth (by omega)
  simp only [pay2_eq]
  generalize k0_pay45 (F := Bits) v3 (k0_pay45 (F := Bits) v3 acc (BitVec.ofNat 32 (2 * t.val)) B1 B2 B3) (BitVec.ofNat 32 (2 * t.val + 1)) C1 C2 C3 = acc' at hnow' ⊢
  by_cases h11 : k0_cond11 t = 1#1
  · rw [dif_pos h11]
    obtain ⟨h15, hoff⟩ := cond11_off t h11
    iapply has1_load $$ H9
    iintro H9
    iapply (has1_store (v := acc') (lanesOf acc') (lanesOf_eq acc')) $$ H9
    iintro H9
    rw [hoff]
    iapply (wpt_ret d i acc')
    isplitr
    · ipureintro; exact accNow_next hnow'
    isplitr; · iexact Hlv
    isplitl [Hn]; · iexact Hn
    isplitl [Hf]; · iexact Hf
    isplitl [H5]; · iexists _; iexact H5
    isplitl [Hs]; · iexact Hs
    isplitl [HO]; · iexact HO
    isplitl [H6]; · iexact H6
    isplitl [H7]; · iexact H7
    isplitl [H8]; · iexact H8
    iexists _
    isplitr
    rotate_left
    · iexact H9
    · ipureintro
      refine thrInv_put hth' h15 fun k hk => ?_
      have := hnow' (fun a => ⟨k, by rw [Fin.eq_zero a]; exact hk⟩) (by show k ≤ _; omega)
      exact (lanesOf_eq acc' _).symm.trans this
  · rw [dif_neg h11]
    iapply (wpt_ret d i acc')
    isplitr
    · ipureintro; exact accNow_next hnow'
    isplitr; · iexact Hlv
    isplitl [Hn]; · iexact Hn
    isplitl [Hf]; · iexact Hf
    isplitl [H5]; · iexists _; iexact H5
    isplitl [Hs]; · iexact Hs
    isplitl [HO]; · iexact HO
    isplitl [H6]; · iexact H6
    isplitl [H7]; · iexact H7
    isplitl [H8]; · iexact H8
    iexists th
    isplitr
    · ipureintro
      exact thrInv_keep hth' (cond11_not t h11)
    iexact H9

/-- The tile's elements of the result. -/
abbrev outM : Memref sig .scVector .hbm S64 .f32 := arg3.slice (Rect.unit (s := S2048) (k0_off23 i) S64.size (k0_off23_inb i)) (fun _ => rfl)

theorem wp_tile {qa qb : PosShare TreeShare} {f : Buf (Elt Bits) (arg2.view.loc (thrOf d i))} {lat : ℕ → ℕ → BitVec 32}
    (hf : arg2.view.read (Elt Bits) f = fun j => lat (j 0).val (j 1).val) (g : Buf (Elt Bits) ((outM i arg3).view.loc (thrOf d i)))
    {O : CellTallies nD τ sig (HIx 1)} {W : Waits sig (HIx 1)} (hO : ∀ g, O g none = 0) (w4 w5 w6 w7 w8 w9 : ℕ → BitVec 32) :
    iprop(levAts K.L K.lev ∗ ((arg2.view.loc (thrOf d i) ↦{qa} f) ∗ (arg2.view.loc (thrOf d i) ↦{qb} f) ∗ ((outM i arg3).view.loc (thrOf d i) ↦[(outM i arg3).view.set]{fullShare} g))
        ∗ (Has1 (thrOf d i) arg4 w4 ∗ Has1 (thrOf d i) arg5 w5 ∗ Has1 (thrOf d i) arg6 w6 ∗ Has1 (thrOf d i) arg7 w7 ∗ Has1 (thrOf d i) arg8 w8 ∗ Has1 (thrOf d i) arg9 w9)
        ∗ (semVal ((thrOf d i), .dma arg10.sem) 0 ∗ semVal ((thrOf d i), .dma arg11.sem) 0 ∗ semVal ((thrOf d i), .dma v46_r0.sem) 0) ∗ owes (thrOf d i) O W)
      ⊢ WPt d i (cc0__sc_thresh_kernel (F := Bits) i arg2 harg2 arg3 harg3 arg4 harg4 arg5 harg5 arg6 harg6 arg7 harg7 arg8 harg8 arg9 harg9 arg10 arg11 v46_r0)
          (fun _ => iprop(((arg2.view.loc (thrOf d i) ↦{qa} f) ∗ (arg2.view.loc (thrOf d i) ↦{qb} f)
              ∗ ∃ g', ⌜(outM i arg3).view.read (Elt Bits) g' = fun y => ansOf i lat (y 0).val⌝ ∗ ((outM i arg3).view.loc (thrOf d i) ↦[(outM i arg3).view.set]{fullShare} g'))
            ∗ ((∃ w : ℕ → BitVec 32, Has1 (thrOf d i) arg4 w) ∗ (∃ w : ℕ → BitVec 32, Has1 (thrOf d i) arg5 w) ∗ (∃ w : ℕ → BitVec 32, Has1 (thrOf d i) arg6 w)
              ∗ (∃ w : ℕ → BitVec 32, Has1 (thrOf d i) arg7 w) ∗ (∃ w : ℕ → BitVec 32, Has1 (thrOf d i) arg8 w) ∗ (∃ w : ℕ → BitVec 32, Has1 (thrOf d i) arg9 w))
            ∗ (semVal ((thrOf d i), .dma arg10.sem) 0 ∗ semVal ((thrOf d i), .dma arg11.sem) 0 ∗ semVal ((thrOf d i), .dma v46_r0.sem) 0) ∗ Owed (thrOf d i) O W)) := by
  rw [cc0__sc_thresh_kernel_eq_skeleton]
  unfold cc0__sc_thresh_kernel_skel
  simp only [Prog.lift, Prog.bind_op, Prog.bind_ret, Prog.pure_eq_ret]
  iintro ⟨#Hlv, ⟨Hfa, Hfb, Hg⟩, ⟨H4, H5, H6, H7, H8, H9⟩, ⟨Hs10, Hs11, Hs0⟩, HO⟩
  iapply (wp_part16 d i arg2 harg2 arg3 harg3 arg4 harg4 arg5 harg5 arg6 harg6 arg7 harg7 arg8 harg8 arg9 harg9 arg10 arg11 v46_r0 w6 w7) $$ [H6 H7]
  · isplitl [H6] <;> iassumption
  iintro %v2 %v3 %v4 %v5 %hv H6 H7
  obtain ⟨hv3, hv4, hv5⟩ := hv
  iapply (wp_part17 d i arg2 harg2 arg3 harg3 arg4 harg4 arg5 harg5 arg6 harg6 arg7 harg7 arg8 harg8 arg9 harg9 arg10 arg11 v46_r0 v4 hv4 w8) $$ [H7 H8]
  · isplitl [H7] <;> iassumption
  iintro H7 H8
  have hoff : k0_off2 i = ![rowOf i 0, 0] := k0_off2_eq i
  iapply (fetch_start hf (rowOf i 0) hoff) $$ [Hfa H4 Hs10]
  · isplitl [Hfa]; · iexact Hfa
    isplitl [H4] <;> iassumption
  iintro Hfl
  iapply (Scf.wp_for_bind frame (wpE (defs₀ (F := Bits)) 𝒱₀ (thrOf d i) none) Set.univ _ _ _ k0_t2_ok _ _
    (fun t acc => TripInv d i arg2 arg4 arg5 arg6 arg7 arg8 arg9 arg10 arg11 qa qb f lat O W t acc)
    (fun t acc => t2_trip d i arg2 harg2 arg3 harg3 arg4 harg4 arg5 harg5 arg6 harg6 arg7 harg7 arg8 harg8 arg9 harg9 arg10 arg11 v46_r0 hf hO v2 v3 v4 v5 hv3 hv4 hv5 t acc)) $$ [Hfl Hfb H5 Hs11 HO H6 H7 H8 H9]
  · unfold TripInv Next Owed
    rw [if_pos (by decide)]
    isplitr
    · ipureintro; exact fun y hy => absurd hy (Nat.not_lt_zero _)
    isplitr; · iexact Hlv
    isplitl [Hfl]; · iexact Hfl
    isplitl [Hfb]; · iexact Hfb
    isplitl [H5]; · iexists w5; iexact H5
    isplitl [Hs11]; · iexact Hs11
    isplitl [HO]
    · iexists W
      isplitr
      · ipureintro; exact fun p hp => .inl hp
      iexact HO
    isplitl [H6]; · iexact H6
    isplitl [H7]; · iexact H7
    isplitl [H8]; · iexact H8
    iexists w9
    isplitr
    · ipureintro; exact fun j hj => absurd hj (Nat.not_lt_zero _)
    iexact H9
  iintro %acc HI
  have hT : Scf.trips k0_t2_loop.lb k0_t2_loop.ub k0_t2_loop.st = 32 := by decide
  rw [hT]
  ihave HI := (Entails.of_eq (tripInv_end d i arg2 arg4 arg5 arg6 arg7 arg8 arg9 arg10 arg11)) $$ HI
  icases HI with ⟨-, -, ⟨Hfa, H4, Hs10⟩, Hfb, H5, Hs11, ⟨%W', %hW', HO⟩, H6, H7, H8, %th, %hth, %f9, %hf9, H9⟩
  ihave H9' := (pointsTo_split_subset (q := fullShare) (ℓ := arg9.view.loc (thrOf d i)) (f := f9) (S := Finset.univ) (Finset.subset_univ arg9.view.set)).1 $$ H9
  icases H9' with ⟨H9a, H9b⟩
  iapply (Transfers.wp_dmaLocal countersEmb 𝒱₀ (thrOf d i) none (src := arg9) (via := .same) (dst := outM i arg3) none (outM i arg3).view.dmaCredit rfl
    ((outM i arg3).view.dmaCredit_pos (by decide)) (Finset.Subset.refl _)) $$ [H9a Hg Hs0]
  · isplitl [H9a]; · iexact H9a
    isplitl [Hg]; · iexact Hg
    iexact Hs0
  iintro Hfl
  iapply (Transfers.wp_waitLocalO countersEmb 𝒱₀ (thrOf d i) none none rfl) $$ [Hfl HO]
  · isplitl [Hfl]; · iexact Hfl
    isplitl [HO]; · iexact HO
    iapply (K.mayWait_none (SemLoc.dma v46_r0.sem) hO); iexact Hlv
  iintro ⟨⟨Hg, H9a⟩, Hs0, HO⟩
  ihave H9 := (pointsTo_split_subset (q := fullShare) (ℓ := arg9.view.loc (thrOf d i)) (f := f9) (S := Finset.univ) (Finset.subset_univ arg9.view.set)).2 $$ [H9a H9b]
  · isplitl [H9a] <;> iassumption
  rw [wp_ret]
  imodintro
  isplitl [Hfa Hfb Hg]
  · isplitl [Hfa]; · iexact Hfa
    isplitl [Hfb]; · iexact Hfb
    iexists _
    isplitr
    rotate_left
    · iexact Hg
    · ipureintro
      refine (View.read_write_univ _ _).trans ?_
      refine Eq.trans (show _ = arg9.view.read (Elt Bits) f9 from rfl) (hf9.trans (funext fun y => ?_))
      exact hth _ (y 0).isLt
  isplitl [H4 H5 H6 H7 H8 H9]
  · isplitl [H4]; · iexact H4
    isplitl [H5]; · iexact H5
    isplitl [H6]; · iexists _; iexact H6
    isplitl [H7]; · iexists _; iexact H7
    isplitl [H8]; · iexists _; iexact H8
    iexists th
    iapply (has1_intro d i hf9); iexact H9
  isplitl [Hs10 Hs11 Hs0]
  · isplitl [Hs10]; · iexact Hs10
    isplitl [Hs11]; · iexact Hs11
    iexact Hs0
  iapply (owed_intro d i ?_) $$ HO
  · intro p hp
    rcases Finset.mem_insert.mp hp with hp | hp
    · exact .inr (hp ▸ rfl)
    · exact hW' p hp

end Tile

end Cert.Proof.Thresh
-- ==== Proof.TopK.lean ====
/-
  The reference's column 63 of the 64 largest words of each row, largest first, holds the 64-th largest of the row
  (`isKth_topK`): the sort is a permutation of the row (`sortedFrom_injective`, `sortedFrom_surjective`) along which the
  keys do not increase, so fewer than 64 words lie above the one it puts at position 63 and the first 64 do not lie below.
-/
module

public import proofs.«01_k».proof.Proof.Keys
public import proofs.«01_k».proof.Proof.Gen.Reference
public import Idealize.ShloMosaic.Lib.SortFacts
public import Idealize.ShloMosaic.Lib.SortKey

@[expose] public section

namespace Cert.Proof.Thresh

open Idealize.ShloMosaic

/-- What an injective and surjective rearrangement along which the keys do not increase puts at position 63. -/
theorem isKth_of_sorted (w : ℕ → BitVec 32) (σ : Fin 16384 → Fin 16384) (hi : Function.Injective σ) (hs : Function.Surjective σ)
    (ha : ∀ a b : Fin 16384, a < b → keyN (w (σ b).val) ≤ keyN (w (σ a).val)) : IsKth w (w (σ ⟨63, by decide⟩).val) := by
  refine ⟨?_, ?_⟩
  · rw [Nat.count_eq_card_filter_range]
    have hsub : (Finset.range 16384).filter (fun l => keyN (w (σ ⟨63, by decide⟩).val) < keyN (w l))
        ⊆ Finset.univ.image (fun j : Fin 63 => (σ ⟨j.val, by have := j.isLt; omega⟩).val) := by
      intro l hl
      rw [Finset.mem_filter, Finset.mem_range] at hl
      obtain ⟨j, hj⟩ := hs ⟨l, hl.1⟩
      have hl' : l = (σ j).val := by rw [hj]
      rw [Finset.mem_image]
      have hj63 : j.val < 63 := by
        by_contra hc
        rcases Nat.lt_or_ge 63 j.val with h | h
        · have := ha ⟨63, by decide⟩ j h
          have h2 := hl.2
          rw [hl'] at h2
          omega
        · have e : j = ⟨63, by decide⟩ := Fin.ext (by show j.val = 63; omega)
          have h2 := hl.2
          rw [hl', e] at h2
          exact absurd h2 (lt_irrefl _)
      exact ⟨⟨j.val, hj63⟩, Finset.mem_univ _, hl'.symm⟩
    refine Nat.lt_of_le_of_lt ((Finset.card_le_card hsub).trans Finset.card_image_le) ?_
    rw [Finset.card_univ, Fintype.card_fin]
    decide
  · rw [Nat.count_eq_card_filter_range]
    have hsub : Finset.univ.image (fun j : Fin 64 => (σ ⟨j.val, by have := j.isLt; omega⟩).val)
        ⊆ (Finset.range 16384).filter (fun l => keyN (w (σ ⟨63, by decide⟩).val) ≤ keyN (w l)) := by
      intro l hl
      obtain ⟨j, -, hj⟩ := Finset.mem_image.mp hl
      rw [Finset.mem_filter, Finset.mem_range, ← hj]
      refine ⟨(σ _).isLt, ?_⟩
      rcases Nat.lt_or_ge j.val 63 with h | h
      · exact ha ⟨j.val, by omega⟩ ⟨63, by decide⟩ h
      · have e : (⟨j.val, by have := j.isLt; omega⟩ : Fin 16384) = ⟨63, by decide⟩ := Fin.ext (by have := j.isLt; show j.val = 63; omega)
        rw [e]
    refine Nat.le_trans (le_of_eq ?_) (Finset.card_le_card hsub)
    refine Eq.trans ?_ (Finset.card_image_of_injective (f := fun j : Fin 64 => (σ ⟨j.val, by have := j.isLt; omega⟩).val) Finset.univ ?_).symm
    · rw [Finset.card_univ, Fintype.card_fin]
    · intro a b h
      have h' := congrArg Fin.val (hi (Fin.ext h))
      exact Fin.ext h'

/-- Greater in the order of the reference's comparison is a greater key. -/
theorem gt_eq (a b : BitVec 32) : (FloatOps.cmpfTotal (F := Bits) (φ := .f32) .gt a b == 1#1) = decide (keyN b < keyN a) := by
  have h : FloatOps.cmpfTotal (F := Bits) (φ := .f32) .gt a b = IntOp.cmpi .ugt (mono a) (mono b) := by
    rw [mono_eq_totalOrderKey, mono_eq_totalOrderKey]; rfl
  rw [h]
  unfold keyN
  show (BitVec.ofBool ((mono b).ult (mono a)) == 1#1) = _
  rw [BitVec.ult]
  by_cases hlt : (mono b).toNat < (mono a).toNat
  · rw [decide_eq_true hlt]; rfl
  · rw [decide_eq_false hlt]; rfl

/-- Element `l` of row `r` of the latents. -/
def latOf (x : Cert.Reference.S2048x16384.Idx → BitVec 32) (r l : ℕ) : BitVec 32 :=
  if h : r < 2048 ∧ l < 16384 then x (fun a => Fin.cases ⟨r, h.1⟩ (fun b => Fin.cases ⟨l, h.2⟩ (fun c => c.elim0) b) a) else 0#32

theorem latOf_eq (x : Cert.Reference.S2048x16384.Idx → BitVec 32) (j : Cert.Reference.S2048x16384.Idx) : latOf x (j 0).val (j 1).val = x j := by
  unfold latOf
  rw [dif_pos ⟨(j 0).isLt, (j 1).isLt⟩]
  refine congrArg x (funext fun a => ?_)
  match a with
  | ⟨0, _⟩ => rfl
  | ⟨1, _⟩ => rfl

/-- The reference's result. -/
def refOut (x : Cert.Reference.S2048x16384.Idx → BitVec 32) : Cert.Reference.S2048x1.Idx → BitVec 32 :=
  extractStridedSlice Cert.Reference.S2048x1 ![0, 63]
    ((Host.topK Cert.Reference.S2048x64 1 (FloatOps.cmpfTotal (F := Bits) (φ := .f32) .gt) x Cert.Reference.Gen.sliceFits_S2048x16384_S2048x64).1)
    Cert.Reference.Gen.slices_S2048x64_S2048x1_0_63

theorem sort2_fst {s : Shape} {d : ℕ} {α β : Type} (cmp : α × β → α × β → BitVec 1) (x : s.Idx → α) (y : s.Idx → β) (hd : d < s.rank) (j : s.Idx) :
    (Host.sort2 s d cmp x y).1 j
      = x (j.along ⟨d, hd⟩ (sortedFrom (fun k k' => cmp (x (j.along ⟨d, hd⟩ k), y (j.along ⟨d, hd⟩ k)) (x (j.along ⟨d, hd⟩ k'), y (j.along ⟨d, hd⟩ k')) == 1#1)
          (j ⟨d, hd⟩))) := by
  unfold Host.sort2
  rw [dif_pos hd]

theorem slice_at {s t : Shape} {α : Type} (off : Fin s.rank → ℕ) (x : s.Idx → α) (h : s.Slices off t) (y : t.Idx) :
    ∃ j : s.Idx, (∀ a, (j a).val = off a + (y (a.cast h.1.symm)).val) ∧ extractStridedSlice t off x h y = x j := ⟨_, fun _ => rfl, rfl⟩

theorem topK_at {s t : Shape} {d : ℕ} {α : Type} (gt : α → α → BitVec 1) (x : s.Idx → α) (h : s.Slices (fun _ => 0) t) (y : t.Idx) (hd : d < s.rank) :
    ∃ j : s.Idx, (∀ a, (j a).val = (y (a.cast h.1.symm)).val) ∧
      (Host.topK t d gt x h).1 y = x (j.along ⟨d, hd⟩ (sortedFrom (fun k k' => gt (x (j.along ⟨d, hd⟩ k)) (x (j.along ⟨d, hd⟩ k')) == 1#1) (j ⟨d, hd⟩))) := by
  unfold Host.topK
  obtain ⟨j, hj, e⟩ := slice_at (fun _ => 0) (Host.sort2 s d (fun l r => gt l.1 r.1) x
    (fun i => if hd : d < s.rank then iotaInDim s 32 ⟨d, hd⟩ i else 0#32)).1 h y
  exact ⟨j, fun a => (hj a).trans (Nat.zero_add _), e.trans (sort2_fst _ _ _ hd _)⟩

/-- The reference's result is an element of the sorted row. -/
theorem refOut_sorted (x : Cert.Reference.S2048x16384.Idx → BitVec 32) (y : Cert.Reference.S2048x1.Idx) :
    ∃ j : Cert.Reference.S2048x16384.Idx, (j 0).val = (y 0).val ∧ (j 1).val = 63 ∧
      refOut x y = x (j.along 1 (sortedFrom (fun k k' => FloatOps.cmpfTotal (F := Bits) (φ := .f32) .gt (x (j.along 1 k)) (x (j.along 1 k')) == 1#1) (j 1))) := by
  unfold refOut
  obtain ⟨j, hj, e⟩ := slice_at ![0, 63]
    ((Host.topK Cert.Reference.S2048x64 1 (FloatOps.cmpfTotal (F := Bits) (φ := .f32) .gt) x Cert.Reference.Gen.sliceFits_S2048x16384_S2048x64).1)
    Cert.Reference.Gen.slices_S2048x64_S2048x1_0_63 y
  obtain ⟨k, hk, e'⟩ := topK_at (FloatOps.cmpfTotal (F := Bits) (φ := .f32) .gt) x Cert.Reference.Gen.sliceFits_S2048x16384_S2048x64 j
    (show 1 < Cert.Reference.S2048x16384.rank by decide)
  refine ⟨k, (hk 0).trans ((hj 0).trans (Nat.zero_add _)), (hk 1).trans ((hj 1).trans ?_), e.trans e'⟩
  show 63 + (y 1).val = 63
  have h : (y 1).val < 1 := (y 1).isLt
  omega

theorem refOut_eq (x : Cert.Reference.S2048x16384.Idx → BitVec 32) (y : Cert.Reference.S2048x1.Idx) :
    refOut x y = kth (latOf x (y 0).val) := by
  apply IsKth.eq_kth
  obtain ⟨j, h0, h1, e⟩ := refOut_sorted x y
  let B : Fin 16384 → Fin 16384 → Bool := fun k k' => decide (keyN (latOf x (y 0).val k'.val) < keyN (latOf x (y 0).val k.val))
  have hrow : ∀ k : Fin 16384, x (j.along 1 k) = latOf x (y 0).val k.val := fun k =>
    (latOf_eq x (j.along 1 k)).symm.trans (congrArg (fun r => latOf x r k.val) h0)
  have hB : (fun k k' : Fin 16384 => FloatOps.cmpfTotal (F := Bits) (φ := .f32) .gt (x (j.along 1 k)) (x (j.along 1 k')) == 1#1) = B :=
    funext fun k => funext fun k' => (gt_eq _ _).trans (by rw [hrow k, hrow k'])
  have h63 : j 1 = (⟨63, by decide⟩ : Fin 16384) := Fin.ext h1
  have e' : refOut x y = latOf x (y 0).val (sortedFrom B ⟨63, by decide⟩).val :=
    e.trans ((hrow _).trans (congrArg (latOf x (y 0).val) (congrArg Fin.val (congrArg₂ sortedFrom hB h63))))
  rw [e']
  refine isKth_of_sorted _ _ (sortedFrom_injective B) (sortedFrom_surjective B) (fun a b hab => ?_)
  have h := sortedFrom_noInversion B B (fun a b h => ?_) (fun a b h => h) (fun a b c h1 h2 => ?_) a b hab
  · exact Nat.le_of_not_lt (of_decide_eq_false h)
  · have := of_decide_eq_true h
    exact decide_eq_false (by omega)
  · have := of_decide_eq_false h1
    have := of_decide_eq_false h2
    exact decide_eq_false (by omega)

end Cert.Proof.Thresh
-- ==== Proof.Task.lean ====
/-
  What the call hands each tile and takes back. A tile reads the latents through a thirty-second of them, halved between
  its two streams of copies, and owns 64 elements of the result, which end at `expOut`: the 64-th largest latent of each
  row. `tile_body` is `wp_tile` on the tile's own buffers and semaphores; `tileObl` is the launch's form of it.
-/
module

public import proofs.«01_k».proof.Proof.Tile
public import proofs.«01_k».proof.Proof.TopK

@[expose] public section

noncomputable section

namespace Cert.Proof.Thresh

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

open Idealize.ShloMosaic.SparseCore.Cfg (HIx ownBufs ownSems0 ownCells ownRefs mem_ownCells mem_ownRefs)

variable (m : (ℓ : Loc nD τ sig) → Buf (Elt Bits) ℓ)

abbrev xLoc (d : Dev nD) : Loc nD τ sig := (SparseCore.T d).loc main_arg0
abbrev oLoc (d : Dev nD) : Loc nD τ sig := (SparseCore.T d).loc main_v0

/-- The result's rows: the 64-th largest of the row's latents. -/
def expOut (d : Dev nD) : Buf (Elt Bits) (oLoc d) := fun (j : S2048.Idx) => (kth (latOf (m (xLoc d)) (j 0).val) : BitVec 32)

/-- The elements of the result that belong to the tile at `i`. -/
def oSet (i : grid0.Coords) : Finset S2048.Idx :=
  Finset.univ.filter fun j => 128 * (i 1).val + 64 * (i 0).val ≤ (j 0).val ∧ (j 0).val < 128 * (i 1).val + 64 * (i 0).val + 64

/-- The tile's share of the latents. -/
def tok (i : grid0.Coords) : PosShare TreeShare :=
  ShareLeaves.leaf 4 (ShareLeaves.leaf 1 fullShare ⟨(i 0).val, (i 0).isLt⟩) ⟨(i 1).val, (i 1).isLt⟩

def taskRes (d : Dev nD) (i : grid0.Coords) (f : Buf (Elt Bits) (oLoc d)) : sProp 𝕄 :=
  iprop((xLoc d ↦{(tok i).left} m (xLoc d)) ∗ (xLoc d ↦{(tok i).right} m (xLoc d)) ∗ (oLoc d ↦[oSet i]{fullShare} f))

instance taskRes_storable (d : Dev nD) (i : grid0.Coords) (f : Buf (Elt Bits) (oLoc d)) : BI.Storable (upEmb : UEmb _ 𝕄) (taskRes m d i f) := by
  unfold taskRes; infer_instance

def coordsV (c : Fin (grid0.bound 0)) (s : Fin (grid0.bound 1)) : grid0.Coords :=
  fun | 0 => c | 1 => s | ⟨_ + 2, h⟩ => absurd h (Nat.not_lt.2 (Nat.le_add_left _ _))

def coreRes (d : Dev nD) (c : Fin (grid0.bound 0)) (f : Buf (Elt Bits) (oLoc d)) : sProp 𝕄 :=
  bigSep Finset.univ fun s : Fin (grid0.bound 1) => taskRes m d (coordsV c s) f

instance coreRes_storable (d : Dev nD) (c : Fin (grid0.bound 0)) (f : Buf (Elt Bits) (oLoc d)) : BI.Storable (upEmb : UEmb _ 𝕄) (coreRes m d c f) := by
  unfold coreRes; infer_instance

theorem nCore_zero : K.nCore 0 = grid0.bound 0 := rfl
theorem nSub_zero : K.nSub 0 = grid0.bound 1 := rfl

/-- The call's payloads. -/
def P : K.Pay (nD := nD) (Val := Elt Bits) (Name := ℕ) (U := UU) where
  st := fun q d c => match q with | 0 => coreRes m d (Fin.cast nCore_zero c) (m (oLoc d))
  dn := fun q d c => match q with | 0 => coreRes m d (Fin.cast nCore_zero c) (expOut m d)
  go := fun q d c s => match q with | 0 => taskRes m d (coordsV (Fin.cast nCore_zero c) (Fin.cast nSub_zero s)) (m (oLoc d))
  td := fun q d c s => match q with | 0 => taskRes m d (coordsV (Fin.cast nCore_zero c) (Fin.cast nSub_zero s)) (expOut m d)
  x := fun _ _ => iprop(emp)

instance P_storable : (P m).IsStorable where
  st q d c := match q with | 0 => coreRes_storable m d _ _
  dn q d c := match q with | 0 => coreRes_storable m d _ _
  go q d c s := match q with | 0 => taskRes_storable m d _ _
  td q d c s := match q with | 0 => taskRes_storable m d _ _

/-! ## The tile's own buffers and semaphores -/

section Tile

variable (d : Dev nD) (i : grid0.Coords)

abbrev cell (d : Dev nD) (i : grid0.Coords) (s : DmaSems sig S_) : GSem nD τ sig := ((thrOf d i), .dma s.sem)

theorem cells_ne : (SemLoc.dma cc0_scratch6.sem : SemLoc sig) ≠ .dma cc0_scratch7.sem ∧ (SemLoc.dma cc0_scratch6.sem : SemLoc sig) ≠ .dma cc0_scoped0.sem
    ∧ (SemLoc.dma cc0_scratch7.sem : SemLoc sig) ≠ .dma cc0_scoped0.sem := by decide

theorem mem_cell (s : DmaSems sig S_) (h : (SemLoc.dma s.sem : SemLoc sig).isScoped .scVector = true) : cell d i s ∈ ownCells (thrOf d i) :=
  (mem_ownCells (g := cell d i s)).mpr ⟨rfl, h⟩

theorem ownSems0_V :
    (ownSems0 (thrOf d i) : sProp 𝕄)
      = iprop(semVal (cell d i cc0_scratch6) 0 ∗ semVal (cell d i cc0_scratch7) 0 ∗ semVal (cell d i cc0_scoped0) 0
          ∗ bigSep ((((ownCells (thrOf d i)).erase (cell d i cc0_scratch6)).erase (cell d i cc0_scratch7)).erase (cell d i cc0_scoped0)) fun g => semVal g 0) := by
  unfold SparseCore.Cfg.ownSems0
  obtain ⟨h1, h2, h3⟩ := cells_ne
  rw [SparseCore.bigSep_erase' (mem_cell d i cc0_scratch6 (by decide)),
    SparseCore.bigSep_erase' (Finset.mem_erase.mpr ⟨fun e => h1 (congrArg Prod.snd e).symm, mem_cell d i cc0_scratch7 (by decide)⟩),
    SparseCore.bigSep_erase' (Finset.mem_erase.mpr ⟨fun e => h3 (congrArg Prod.snd e).symm, Finset.mem_erase.mpr ⟨fun e => h2 (congrArg Prod.snd e).symm, mem_cell d i cc0_scoped0 (by decide)⟩⟩)]

abbrev dref (i : grid0.Coords) (r : Ref sig .scVector) : DevRef τ sig := (Proc.scVector ((i 0).castLE hcore0) ((i 1).castLE hsub0)).devRef r

theorem dref_ne (i : grid0.Coords) {r r' : Ref sig .scVector} (h : r ≠ r') : dref i r ≠ dref i r' := fun e => h (Proc.devRef_injective _ e)

theorem mem_ref (i : grid0.Coords) (r : Ref sig .scVector) (h : (dref i r).owner = .proc (Proc.scVector ((i 0).castLE hcore0) ((i 1).castLE hsub0))) :
    dref i r ∈ ownRefs (τ := τ) (Proc.scVector ((i 0).castLE hcore0) ((i 1).castLE hsub0)) := SparseCore.Cfg.mem_ownRefs_of_owner h

/-- The buffer `r` at some contents. -/
abbrev some1 (d : Dev nD) (i : grid0.Coords) (r : Ref sig .scVector) : sProp 𝕄 := iprop(∃ f, ((thrOf d i)).loc r ↦{fullShare} f)

/-- The subcore's other buffers. -/
def otherBufs (d : Dev nD) (i : grid0.Coords) : sProp 𝕄 :=
  bigSep (((((((ownRefs (τ := τ) (sig := sig) (Proc.scVector ((i 0).castLE hcore0) ((i 1).castLE hsub0))).erase (dref i cc0_scratch0)).erase (dref i cc0_scratch1)).erase (dref i cc0_scratch2)).erase
      (dref i cc0_scratch3)).erase (dref i cc0_scratch4)).erase (dref i cc0_scratch5)) fun b => iprop(∃ f, ((d, b) : Loc nD τ sig) ↦{fullShare} f)

theorem ownBufs_V :
    (ownBufs (thrOf d i) : sProp 𝕄)
      = iprop(some1 d i cc0_scratch0 ∗ some1 d i cc0_scratch1 ∗ some1 d i cc0_scratch2 ∗ some1 d i cc0_scratch3 ∗ some1 d i cc0_scratch4 ∗ some1 d i cc0_scratch5 ∗ otherBufs d i) := by
  unfold SparseCore.Cfg.ownBufs otherBufs
  refine (SparseCore.bigSep_erase' (mem_ref i cc0_scratch0 rfl)).trans ?_
  rw [SparseCore.bigSep_erase' (Finset.mem_erase.mpr ⟨dref_ne i (show (cc0_scratch1 : Ref sig .scVector) ≠ cc0_scratch0 by decide), mem_ref i cc0_scratch1 rfl⟩),
    SparseCore.bigSep_erase' (Finset.mem_erase.mpr ⟨dref_ne i (show (cc0_scratch2 : Ref sig .scVector) ≠ cc0_scratch1 by decide), Finset.mem_erase.mpr ⟨dref_ne i (show (cc0_scratch2 : Ref sig .scVector) ≠ cc0_scratch0 by decide), mem_ref i cc0_scratch2 rfl⟩⟩),
    SparseCore.bigSep_erase' (Finset.mem_erase.mpr ⟨dref_ne i (show (cc0_scratch3 : Ref sig .scVector) ≠ cc0_scratch2 by decide), Finset.mem_erase.mpr ⟨dref_ne i (show (cc0_scratch3 : Ref sig .scVector) ≠ cc0_scratch1 by decide), Finset.mem_erase.mpr ⟨dref_ne i (show (cc0_scratch3 : Ref sig .scVector) ≠ cc0_scratch0 by decide), mem_ref i cc0_scratch3 rfl⟩⟩⟩),
    SparseCore.bigSep_erase' (Finset.mem_erase.mpr ⟨dref_ne i (show (cc0_scratch4 : Ref sig .scVector) ≠ cc0_scratch3 by decide), Finset.mem_erase.mpr ⟨dref_ne i (show (cc0_scratch4 : Ref sig .scVector) ≠ cc0_scratch2 by decide), Finset.mem_erase.mpr ⟨dref_ne i (show (cc0_scratch4 : Ref sig .scVector) ≠ cc0_scratch1 by decide), Finset.mem_erase.mpr ⟨dref_ne i (show (cc0_scratch4 : Ref sig .scVector) ≠ cc0_scratch0 by decide), mem_ref i cc0_scratch4 rfl⟩⟩⟩⟩),
    SparseCore.bigSep_erase' (Finset.mem_erase.mpr ⟨dref_ne i (show (cc0_scratch5 : Ref sig .scVector) ≠ cc0_scratch4 by decide), Finset.mem_erase.mpr ⟨dref_ne i (show (cc0_scratch5 : Ref sig .scVector) ≠ cc0_scratch3 by decide), Finset.mem_erase.mpr ⟨dref_ne i (show (cc0_scratch5 : Ref sig .scVector) ≠ cc0_scratch2 by decide), Finset.mem_erase.mpr ⟨dref_ne i (show (cc0_scratch5 : Ref sig .scVector) ≠ cc0_scratch1 by decide), Finset.mem_erase.mpr ⟨dref_ne i (show (cc0_scratch5 : Ref sig .scVector) ≠ cc0_scratch0 by decide), mem_ref i cc0_scratch5 rfl⟩⟩⟩⟩⟩)]

/-! ## The tile's run -/

theorem has1_some {N : ℕ} {e : EltTy} (B : Memref sig .scVector .vmem ⟨1, ![N]⟩ e) (hN : 0 < N) :
    iprop(∃ f, B.view.loc (thrOf d i) ↦{fullShare} f) ⊢ iprop(∃ w : ℕ → Elt Bits e, Has1 (thrOf d i) B w) := by
  iintro ⟨%f, H⟩
  iexists (fun n => B.view.read (Elt Bits) f fun a => if h : n < N then ⟨n, by rw [Fin.eq_zero a]; exact h⟩ else ⟨0, by rw [Fin.eq_zero a]; exact hN⟩)
  iapply (has1_intro d i (funext fun j => ?_)) $$ H
  refine congrArg _ (funext fun a => ?_)
  have ha : a = 0 := Fin.eq_zero a
  subst ha
  have hj : (j 0).val < N := (j 0).isLt
  rw [dif_pos hj]

theorem some_has1 {N : ℕ} {e : EltTy} (B : Memref sig .scVector .vmem ⟨1, ![N]⟩ e) :
    iprop(∃ w : ℕ → Elt Bits e, Has1 (thrOf d i) B w) ⊢ iprop(∃ f, B.view.loc (thrOf d i) ↦{fullShare} f) := by
  unfold Has1
  iintro ⟨%w, %f, -, H⟩
  iexists f
  iexact H

abbrev xV : Memref sig .scVector .hbm S2048x16384 .f32 := Memref.whole main_arg0_scv
abbrev oV : Memref sig .scVector .hbm S2048 .f32 := Memref.whole main_v0_scv

theorem mem_outM (j : S2048.Idx) : j ∈ (outM i oV).view.set ↔ j ∈ oSet i := by
  have h : j ∈ (Rect.unit (s := S2048) (k0_off23 i) S64.size (k0_off23_inb i)).set ↔ j ∈ oSet i := by
    rw [Rect.mem_set_unit, k0_off23_eq]
    unfold oSet
    rw [Finset.mem_filter]
    constructor
    · intro h
      exact ⟨Finset.mem_univ _, h 0⟩
    · intro h a
      rw [Fin.eq_zero a]
      exact h.2
  show j ∈ ((View.whole main_v0_scv).slice (Rect.unit (s := S2048) (k0_off23 i) S64.size (k0_off23_inb i))).set ↔ j ∈ oSet i
  rw [View.set_slice_whole]
  exact h

theorem set_outM : (outM i oV).view.set = oSet i := Finset.ext fun j => mem_outM i j

theorem out_congr (g : Buf (Elt Bits) ((outM i oV).view.loc (thrOf d i)))
    (hg : (outM i oV).view.read (Elt Bits) g = fun y => ansOf i (latOf (m (xLoc d))) (y 0).val) :
    ((outM i oV).view.loc (thrOf d i) ↦[(outM i oV).view.set]{fullShare} g : sProp 𝕄) = oLoc d ↦[oSet i]{fullShare} expOut m d := by
  rw [← set_outM]
  refine pointsTo_congr fun j hj => ?_
  obtain ⟨y, -, rfl⟩ := Finset.mem_map.mp hj
  have h := congrFun hg y
  refine Eq.trans (show _ = (outM i oV).view.read (Elt Bits) g y from rfl) (h.trans ?_)
  have hv : (((outM i oV).view.emb y 0 : Fin _) : ℕ) = 128 * (i 1).val + 64 * (i 0).val + (y 0).val := by
    have h1 : (((outM i oV).view.emb y 0 : Fin _) : ℕ) = k0_off23 i 0 + 1 * (y 0).val := rfl
    rw [h1, k0_off23_eq, Nat.one_mul]
    rfl
  show kth _ = kth _
  exact congrArg (fun r => kth (latOf (m (xLoc d)) r)) hv.symm

theorem owed_eq (O : CellTallies nD τ sig (HIx 1)) (W : Waits sig (HIx 1)) :
    Owed (thrOf d i) O W = iprop(∃ W', ⌜∀ p ∈ W', p ∈ W ∨ p.2 = none⌝ ∗ owes (thrOf d i) O W') := rfl

theorem tile_body (O : CellTallies nD τ sig (HIx 1)) (W : Waits sig (HIx 1)) (hO : ∀ g, O g none = 0) :
    iprop(levAts K.L K.lev ∗ emp ∗ taskRes m d i (m (oLoc d)) ∗ scopedBufs (thrOf d i) ∗ scopedSems0 (thrOf d i) ∗ owes (thrOf d i) O W)
      ⊢ WPt d i (cc0__sc_thresh_kernel (F := Bits) i xV (Memref.isWhole_whole _) oV (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scoped0)
          (fun _ => iprop(taskRes m d i (expOut m d) ∗ scopedBufs (thrOf d i) ∗ scopedSems0 (thrOf d i) ∗ ∃ W', ⌜∀ p ∈ W', p ∈ W ∨ p.2 = none⌝ ∗ owes (thrOf d i) O W')) := by
  rw [K.scopedBufs_V facts d ((i 0).castLE hcore0) ((i 1).castLE hsub0), SparseCore.Cfg.scopedSems0_V (Val := Elt Bits) d ((i 0).castLE hcore0) ((i 1).castLE hsub0),
    ownSems0_V, ownBufs_V]
  unfold taskRes
  iintro ⟨#Hlv, -, ⟨Hxa, Hxb, Ho⟩, ⟨H4, H5, H6, H7, H8, H9, Hbufs⟩, ⟨Hs10, Hs11, Hs0, Hsems⟩, HO⟩
  ihave H4 := (has1_some d i (Memref.whole cc0_scratch0) (by decide)) $$ H4
  ihave H5 := (has1_some d i (Memref.whole cc0_scratch1) (by decide)) $$ H5
  ihave H6 := (has1_some d i (Memref.whole cc0_scratch2) (by decide)) $$ H6
  ihave H7 := (has1_some d i (Memref.whole cc0_scratch3) (by decide)) $$ H7
  ihave H8 := (has1_some d i (Memref.whole cc0_scratch4) (by decide)) $$ H8
  ihave H9 := (has1_some d i (Memref.whole cc0_scratch5) (by decide)) $$ H9
  icases H4 with ⟨%w4, H4⟩
  icases H5 with ⟨%w5, H5⟩
  icases H6 with ⟨%w6, H6⟩
  icases H7 with ⟨%w7, H7⟩
  icases H8 with ⟨%w8, H8⟩
  icases H9 with ⟨%w9, H9⟩
  ihave Ho := (Entails.of_eq (congrArg (fun I => (oLoc d ↦[I]{fullShare} m (oLoc d) : sProp 𝕄)) (set_outM i).symm)) $$ Ho
  ihave Hwp := (wp_tile d i xV (Memref.isWhole_whole _) oV (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scoped0 (qa := (tok i).left) (qb := (tok i).right) (f := m (xLoc d)) (lat := latOf (m (xLoc d)))
            (funext fun j => (latOf_eq (m (xLoc d)) j).symm) (m (oLoc d)) hO w4 w5 w6 w7 w8 w9) $$ [Hxa Hxb Ho H4 H5 H6 H7 H8 H9 Hs10 Hs11 Hs0 HO]
  · isplitr; · iexact Hlv
    isplitl [Hxa Hxb Ho]
    · isplitl [Hxa]; · iexact Hxa
      isplitl [Hxb] <;> iassumption
    isplitl [H4 H5 H6 H7 H8 H9]
    · isplitl [H4]; · iexact H4
      isplitl [H5]; · iexact H5
      isplitl [H6]; · iexact H6
      isplitl [H7]; · iexact H7
      isplitl [H8] <;> iassumption
    isplitl [Hs10 Hs11 Hs0]
    · isplitl [Hs10]; · iexact Hs10
      isplitl [Hs11] <;> iassumption
    iexact HO
  iapply (wp_wand frame _ _) $$ Hwp
  iintro %_ ⟨⟨Hxa, Hxb, %g', %hg', Ho⟩, ⟨H4, H5, H6, H7, H8, H9⟩, ⟨Hs10, Hs11, Hs0⟩, HO⟩
  ihave Ho := (Entails.of_eq (out_congr m d i g' hg')) $$ Ho
  ihave H4 := (some_has1 d i (Memref.whole cc0_scratch0)) $$ H4
  ihave H5 := (some_has1 d i (Memref.whole cc0_scratch1)) $$ H5
  ihave H6 := (some_has1 d i (Memref.whole cc0_scratch2)) $$ H6
  ihave H7 := (some_has1 d i (Memref.whole cc0_scratch3)) $$ H7
  ihave H8 := (some_has1 d i (Memref.whole cc0_scratch4)) $$ H8
  ihave H9 := (some_has1 d i (Memref.whole cc0_scratch5)) $$ H9
  isplitl [Hxa Hxb Ho]
  · isplitl [Hxa]; · iexact Hxa
    isplitl [Hxb] <;> iassumption
  isplitl [H4 H5 H6 H7 H8 H9 Hbufs]
  · isplitl [H4]; · iexact H4
    isplitl [H5]; · iexact H5
    isplitl [H6]; · iexact H6
    isplitl [H7]; · iexact H7
    isplitl [H8]; · iexact H8
    isplitl [H9] <;> iassumption
  isplitl [Hs10 Hs11 Hs0 Hsems]
  · isplitl [Hs10]; · iexact Hs10
    isplitl [Hs11]; · iexact Hs11
    isplitl [Hs0] <;> iassumption
  iapply (Entails.of_eq (owed_eq d i O W)) $$ HO

end Tile

/-! ## The tile's obligation to the launch -/

theorem defs₀_vector (c : Fin τ.nSC) (s : Fin τ.nSub) :
    defs₀ (F := Bits) (.scVector c s) 0 ()
      = SparseCore.onTile hcore0 hsub0 (fun c s => cc0__sc_thresh_kernel (F := Bits) (coordsV c s) xV (Memref.isWhole_whole _) oV (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  iexact HO

set_option maxRecDepth 16384 in
theorem tileObl : K.TileObl D 𝒱 (P m) v₀ 0 := by
  intro d c i O W hO _ _
  simp only [show (P m).ox = fun _ _ => 0 from rfl, add_zero]
  have hci : (K.core 0 c).val < grid0.bound 0 ∧ (K.sub 0 i).val < grid0.bound 1 := ⟨c.isLt, i.isLt⟩
  change _ ⊢ wp _ _ _ (Pipeline.liftProg (defs₀ (F := Bits) (.scVector (K.core 0 c) (K.sub 0 i)) 0 ())) _
  refine BI.Entails.trans ?_ (Pipeline.wp_liftProg D (Pipeline.defs_kernel pcfgs defs₀) 𝒱₀ _ Set.univ none _ _)
  rw [defs₀_vector]
  simp only [SparseCore.onTile, hci, and_self, ↓reduceDIte]
  exact (tile_body m d (coordsV ⟨_, hci.1⟩ ⟨_, hci.2⟩) O W hO).trans (wp_mono frame _ _ fun _ => obl_post)

end Cert.Proof.Thresh
-- ==== Proof.Launch.lean ====
/-
  The kernel program's run. The latents are cut into the tiles' shares and the result into the tiles' rows (`x_split`,
  `o_split`), so that the call takes both whole and hands both back whole; the reshape after it copies the result out.
  `run_main`: from any memory the program runs, the latents end as they were, and row `r` of the result is the 64-th
  largest latent of row `r`.
-/
module

public import proofs.«01_k».proof.Proof.Task

@[expose] public section

noncomputable section

namespace Cert.Proof.Thresh

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

open Idealize.SL.BI (bigSep_emp_const)
open Idealize.ShloMosaic.Rounds
open Idealize.ShloMosaic.StableHlo (held wp_hlo_within)

variable (m : (ℓ : Loc nD τ sig) → Buf (Elt Bits) ℓ) (ρ : Dev nD → PrngReg)

/-! ## The latents and the result, cut among the tiles -/

theorem x_split (d : Dev nD) :
    (xLoc d ↦{fullShare} m (xLoc d) : sProp 𝕄)
      = bigSep Finset.univ fun c : Fin (grid0.bound 0) => bigSep Finset.univ fun s : Fin (grid0.bound 1) =>
          iprop((xLoc d ↦{(tok (coordsV c s)).left} m (xLoc d)) ∗ xLoc d ↦{(tok (coordsV c s)).right} m (xLoc d)) := by
  refine (ShareLeaves.pointsTo_leaves Finset.univ (m (xLoc d)) 1 fullShare).trans (bigSep_congr fun c _ => ?_)
  refine (ShareLeaves.pointsTo_leaves Finset.univ (m (xLoc d)) 4 _).trans (bigSep_congr fun s _ => ?_)
  exact Entails.antisymm (pointsTo_share (PosShare.mem_left_op_right _)).1 (pointsTo_share (PosShare.mem_left_op_right _)).2

theorem mem_oSet (c : Fin (grid0.bound 0)) (s : Fin (grid0.bound 1)) (j : S2048.Idx) :
    j ∈ oSet (coordsV c s) ↔ 128 * s.val + 64 * c.val ≤ (j 0).val ∧ (j 0).val < 128 * s.val + 64 * c.val + 64 := by
  unfold oSet
  rw [Finset.mem_filter]
  exact and_iff_right (Finset.mem_univ _)

/-- The rows of one SparseCore. -/
def coreSet (c : Fin (grid0.bound 0)) : Finset S2048.Idx := Finset.univ.biUnion fun s : Fin (grid0.bound 1) => oSet (coordsV c s)

theorem mem_coreSet (c : Fin (grid0.bound 0)) (j : S2048.Idx) : j ∈ coreSet c ↔ (j 0).val / 64 % 2 = c.val := by
  unfold coreSet
  have hc : c.val < 2 := c.isLt
  have hj : (j 0).val < 2048 := (j 0).isLt
  constructor
  · intro h
    obtain ⟨s, -, h⟩ := Finset.mem_biUnion.mp h
    obtain ⟨h1, h2⟩ := (mem_oSet c s j).mp h
    omega
  · intro h
    refine Finset.mem_biUnion.mpr ⟨⟨(j 0).val / 128, show (j 0).val / 128 < 16 by omega⟩, Finset.mem_univ _, (mem_oSet c _ j).mpr ?_⟩
    show 128 * ((j 0).val / 128) + 64 * c.val ≤ (j 0).val ∧ (j 0).val < 128 * ((j 0).val / 128) + 64 * c.val + 64
    omega

theorem cores_cover : (Finset.univ.biUnion coreSet) = (Finset.univ : Finset S2048.Idx) := by
  refine Finset.ext fun j => iff_of_true (Finset.mem_biUnion.mpr ⟨⟨(j 0).val / 64 % 2, show (j 0).val / 64 % 2 < 2 by omega⟩, Finset.mem_univ _, ?_⟩) (Finset.mem_univ _)
  exact (mem_coreSet _ j).mpr rfl

theorem cores_disjoint : ∀ c ∈ (Finset.univ : Finset (Fin (grid0.bound 0))), ∀ c' ∈ (Finset.univ : Finset (Fin (grid0.bound 0))), c ≠ c' → Disjoint (coreSet c) (coreSet c') := by
  intro c _ c' _ h
  refine Finset.disjoint_left.mpr fun j hj hj' => h (Fin.ext ?_)
  exact ((mem_coreSet c j).mp hj).symm.trans ((mem_coreSet c' j).mp hj')

theorem tiles_disjoint (c : Fin (grid0.bound 0)) :
    ∀ s ∈ (Finset.univ : Finset (Fin (grid0.bound 1))), ∀ s' ∈ (Finset.univ : Finset (Fin (grid0.bound 1))), s ≠ s' → Disjoint (oSet (coordsV c s)) (oSet (coordsV c s')) := by
  intro s _ s' _ h
  refine Finset.disjoint_left.mpr fun j hj hj' => h (Fin.ext ?_)
  obtain ⟨h1, h2⟩ := (mem_oSet c s j).mp hj
  obtain ⟨h3, h4⟩ := (mem_oSet c s' j).mp hj'
  omega

theorem o_split (d : Dev nD) (f : Buf (Elt Bits) (oLoc d)) :
    (oLoc d ↦{fullShare} f : sProp 𝕄)
      = bigSep Finset.univ fun c : Fin (grid0.bound 0) => bigSep Finset.univ fun s : Fin (grid0.bound 1) => oLoc d ↦[oSet (coordsV c s)]{fullShare} f := by
  refine Eq.trans (congrArg (fun I : Finset (Idx (oLoc d)) => (oLoc d ↦[I]{fullShare} f : sProp 𝕄)) cores_cover.symm) ?_
  refine (pointsTo_biUnion (ℓ := oLoc d) Finset.univ coreSet cores_disjoint).trans (bigSep_congr fun c _ => ?_)
  exact pointsTo_biUnion (ℓ := oLoc d) Finset.univ (fun s => oSet (coordsV c s)) (tiles_disjoint c)

theorem cores_eq (d : Dev nD) (f : Buf (Elt Bits) (oLoc d)) :
    (bigSep Finset.univ fun c : Fin (grid0.bound 0) => coreRes m d c f) = iprop((xLoc d ↦{fullShare} m (xLoc d)) ∗ oLoc d ↦{fullShare} f) := by
  rw [x_split, o_split, ← bigSep_sep']
  refine bigSep_congr fun c _ => ?_
  unfold coreRes
  rw [← bigSep_sep']
  refine bigSep_congr fun s _ => ?_
  unfold taskRes
  exact Entails.antisymm BI.sep_assoc' BI.sep_assoc

/-- What the call takes for its SparseCores, and what it hands back. -/
theorem st0_eq (d : Dev nD) : (bigSep Finset.univ fun c : Fin (K.nCore 0) => (P m).st 0 d c) = iprop((xLoc d ↦{fullShare} m (xLoc d)) ∗ oLoc d ↦{fullShare} m (oLoc d)) :=
  cores_eq m d (m (oLoc d))
theorem dn0_eq (d : Dev nD) : (bigSep Finset.univ fun c : Fin (K.nCore 0) => (P m).dn 0 d c) = iprop((xLoc d ↦{fullShare} m (xLoc d)) ∗ oLoc d ↦{fullShare} expOut m d) :=
  cores_eq m d (expOut m d)

theorem tasks_eq (d : Dev nD) (c : Fin (K.nCore 0)) (f : Buf (Elt Bits) (oLoc d)) :
    (bigSep Finset.univ fun s : Fin (K.nSub 0) => taskRes m d (coordsV (Fin.cast nCore_zero c) (Fin.cast nSub_zero s)) f) = coreRes m d (Fin.cast nCore_zero c) f := rfl

theorem vecSplit : K.VecSplit' (P m) 0 := by
  intro d c
  show coreRes m d (Fin.cast nCore_zero c) (m (oLoc d)) ⊢ |={Set.univ}=> iprop(
      (bigSep Finset.univ fun s : Fin (K.nSub 0) => taskRes m d (coordsV (Fin.cast nCore_zero c) (Fin.cast nSub_zero s)) (m (oLoc d)))
      ∗ ((bigSep Finset.univ fun s : Fin (K.nSub 0) => taskRes m d (coordsV (Fin.cast nCore_zero c) (Fin.cast nSub_zero s)) (expOut m d))
          -∗ coreRes m d (Fin.cast nCore_zero c) (expOut m d)))
  rw [tasks_eq, tasks_eq]
  iintro H
  imodintro
  isplitl [H]; · iexact H
  iintro H
  iexact H

/-! ## The ghost state at the launch -/

def u₀ : UU := (initOf K.hsCells K.hsToks, 1)

theorem hu₀ : (ownU u₀ : sProp 𝕄)
    ⊢ |={Set.univ}=> iprop(BI.own (EH (initOf K.hsCells K.hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) :=
    (bigSep_congr fun _ _ => bigSep_univ_of_subsingleton (0 : Fin 1)).trans (bigSep_emp_const Finset.univ)
  have hd : (bigSep Finset.univ fun _ : Dev nD => iprop(emp)) = (iprop(emp) : sProp 𝕄) := bigSep_emp_const Finset.univ
  rw [hx, hd]
  unfold u₀
  iintro Hu
  ihave H := (ownU_pair (initOf K.hsCells K.hsToks) (1 : Counters)) $$ Hu
  icases H with ⟨H, -⟩
  imodintro
  isplitl [H]; · iexact H
  isplitr <;> iempintro

/-! ## The program on the TensorCore -/

abbrev rLoc (d : Dev nD) : Loc nD τ sig := (SparseCore.T d).loc main_v1

abbrev bX : DevRef τ sig := Proc.devRef .tc (main_arg0 : Ref sig .tc)
abbrev bO : DevRef τ sig := Proc.devRef .tc (main_v0 : Ref sig .tc)
abbrev bR : DevRef τ sig := Proc.devRef .tc (main_v1 : Ref sig .tc)

abbrev arrays : Finset (DevRef τ sig) := {bX, bO, bR}

abbrev opCol : HloOp τ sig (Elt Bits) := StableHlo.reshape main_v0 main_v1 (rfl : (.f32 : EltTy) = .f32) shapeCasts_S2048_S2048x1

theorem opCol_bufs : opCol.bufs ⊆ arrays := show ({bO, bR} : Finset (DevRef τ sig)) ⊆ arrays by decide

theorem held_arrays (d : Dev nD) (W : Valuation τ sig (Elt Bits)) :
    (held (T d) arrays W : sProp 𝕄) = iprop((xLoc d ↦{fullShare} W bX) ∗ (oLoc d ↦{fullShare} W bO) ∗ rLoc d ↦{fullShare} W bR) := by
  unfold held arrays
  rw [SparseCore.bigSep_insert' (by decide), SparseCore.bigSep_insert' (by decide), bigSep_singleton]

theorem unscoped_arrays (d : Dev nD) (W : (b : Ref sig .tc) → Buf (Elt Bits) ((d.tc : Thread nD τ).loc b)) :
    (unscopedBufs d W : sProp 𝕄) = iprop((xLoc d ↦{fullShare} W main_arg0) ∗ (oLoc d ↦{fullShare} W main_v0) ∗ rLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- The arrays after the call: the result at its rows' 64-th largest latents, the others as at the launch. -/
def afterCall (d : Dev nD) : Valuation τ sig (Elt Bits) := Function.update (fun b => m (d, b)) bO (expOut m d)

theorem afterCall_x (d : Dev nD) : afterCall m d bX = m (xLoc d) := Function.update_of_ne (show bX ≠ bO by decide) _ _
theorem afterCall_o (d : Dev nD) : afterCall m d bO = expOut m d := Function.update_self _ _ _
theorem afterCall_r (d : Dev nD) : afterCall m d bR = m (rLoc d) := Function.update_of_ne (show bR ≠ bO by decide) _ _

/-- The program's result: a column, the 64-th largest latent of each row. -/
def resOut (d : Dev nD) : Buf (Elt Bits) (rLoc d) := fun (y : S2048x1.Idx) => (kth (latOf (m (xLoc d)) (y 0).val) : BitVec 32)

theorem column_eq (v : ℕ → BitVec 32) :
    shapeCast S2048x1 (fun j : S2048.Idx => v (j 0).val) shapeCasts_S2048_S2048x1 = fun y : S2048x1.Idx => v (y 0).val := by
  funext y
  have hk : (S2048.rowMajor fun a => ⟨(y 0).val, by rw [Fin.eq_zero a]; exact (y 0).isLt⟩).val = (S2048x1.rowMajor y).val := by
    have h1 : (y 1).val < 1 := (y 1).isLt
    rw [Shape.rowMajor_val_one, Shape.rowMajor_val_two]
    show (y 0).val = (y 0).val * 1 + (y 1).val
    omega
  unfold shapeCast
  exact congrArg (fun j : S2048.Idx => v (j 0).val) (Shape.reshapeEquiv_eq_of_rowMajor shapeCasts_S2048_S2048x1 hk)

theorem opCol_r (d : Dev nD) : opCol.result (afterCall m d) bR = resOut m d := by
  refine (StableHlo.reshape_result main_v0 main_v1 rfl shapeCasts_S2048_S2048x1 _ _ (afterCall m d)).trans ?_
  have e := afterCall_o m d
  show shapeCast S2048x1 (afterCall m d bO) shapeCasts_S2048_S2048x1 = _
  rw [e]
  exact column_eq fun r => kth (latOf (m (xLoc d)) r)

theorem opCol_x (d : Dev nD) : opCol.result (afterCall m d) bX = m (xLoc d) :=
  (opCol.result_of_not_mem (afterCall m d) (b := bX) (show bX ∉ ({bR} : Finset (DevRef τ sig)) by decide)).trans (afterCall_x m d)

theorem held_end (d : Dev nD) :
    (held (T d) arrays (opCol.result (afterCall m d)) : sProp 𝕄)
      = iprop((xLoc d ↦{fullShare} m (xLoc d)) ∗ (oLoc d ↦{fullShare} opCol.result (afterCall m d) bO) ∗ rLoc d ↦{fullShare} resOut m d) := by
  rw [held_arrays, opCol_x, opCol_r]

/-- What the program leaves: the latents as at the launch, the result at its value. -/
abbrev FIN (d : Dev nD) : sProp 𝕄 := iprop((xLoc d ↦{fullShare} m (xLoc d)) ∗ rLoc d ↦{fullShare} resOut m d)

theorem hmain (κ : GSem nD τ sig → ℕ) (d : Dev nD) :
    iprop(K.ctx EH (P m) κ ∗ K.tcSt EH d 0 ∗ K.tcRes m ρ d ∗ emp)
      ⊢ wp frame (wpE (K.defs D) 𝒱 (SparseCore.T d) none) Set.univ (main (F := Bits) d)
          fun _ => iprop(K.tcSt EH d 1 ∗ FIN m d ∗ K.tcEnd d) := by
  unfold SparseCore.Cfg.tcRes SparseCore.Cfg.tcEnd
  rw [unscoped_arrays]
  simp only [main, wp_bind, wp_pure]
  iintro ⟨#Hctx, Hst, ⟨Hb, ⟨Hx, Ho, Hr⟩, Hts, -⟩, -⟩
  iapply (K.wp_run D 𝒱 (EH := EH) (P := P m) κ d 0) $$ [Hst Hx Ho Hb Hr Hts]
  isplitr; · iexact Hctx
  isplitl [Hst]; · iexact Hst
  isplitl [Hx Ho]
  · rw [st0_eq]
    isplitl [Hx]; · iexact Hx
    iexact Ho
  iintro ⟨Hst, Hdn⟩
  ihave Hdn := (Entails.of_eq (dn0_eq m d)) $$ Hdn
  icases Hdn with ⟨Hx, Ho⟩
  iapply (wp_hlo_within 𝒱 (SparseCore.T d) none Set.univ (op := opCol) (S := arrays) opCol_bufs (V := afterCall m d)) $$ [Hb Hx Ho Hr]
  · isplitl [Hb]; · iexact Hb
    rw [held_arrays, afterCall_x, afterCall_o, afterCall_r]
    isplitl [Hx]; · iexact Hx
    isplitl [Ho]; · iexact Ho
    iexact Hr
  iintro ⟨Hb, Hheld⟩
  ihave Hh := (Entails.of_eq (held_end m d)) $$ Hheld
  icases Hh with ⟨Hx, -, Hr⟩
  rw [wp_ret]
  imodintro
  imodintro
  isplitl [Hst]; · iexact Hst
  isplitr [Hb Hts]
  · isplitl [Hx]; · iexact Hx
    iexact Hr
  isplitl [Hb] <;> iassumption

def fq (d : Dev nD) (s' : Phys nD τ sig (Elt Bits)) : Prop := s'.mem.mem (rLoc d) = resOut m d ∧ s'.mem.mem (xLoc d) = m (xLoc d)

set_option maxRecDepth 16384 in
theorem hfin (d : Dev nD) (s' : Phys nD τ sig (Elt Bits)) : iprop(FIN m d ∗ SI s') ⊢ (⌜fq m d s'⌝ : sProp 𝕄) := by
  iintro ⟨⟨Hx, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := rLoc d) (I := Finset.univ) (q := fullShare) (f := resOut m d)) $$ [HSI Hr]
  · isplitl [HSI] <;> iassumption
  icases H with %hr
  ipureintro
  exact ⟨funext fun j => hr j (Finset.mem_univ j), funext fun j => hx j (Finset.mem_univ j)⟩

def QC : PUnit × MemSt nD τ sig (Elt Bits) → Prop := fun r => (∀ c : Dev nD, r.2.mem (rLoc c) = resOut m c ∧ r.2.mem (xLoc c) = m (xLoc c)) ∧ r.2.sem = fun _ => 0

theorem run_main [∀ e, Nonempty (Elt Bits e)] : θ_run (Cert.Kernel.defs (F := Bits)) (Cert.Kernel.threads (F := Bits)) ⟨m, fun _ => 0, ρ⟩ (QC m) :=
  SparseCore.Cfg.θ_run_sc_quiescent (K := K) (D := D) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) u₀ (sep_elim_left.trans (hu₀ m)) (hmain m ρ) (fq m) (hfin m) (QC m) (fun _ h hz => ⟨h, hz⟩)

end Cert.Proof.Thresh
-- ==== Proof.Enc.lean ====
/-
  The dense encoder over the extended reals. The call `_encode` walks 32 grid points, eight blocks of 2048 latents by four
  blocks of 512 rows; every point multiplies its rows by its block of the weight and adds its block of the bias. The module
  reads the block of one point at an index, puts the blocks together to the whole array, and finds the same sum in the
  reference, `x @ W_enc.T + b_enc`.
-/
module

public import proofs.«01_k».proof.Defs
public import proofs.«01_k».proof.Proof.Gen.EncodeIdeal.Value
public import proofs.«01_k».proof.Proof.Gen.EncodeReferenceIdeal.Run
public import Idealize.ShloMosaic.PureOps.Ideal
public import Idealize.ShloMosaic.Lib.MatmulPlain
public import Idealize.ShloMosaic.Lib.StackMember
public import Idealize.ShloMosaic.Lib.Pipeline.Value
public import Idealize.ShloMosaic.Lib.Pipeline.ValueKit
public import Idealize.ShloMosaic.Lib.ValueIdx

@[expose] public section

noncomputable section

namespace Cert.Proof.Enc

open Idealize.ShloMosaic hiding ix1 ix2
open Idealize.ShloMosaic.TcCoe Idealize.SL.Sem
open Cert.EncodeIdeal Cert.EncodeIdeal.Gen
open Idealize.ShloMosaic.Pipeline (Dat)
open Idealize.ShloMosaic.ValueIdx
open scoped BigOperators

/-- The latents: a row times a latent's weights, plus the latent's bias. -/
def latents (x : S2048x2048.Idx → EReal) (W : S16384x2048.Idx → EReal) (b : S16384.Idx → EReal) : S2048x16384.Idx → EReal :=
  fun j => (∑ k : Fin 2048, x (ix2 (j 0) k) * W (ix2 (j 1) k)) + b (ix1 (j 1))

/-! ### One point -/

/-- What a point stores, read at a row and a column of its block. -/
theorem payload_at (x0 : Vec Ideal S512x2048 .f32) (x1 : Vec Ideal S2048x2048 .f32) (x2 : Vec Ideal S1x2048 .f32)
    (r : Fin 512) (c : Fin 2048) :
    k0_pay1 (F := Ideal) x0 x1 x2 (ix2 r c) = (∑ k : Fin 2048, x0 (ix2 r k) * x1 (ix2 c k)) + x2 (ix2 0 c) := by
  unfold k0_pay1
  show FloatOps.matmul (F := Ideal) (DotDims.transposedRhs 512 2048 2048) none x0 x1 (constant S512x2048 .f32 0x00000000#32) (ix2 r c)
    + broadcastTo S512x2048 (shapeCast S1x2048 x2 shapeCasts_S1x2048_S1x2048) broadcasts_S1x2048_S512x2048 (ix2 r c) = _
  rw [Ideal.matmul_transposedRhs_apply, shapeCast_self]
  congr 1
  · show Ideal.ofBits .f32 0x00000000#32 + _ = _
    rw [show Ideal.ofBits .f32 0x00000000#32 = 0 by simp [Ideal.ofBits, Ideal.ieee], zero_add]
  · refine broadcastTo_apply _ _ _ _ fun a => ?_
    match a with
    | ⟨0, _⟩ => rfl
    | ⟨1, _⟩ => rfl

/-- The body's one store fills the block with its payload. -/
theorem out_eq (x0 : Vec Ideal S512x2048 .f32) (x1 : Vec Ideal S2048x2048 .f32) (x2 : Vec Ideal S1x2048 .f32) :
    out0_3 (F := Ideal) x0 x1 x2 = k0_pay1 x0 x1 x2 := by
  have hz : (![0, 0] : Fin 2 → Nat) = fun _ => 0 := funext fun a => by fin_cases a <;> rfl
  unfold out0_3
  rw [View.canon_unit_zero hz, View.ld_unit_zero hz, View.ld_unit_zero hz, View.ld_unit_zero hz]

/-! ### The blocks' places -/

theorem place0 : ∀ t : Fin grid0.N, win0_0.index t = ![t.val % 4, 0] := by decide +kernel
theorem place1 : ∀ t : Fin grid0.N, win0_1.index t = ![t.val / 4, 0] := by decide +kernel
theorem place2 : ∀ t : Fin grid0.N, win0_2.index t = ![0, t.val / 4] := by decide +kernel
theorem place3 : ∀ t : Fin grid0.N, win0_3.index t = ![t.val % 4, t.val / 4] := by decide +kernel

variable (m : (ℓ : Loc nD τ sig) → Buf (Elt Ideal) ℓ)

/-- The bias as the call sees it: one row. -/
theorem bias_row (c : Dev nD) : V m c main_v0 = shapeCast S1x16384 (m ((c : Thread nD τ).loc main_arg2)) shapeCasts_S16384_S1x16384 := by
  show StableHlo.after hostOps0 _ _ = _
  after_results
  rfl

/-- A point's rows of the input. -/
theorem blk0_at (c : Dev nD) (t : Fin cfg0.N) (r : Fin 512) (k : Fin 2048) (i : Fin 2048) (hi : (i : ℕ) = t.val % 4 * 512 + r) :
    iblk m c 0 t (ix2 r k) = m ((c : Thread nD τ).loc main_arg0) (ix2 i k) := by
  unfold iblk
  show V m c main_arg0 (((cfg0.win 0).blk t).view.emb (ix2 r k)) = _
  rw [V_main_arg0]
  congr 1
  apply Shape.idx_ext₂
  · refine (ValueKit.view_emb_slice_whole_unit_val main_arg0 _ _ _ (ix2 r k) 0).trans ?_
    show win0_0.index t 0 * 512 + (r : ℕ) = i
    rw [place0 t]; exact hi.symm
  · refine (ValueKit.view_emb_slice_whole_unit_val main_arg0 _ _ _ (ix2 r k) 1).trans ?_
    show win0_0.index t 1 * 2048 + (k : ℕ) = k
    rw [place0 t]; simp

/-- A point's latents' weights. -/
theorem blk1_at (c : Dev nD) (t : Fin cfg0.N) (r : Fin 2048) (k : Fin 2048) (i : Fin 16384) (hi : (i : ℕ) = t.val / 4 * 2048 + r) :
    iblk m c 1 t (ix2 r k) = m ((c : Thread nD τ).loc main_arg1) (ix2 i k) := by
  unfold iblk
  show V m c main_arg1 (((cfg0.win 1).blk t).view.emb (ix2 r k)) = _
  rw [V_main_arg1]
  congr 1
  apply Shape.idx_ext₂
  · refine (ValueKit.view_emb_slice_whole_unit_val main_arg1 _ _ _ (ix2 r k) 0).trans ?_
    show win0_1.index t 0 * 2048 + (r : ℕ) = i
    rw [place1 t]; exact hi.symm
  · refine (ValueKit.view_emb_slice_whole_unit_val main_arg1 _ _ _ (ix2 r k) 1).trans ?_
    show win0_1.index t 1 * 2048 + (k : ℕ) = k
    rw [place1 t]; simp

/-- A point's latents' bias. -/
theorem blk2_at (c : Dev nD) (t : Fin cfg0.N) (k : Fin 2048) (i : Fin 16384) (hi : (i : ℕ) = t.val / 4 * 2048 + k) :
    iblk m c 2 t (ix2 0 k) = m ((c : Thread nD τ).loc main_arg2) (ix1 i) := by
  unfold iblk
  show V m c main_v0 (((cfg0.win 2).blk t).view.emb (ix2 0 k)) = _
  rw [bias_row]
  refine shapeCast_apply _ _ _ _ ?_
  show (S16384.rowMajor (ix1 i)).val = _
  rw [Shape.rowMajor_val_one, Shape.rowMajor_val_two]
  have h0 : (((cfg0.win 2).blk t).view.emb (ix2 (0 : Fin 1) k) 0 : ℕ) = 0 := by
    refine (ValueKit.view_emb_slice_whole_unit_val main_v0 _ _ _ (ix2 (0 : Fin 1) k) 0).trans ?_
    show win0_2.index t 0 * 1 + 0 = 0
    rw [place2 t]; simp
  have h1 : (((cfg0.win 2).blk t).view.emb (ix2 (0 : Fin 1) k) 1 : ℕ) = i := by
    refine (ValueKit.view_emb_slice_whole_unit_val main_v0 _ _ _ (ix2 (0 : Fin 1) k) 1).trans ?_
    show win0_2.index t 1 * 2048 + (k : ℕ) = i
    rw [place2 t]; exact hi.symm
  show (i : ℕ) = (((cfg0.win 2).blk t).view.emb (ix2 (0 : Fin 1) k) 0 : ℕ) * 16384 + (((cfg0.win 2).blk t).view.emb (ix2 (0 : Fin 1) k) 1 : ℕ)
  rw [h0, h1, Nat.zero_mul, Nat.zero_add]

/-! ### The array -/

/-- The blocks of the 32 points cover the array. -/
theorem covers : (cfg0.win 3).Covers := by decide +kernel

/-- The array the call leaves: the latents of every row. -/
theorem final (c : Dev nD) : (dats m 0 c).arrAt 3 cfg0.N
    = latents (m ((c : Thread nD τ).loc main_arg0)) (m ((c : Thread nD τ).loc main_arg1)) (m ((c : Thread nD τ).loc main_arg2)) := by
  refine (dats m 0 c).arrAt_eq_of_covers 3 _ covers fun t hf y => ?_
  obtain ⟨r, k, rfl⟩ : ∃ (r : Fin 512) (k : Fin 2048), y = ix2 r k := ⟨y 0, y 1, funext fun a => by fin_cases a <;> rfl⟩
  show (dats m 0 c).after 3 t (ix2 r k) = _
  have e0 : (((cfg0.win 3).blk t).view.emb (ix2 r k) 0 : ℕ) = t.val % 4 * 512 + r := by
    refine (ValueKit.view_emb_slice_whole_unit_val main_v1 _ _ _ (ix2 r k) 0).trans ?_
    show win0_3.index t 0 * 512 + (r : ℕ) = _
    rw [place3 t]; rfl
  have e1 : (((cfg0.win 3).blk t).view.emb (ix2 r k) 1 : ℕ) = t.val / 4 * 2048 + k := by
    refine (ValueKit.view_emb_slice_whole_unit_val main_v1 _ _ _ (ix2 r k) 1).trans ?_
    show win0_3.index t 1 * 2048 + (k : ℕ) = _
    rw [place3 t]; rfl
  rw [after0_3, out_eq, payload_at]
  unfold latents
  rw [blk2_at m c t k _ e1]
  congr 1
  refine Finset.sum_congr rfl fun q _ => ?_
  rw [blk0_at m c t r q _ e0, blk1_at m c t k q _ e1]

/-! ### The reference -/

/-- The reference's array: the same. -/
theorem reference (x : FVec Ideal S2048x2048 .f32) (W : FVec Ideal S16384x2048 .f32) (b : FVec Ideal S16384 .f32)
    (h1 h2 h3) :
    addf (F := Ideal) (Host.dotGeneral Cert.EncodeReferenceIdeal.dot_S2048x2048_S2048x16384_S2048x16384_1_0_0_1_n_n none x
        (transpose S2048x16384 [1, 0] W h1))
      (broadcastInDim S2048x16384 ![0, 1] h2 (broadcastInDim (s := S16384) S1x16384 ![1] h3 b)) = latents x W b := by
  funext j
  obtain ⟨r, l, rfl⟩ : ∃ (r : Fin 2048) (l : Fin 16384), j = ix2 r l := ⟨j 0, j 1, funext fun a => by fin_cases a <;> rfl⟩
  show Host.dotGeneral (F := Ideal) (DotDims.plain 2048 2048 16384) none x (transpose S2048x16384 [1, 0] W h1) (ix2 r l)
    + broadcastInDim S2048x16384 ![0, 1] h2 (broadcastInDim (s := S16384) S1x16384 ![1] h3 b) (ix2 r l) = _
  rw [StackMember.dotGeneral_plain_apply]
  unfold latents
  congr 1
  · refine Finset.sum_congr rfl fun k _ => ?_
    congr 1
    refine transpose_apply _ _ _ _ _ fun a => ?_
    match a with
    | ⟨0, _⟩ => rfl
    | ⟨1, _⟩ => rfl
  · refine (broadcastInDim_apply _ _ _ _ (ix2 (0 : Fin 1) l) fun a => ?_).trans
      (broadcastInDim_apply _ _ _ _ (ix1 l) fun a => ?_)
    · match a with
      | ⟨0, _⟩ => rfl
      | ⟨1, _⟩ => rfl
    · match a with
      | ⟨0, _⟩ => rfl

/-! ### The equation -/

/-- Run on the same arguments, the call and the reference end with the same latents. -/
theorem same_results : algebraic_EncodeIdeal_EncodeReferenceIdeal := by
  intro m g m' g' _ h
  refine ⟨fun c => latents (m ((c : Thread nD τ).loc main_arg0)) (m ((c : Thread nD τ).loc main_arg1)) (m ((c : Thread nD τ).loc main_arg2)),
    (θ_run _ _ _).mono (fun r hr c => ⟨(hr c).1.trans (final m c), (hr c).2⟩) (Cert.EncodeIdeal.Value.run_blocks m g),
    (θ_run _ _ _).mono (fun r hr c => ⟨(hr c).1.trans ?_, (hr c).2⟩) (Cert.EncodeReferenceIdeal.Value.run m' g')⟩
  obtain ⟨h0, h1, h2⟩ := h c
  rw [h0, h1, h2]
  exact reference _ _ _ _ _ _

end Cert.Proof.Enc

end
-- ==== Proof.DecBody.lean ====
/-
  The masked decode over the extended reals, one grid point at a time: what the body leaves in the block of the masked
  latents and in the block of the reconstruction, on a row block's first point and on its later ones.
-/
module

public import proofs.«01_k».proof.Defs
public import proofs.«01_k».proof.Proof.Gen.DecodeIdeal.Value
public import Idealize.ShloMosaic.PureOps.Ideal
public import Idealize.ShloMosaic.Lib.MatmulPlain
public import Idealize.ShloMosaic.Lib.Pipeline.Value
public import Idealize.ShloMosaic.Lib.Pipeline.ValueKit
public import Idealize.ShloMosaic.Lib.ValueIdx

@[expose] public section

noncomputable section

namespace Cert.Proof.Dec

open Idealize.ShloMosaic hiding ix1 ix2
open Idealize.ShloMosaic.TcCoe Idealize.SL.Sem
open Cert.DecodeIdeal Cert.DecodeIdeal.Gen
open Idealize.ShloMosaic.ValueIdx
open scoped BigOperators

theorem hz : (![0, 0] : Fin 2 → Nat) = fun _ => 0 := funext fun a => by fin_cases a <;> rfl

/-! ### What the body leaves -/

/-- A row block's first point leaves the masked latents, -/
theorem out_A_4 (c : Dev nD) (i : grid0.Coords) (a2 : Memref sig .tc .vmem S512x2048 .f32) (h2 : a2.IsWhole)
    (a3 : Memref sig .tc .vmem S512x1 .f32) (h3 : a3.IsWhole) (a4 : Memref sig .tc .vmem S2048x2048 .bf16) (h4 : a4.IsWhole)
    (a5 : Memref sig .tc .vmem S1x2048 .f32) (h5 : a5.IsWhole) (a6 : Memref sig .tc .vmem S512x2048 .f32) (h6 : a6.IsWhole)
    (a7 : Memref sig .tc .vmem S512x2048 .f32) (h7 : a7.IsWhole) (hc0 : cond0_0 i) (hc1 : ¬cond0_1 i)
    (x0 : Vec Ideal S512x2048 .f32) (x1 : Vec Ideal S512x1 .f32) (x2 : Vec Ideal S2048x2048 .bf16) (x3 : Vec Ideal S1x2048 .f32) :
    out0_A_4 (F := Ideal) c i a2 h2 a3 h3 a4 h4 a5 h5 a6 h6 a7 h7 hc0 hc1 x0 x1 x2 x3 = k0_pay1 x0 x1 x0 := by
  unfold out0_A_4
  rw [View.read_writes_eq_canon _ _ _ (cover0_A_4 c i a2 h2 a3 h3 a4 h4 a5 h5 a6 h6 a7 h7 hc0 hc1 x0 x1 x2 x3)]
  unfold kernelRun0_A
  dsimp only
  rw [View.canon_unit_zero hz]
  simp only [View.readAt_eq_ld, h2.read_unread, h3.read_unread, h4.read_unread, h5.read_unread, h7.read_unread, View.ld_unit_zero (S := S512x2048) hz,
    View.ld_unit_zero (S := S512x1) hz, View.ld_unit_zero (S := S2048x2048) hz, View.ld_unit_zero (S := S1x2048) hz]

/-- and the product with the weight, the bias added. -/
theorem out_A_5 (c : Dev nD) (i : grid0.Coords) (a2 : Memref sig .tc .vmem S512x2048 .f32) (h2 : a2.IsWhole)
    (a3 : Memref sig .tc .vmem S512x1 .f32) (h3 : a3.IsWhole) (a4 : Memref sig .tc .vmem S2048x2048 .bf16) (h4 : a4.IsWhole)
    (a5 : Memref sig .tc .vmem S1x2048 .f32) (h5 : a5.IsWhole) (a6 : Memref sig .tc .vmem S512x2048 .f32) (h6 : a6.IsWhole)
    (a7 : Memref sig .tc .vmem S512x2048 .f32) (h7 : a7.IsWhole) (hc0 : cond0_0 i) (hc1 : ¬cond0_1 i)
    (x0 : Vec Ideal S512x2048 .f32) (x1 : Vec Ideal S512x1 .f32) (x2 : Vec Ideal S2048x2048 .bf16) (x3 : Vec Ideal S1x2048 .f32) :
    out0_A_5 (F := Ideal) c i a2 h2 a3 h3 a4 h4 a5 h5 a6 h6 a7 h7 hc0 hc1 x0 x1 x2 x3 = k0_pay3 x0 x1 x0 x2 x3 := by
  unfold out0_A_5
  rw [View.read_writes_eq_canon _ _ _ (cover0_A_5 c i a2 h2 a3 h3 a4 h4 a5 h5 a6 h6 a7 h7 hc0 hc1 x0 x1 x2 x3)]
  unfold kernelRun0_A
  dsimp only
  rw [View.canon_unit_zero hz]
  simp only [View.readAt_eq_ld, h2.read_unread, h3.read_unread, h4.read_unread, h5.read_unread, h7.read_unread, View.ld_unit_zero (S := S512x2048) hz,
    View.ld_unit_zero (S := S512x1) hz, View.ld_unit_zero (S := S2048x2048) hz, View.ld_unit_zero (S := S1x2048) hz]

/-- A later point leaves the masked latents, -/
theorem out_B_4 (c : Dev nD) (i : grid0.Coords) (a2 : Memref sig .tc .vmem S512x2048 .f32) (h2 : a2.IsWhole)
    (a3 : Memref sig .tc .vmem S512x1 .f32) (h3 : a3.IsWhole) (a4 : Memref sig .tc .vmem S2048x2048 .bf16) (h4 : a4.IsWhole)
    (a5 : Memref sig .tc .vmem S1x2048 .f32) (h5 : a5.IsWhole) (a6 : Memref sig .tc .vmem S512x2048 .f32) (h6 : a6.IsWhole)
    (a7 : Memref sig .tc .vmem S512x2048 .f32) (h7 : a7.IsWhole) (hc0 : ¬cond0_0 i) (hc1 : cond0_1 i)
    (x0 : Vec Ideal S512x2048 .f32) (x1 : Vec Ideal S512x1 .f32) (x2 : Vec Ideal S2048x2048 .bf16) (x3 : Vec Ideal S1x2048 .f32)
    (xo : Vec Ideal S512x2048 .f32) :
    out0_B_4 (F := Ideal) c i a2 h2 a3 h3 a4 h4 a5 h5 a6 h6 a7 h7 hc0 hc1 x0 x1 x2 x3 xo = k0_pay1 x0 x1 x0 := by
  unfold out0_B_4
  rw [View.read_writes_eq_canon _ _ _ (cover0_B_4 c i a2 h2 a3 h3 a4 h4 a5 h5 a6 h6 a7 h7 hc0 hc1 x0 x1 x2 x3 xo)]
  unfold kernelRun0_B
  dsimp only
  rw [View.canon_unit_zero hz]
  simp only [View.readAt_eq_ld, h2.read_unread, h3.read_unread, h4.read_unread, h5.read_unread, h7.read_unread, View.ld_unit_zero (S := S512x2048) hz,
    View.ld_unit_zero (S := S512x1) hz, View.ld_unit_zero (S := S2048x2048) hz, View.ld_unit_zero (S := S1x2048) hz]

/-- and adds its product to what is there. -/
theorem out_B_5 (c : Dev nD) (i : grid0.Coords) (a2 : Memref sig .tc .vmem S512x2048 .f32) (h2 : a2.IsWhole)
    (a3 : Memref sig .tc .vmem S512x1 .f32) (h3 : a3.IsWhole) (a4 : Memref sig .tc .vmem S2048x2048 .bf16) (h4 : a4.IsWhole)
    (a5 : Memref sig .tc .vmem S1x2048 .f32) (h5 : a5.IsWhole) (a6 : Memref sig .tc .vmem S512x2048 .f32) (h6 : a6.IsWhole)
    (a7 : Memref sig .tc .vmem S512x2048 .f32) (h7 : a7.IsWhole) (hc0 : ¬cond0_0 i) (hc1 : cond0_1 i)
    (x0 : Vec Ideal S512x2048 .f32) (x1 : Vec Ideal S512x1 .f32) (x2 : Vec Ideal S2048x2048 .bf16) (x3 : Vec Ideal S1x2048 .f32)
    (xo : Vec Ideal S512x2048 .f32) :
    out0_B_5 (F := Ideal) c i a2 h2 a3 h3 a4 h4 a5 h5 a6 h6 a7 h7 hc0 hc1 x0 x1 x2 x3 xo = k0_pay4 x0 x1 x0 x2 xo := by
  unfold out0_B_5
  rw [View.read_writes_eq_canon _ _ _ (cover0_B_5 c i a2 h2 a3 h3 a4 h4 a5 h5 a6 h6 a7 h7 hc0 hc1 x0 x1 x2 x3 xo)]
  unfold kernelRun0_B
  dsimp only
  rw [View.canon_unit_zero hz]
  simp only [View.readAt_eq_ld, h2.read_unread, h3.read_unread, h4.read_unread, h5.read_unread, h7.read_unread, View.ld_unit_zero (S := S512x2048) hz,
    View.ld_unit_zero (S := S512x1) hz, View.ld_unit_zero (S := S2048x2048) hz, View.ld_unit_zero (S := S1x2048) hz]

/-! ### The payloads at an index -/

/-- A latent that reaches its row's threshold stays; the others become zero. -/
def keep (x t : EReal) : EReal := if t ≤ x then x else 0

theorem zero_word : Ideal.ofBits .f32 0x00000000#32 = 0 := by simp [Ideal.ofBits, Ideal.ieee]

/-- The comparison and the selection, of one latent. -/
theorem keep_of_select (x t : EReal) :
    (if Ideal.cmp .oge x t = 1#1 then x else Ideal.ofBits .f32 0x00000000#32) = keep x t := by
  rw [zero_word]
  unfold keep Ideal.cmp
  by_cases h : t ≤ x <;> simp [h]

/-- The masked latents of a block. -/
theorem mask_at (x0 : Vec Ideal S512x2048 .f32) (x1 : Vec Ideal S512x1 .f32) (r : Fin 512) (q : Fin 2048) :
    k0_pay1 (F := Ideal) x0 x1 x0 (ix2 r q) = keep (x0 (ix2 r q)) (x1 (ix2 r 0)) := by
  unfold k0_pay1
  have e : broadcastTo S512x2048 x1 broadcasts_S512x1_S512x2048 (ix2 r q) = x1 (ix2 r 0) := by
    refine broadcastTo_apply _ _ _ _ fun a => ?_
    match a with
    | ⟨0, _⟩ => rfl
    | ⟨1, _⟩ => rfl
  refine Eq.trans ?_ (keep_of_select _ _)
  rw [← e]
  rfl

/-- A block's product with its part of the weight. -/
theorem product_at (x0 : Vec Ideal S512x2048 .f32) (x1 : Vec Ideal S512x1 .f32) (x2 : Vec Ideal S2048x2048 .bf16)
    (r : Fin 512) (l : Fin 2048) :
    k0_pay2 (F := Ideal) x0 x1 x0 x2 (ix2 r l)
      = ∑ q : Fin 2048, keep (x0 (ix2 r q)) (x1 (ix2 r 0)) * x2 (ix2 l q) := by
  unfold k0_pay2
  rw [shapeCast_self]
  show FloatOps.matmul (F := Ideal) (DotDims.transposedRhs 512 2048 2048) none (k0_pay1 (F := Ideal) x0 x1 x0) x2
    (constant S512x2048 .f32 0x00000000#32) (ix2 r l) = _
  rw [Ideal.matmul_transposedRhs_apply]
  show Ideal.ofBits .f32 0x00000000#32 + _ = _
  rw [zero_word, zero_add]
  exact Finset.sum_congr rfl fun q _ => congrArg (· * x2 (ix2 l q)) (mask_at x0 x1 r q)

/-- A row block's first product, the bias added. -/
theorem first_at (x0 : Vec Ideal S512x2048 .f32) (x1 : Vec Ideal S512x1 .f32) (x2 : Vec Ideal S2048x2048 .bf16)
    (x3 : Vec Ideal S1x2048 .f32) (r : Fin 512) (l : Fin 2048) :
    k0_pay3 (F := Ideal) x0 x1 x0 x2 x3 (ix2 r l)
      = (∑ q : Fin 2048, keep (x0 (ix2 r q)) (x1 (ix2 r 0)) * x2 (ix2 l q)) + x3 (ix2 0 l) := by
  unfold k0_pay3
  rw [shapeCast_self, ← product_at]
  refine congrArg (k0_pay2 (F := Ideal) x0 x1 x0 x2 (ix2 r l) + ·) (broadcastTo_apply _ _ _ _ fun a => ?_)
  match a with
  | ⟨0, _⟩ => rfl
  | ⟨1, _⟩ => rfl

/-- A later product, added to what is there. -/
theorem later_at (x0 : Vec Ideal S512x2048 .f32) (x1 : Vec Ideal S512x1 .f32) (x2 : Vec Ideal S2048x2048 .bf16)
    (xo : Vec Ideal S512x2048 .f32) (r : Fin 512) (l : Fin 2048) :
    k0_pay4 (F := Ideal) x0 x1 x0 x2 xo (ix2 r l)
      = xo (ix2 r l) + ∑ q : Fin 2048, keep (x0 (ix2 r q)) (x1 (ix2 r 0)) * x2 (ix2 l q) := by
  unfold k0_pay4
  rw [shapeCast_self, ← product_at]
  rfl

end Cert.Proof.Dec

end
-- ==== Proof.Dec.lean ====
/-
  The masked decode over the extended reals. The call `_decode` walks 32 grid points, four blocks of 512 rows by eight
  blocks of 2048 latents; every point masks its block of latents by the rows' thresholds and multiplies it by its part of
  the weight, and the eight products of a row block add up in its block of the reconstruction. The module follows the running
  sum over a row block's points, puts both results' blocks together to whole arrays, and finds the same arrays in the
  reference, the mask by `where` and `sparse_latents @ W_dec.T + b_dec`.
-/
module

public import proofs.«01_k».proof.Defs
public import proofs.«01_k».proof.Proof.DecBody
public import proofs.«01_k».proof.Proof.Gen.DecodeReferenceIdeal.Run
public import Idealize.ShloMosaic.Lib.StackMember

@[expose] public section

noncomputable section

namespace Cert.Proof.Dec

open Idealize.ShloMosaic hiding ix1 ix2
open Idealize.ShloMosaic.TcCoe Idealize.SL.Sem
open Cert.DecodeIdeal Cert.DecodeIdeal.Gen
open Idealize.ShloMosaic.Pipeline (Dat)
open Idealize.ShloMosaic.ValueIdx
open scoped BigOperators

/-- The latents that reach their row's threshold. -/
def sparse (x : S2048x16384.Idx → EReal) (t : S2048x1.Idx → EReal) : S2048x16384.Idx → EReal :=
  fun j => keep (x j) (t (ix2 (j 0) 0))

/-- The reconstruction: a row's masked latents times a feature's weights, plus the feature's bias. -/
def recon (x : S2048x16384.Idx → EReal) (t : S2048x1.Idx → EReal) (W : S2048x16384.Idx → EReal) (b : S2048.Idx → EReal) :
    S2048x2048.Idx → EReal :=
  fun j => (∑ k : Fin 16384, sparse x t (ix2 (j 0) k) * W (ix2 (j 1) k)) + b (ix1 (j 1))

/-- The product of a row's `n`-th masked latent with a feature's weight, zero past the last latent. -/
def term (x : S2048x16384.Idx → EReal) (t : S2048x1.Idx → EReal) (W : S2048x16384.Idx → EReal) (i l : Fin 2048) (n : ℕ) : EReal :=
  if h : n < 16384 then sparse x t (ix2 i ⟨n, h⟩) * W (ix2 l ⟨n, h⟩) else 0

/-! ### The blocks' places -/

theorem place0 : ∀ t : Fin grid0.N, win0_0.index t = ![t.val / 8, t.val % 8] := by decide +kernel
theorem place1 : ∀ t : Fin grid0.N, win0_1.index t = ![t.val / 8, 0] := by decide +kernel
theorem place2 : ∀ t : Fin grid0.N, win0_2.index t = ![0, t.val % 8] := by decide +kernel
theorem place3 : ∀ t : Fin grid0.N, win0_3.index t = ![0, 0] := by decide +kernel
theorem place4 : ∀ t : Fin grid0.N, win0_4.index t = ![t.val / 8, t.val % 8] := by decide +kernel
theorem place5 : ∀ t : Fin grid0.N, win0_5.index t = ![t.val / 8, 0] := by decide +kernel
/-- The blocks written back cover the masked latents, -/
theorem covers4 : (cfg0.win 4).Covers := by decide +kernel
/-- and the reconstruction, -/
theorem covers5 : (cfg0.win 5).Covers := by decide +kernel
/-- which a row block's last point writes back. -/
theorem last5 : ∀ t : Fin grid0.N, win0_5.flush t = true → t.val % 8 = 7 := by decide +kernel

variable (m : (ℓ : Loc nD τ sig) → Buf (Elt Ideal) ℓ)

/-- The arguments: the latents, the thresholds, the weight and the bias. -/
abbrev X (c : Dev nD) : S2048x16384.Idx → EReal := m ((c : Thread nD τ).loc main_arg0)
abbrev T (c : Dev nD) : S2048x1.Idx → EReal := m ((c : Thread nD τ).loc main_arg1)
abbrev W (c : Dev nD) : S2048x16384.Idx → EReal := m ((c : Thread nD τ).loc main_arg2)
abbrev B (c : Dev nD) : S2048.Idx → EReal := m ((c : Thread nD τ).loc main_arg3)

/-- The weight as the call sees it: narrowed, which changes no number here. -/
theorem weight_seen (c : Dev nD) : V m c main_v0 = W m c := by
  show StableHlo.after hostOps0 _ _ = _
  after_results
  rfl

/-- The bias as the call sees it: one row. -/
theorem bias_row (c : Dev nD) : V m c main_v1 = shapeCast S1x2048 (m ((c : Thread nD τ).loc main_arg3)) shapeCasts_S2048_S1x2048 := by
  show StableHlo.after hostOps0 _ _ = _
  after_results
  rfl

/-- A point's block of latents. -/
theorem blk0_at (c : Dev nD) (t : Fin cfg0.N) (r : Fin 512) (q : Fin 2048) (i : Fin 2048) (k : Fin 16384)
    (hi : (i : ℕ) = t.val / 8 * 512 + r) (hk : (k : ℕ) = t.val % 8 * 2048 + q) :
    iblk m c 0 t (ix2 r q) = X m c (ix2 i k) := by
  unfold iblk
  show V m c main_arg0 (((cfg0.win 0).blk t).view.emb (ix2 r q)) = _
  rw [V_main_arg0]
  refine congrArg (X m c) ?_
  apply Shape.idx_ext₂
  · refine (ValueKit.view_emb_slice_whole_unit_val main_arg0 _ _ _ (ix2 r q) 0).trans ?_
    show win0_0.index t 0 * 512 + (r : ℕ) = i
    rw [place0 t]; exact hi.symm
  · refine (ValueKit.view_emb_slice_whole_unit_val main_arg0 _ _ _ (ix2 r q) 1).trans ?_
    show win0_0.index t 1 * 2048 + (q : ℕ) = k
    rw [place0 t]; exact hk.symm

/-- A point's rows' thresholds. -/
theorem blk1_at (c : Dev nD) (t : Fin cfg0.N) (r : Fin 512) (i : Fin 2048) (hi : (i : ℕ) = t.val / 8 * 512 + r) :
    iblk m c 1 t (ix2 r 0) = T m c (ix2 i 0) := by
  unfold iblk
  show V m c main_arg1 (((cfg0.win 1).blk t).view.emb (ix2 r 0)) = _
  rw [V_main_arg1]
  refine congrArg (T m c) ?_
  apply Shape.idx_ext₂
  · refine (ValueKit.view_emb_slice_whole_unit_val main_arg1 _ _ _ (ix2 r 0) 0).trans ?_
    show win0_1.index t 0 * 512 + (r : ℕ) = i
    rw [place1 t]; exact hi.symm
  · refine (ValueKit.view_emb_slice_whole_unit_val main_arg1 _ _ _ (ix2 r 0) 1).trans ?_
    show win0_1.index t 1 * 1 + 0 = 0
    rw [place1 t]; simp

/-- A point's part of the weight. -/
theorem blk2_at (c : Dev nD) (t : Fin cfg0.N) (l : Fin 2048) (q : Fin 2048) (k : Fin 16384)
    (hk : (k : ℕ) = t.val % 8 * 2048 + q) : iblk m c 2 t (ix2 l q) = W m c (ix2 l k) := by
  unfold iblk
  show V m c main_v0 (((cfg0.win 2).blk t).view.emb (ix2 l q)) = _
  rw [weight_seen]
  refine congrArg (W m c) ?_
  apply Shape.idx_ext₂
  · refine (ValueKit.view_emb_slice_whole_unit_val main_v0 _ _ _ (ix2 l q) 0).trans ?_
    show win0_2.index t 0 * 2048 + (l : ℕ) = l
    rw [place2 t]; simp
  · refine (ValueKit.view_emb_slice_whole_unit_val main_v0 _ _ _ (ix2 l q) 1).trans ?_
    show win0_2.index t 1 * 2048 + (q : ℕ) = k
    rw [place2 t]; exact hk.symm

/-- The bias. -/
theorem blk3_at (c : Dev nD) (t : Fin cfg0.N) (l : Fin 2048) : iblk m c 3 t (ix2 0 l) = B m c (ix1 l) := by
  unfold iblk
  show V m c main_v1 (((cfg0.win 3).blk t).view.emb (ix2 0 l)) = _
  rw [bias_row]
  refine shapeCast_apply _ _ _ _ ?_
  show (S2048.rowMajor (ix1 l)).val = _
  rw [Shape.rowMajor_val_one, Shape.rowMajor_val_two]
  have h0 : (((cfg0.win 3).blk t).view.emb (ix2 (0 : Fin 1) l) 0 : ℕ) = 0 := by
    refine (ValueKit.view_emb_slice_whole_unit_val main_v1 _ _ _ (ix2 (0 : Fin 1) l) 0).trans ?_
    show win0_3.index t 0 * 1 + 0 = 0
    rw [place3 t]; simp
  have h1 : (((cfg0.win 3).blk t).view.emb (ix2 (0 : Fin 1) l) 1 : ℕ) = l := by
    refine (ValueKit.view_emb_slice_whole_unit_val main_v1 _ _ _ (ix2 (0 : Fin 1) l) 1).trans ?_
    show win0_3.index t 1 * 2048 + (l : ℕ) = l
    rw [place3 t]; simp
  show (l : ℕ) = (((cfg0.win 3).blk t).view.emb (ix2 (0 : Fin 1) l) 0 : ℕ) * 2048 + (((cfg0.win 3).blk t).view.emb (ix2 (0 : Fin 1) l) 1 : ℕ)
  rw [h0, h1, Nat.zero_mul, Nat.zero_add]

/-! ### The masked latents -/

/-- What a row block's first point leaves in the two blocks, -/
theorem first_point (c : Dev nD) (t : Fin cfg0.N) (h0 : t.val % 8 = 0) :
    outsAt0 m c t.val t.isLt = (k0_pay1 (F := Ideal) (iblk m c 0 t) (iblk m c 1 t) (iblk m c 0 t),
      k0_pay3 (F := Ideal) (iblk m c 0 t) (iblk m c 1 t) (iblk m c 0 t) (iblk m c 2 t) (iblk m c 3 t)) := by
  have h1 : ¬1 ≤ t.val % 8 := by rw [h0]; decide
  rw [outsAt0_A m c t h0 h1, out_A_4, out_A_5]

/-- and a later one. -/
theorem later_point (c : Dev nD) (t : Fin cfg0.N) (h0 : ¬t.val % 8 = 0) :
    outsAt0 m c t.val t.isLt = (k0_pay1 (F := Ideal) (iblk m c 0 t) (iblk m c 1 t) (iblk m c 0 t),
      k0_pay4 (F := Ideal) (iblk m c 0 t) (iblk m c 1 t) (iblk m c 0 t) (iblk m c 2 t)
        (outsAt0 m c (t.val - 1) (Nat.lt_of_le_of_lt (Nat.sub_le _ _) t.isLt)).2) := by
  rw [outsAt0_B m c t h0 (Nat.one_le_iff_ne_zero.mpr h0), out_B_4, out_B_5]

/-- After every point the block of masked latents holds the point's masked block. -/
theorem mask_eq (c : Dev nD) (t : Fin cfg0.N) :
    (outsAt0 m c t.val t.isLt).1 = k0_pay1 (F := Ideal) (iblk m c 0 t) (iblk m c 1 t) (iblk m c 0 t) := by
  by_cases h0 : t.val % 8 = 0
  · rw [first_point m c t h0]
  · rw [later_point m c t h0]

/-- The first result: the latents that reach their row's threshold. -/
theorem final_sparse (c : Dev nD) : (dats m 0 c).arrAt 4 cfg0.N = sparse (X m c) (T m c) := by
  refine (dats m 0 c).arrAt_eq_of_covers 4 _ covers4 fun t hf y => ?_
  obtain ⟨r, q, rfl⟩ : ∃ (r : Fin 512) (q : Fin 2048), y = ix2 r q := ⟨y 0, y 1, funext fun a => by fin_cases a <;> rfl⟩
  show (dats m 0 c).after 4 t (ix2 r q) = _
  have e0 : (((cfg0.win 4).blk t).view.emb (ix2 r q) 0 : ℕ) = t.val / 8 * 512 + r := by
    refine (ValueKit.view_emb_slice_whole_unit_val main_v2_0 _ _ _ (ix2 r q) 0).trans ?_
    show win0_4.index t 0 * 512 + (r : ℕ) = _
    rw [place4 t]; rfl
  have e1 : (((cfg0.win 4).blk t).view.emb (ix2 r q) 1 : ℕ) = t.val % 8 * 2048 + q := by
    refine (ValueKit.view_emb_slice_whole_unit_val main_v2_0 _ _ _ (ix2 r q) 1).trans ?_
    show win0_4.index t 1 * 2048 + (q : ℕ) = _
    rw [place4 t]; rfl
  rw [after0_4, mask_eq, mask_at, blk0_at m c t r q _ _ e0 e1, blk1_at m c t r _ e0]
  refine congrArg (fun j => keep (X m c j) _) ?_
  exact Shape.idx_ext₂ rfl rfl

/-! ### The reconstruction -/

/-- A point's product is the sum of its 2048 terms. -/
theorem product_terms (c : Dev nD) (t : Fin cfg0.N) (r : Fin 512) (l i : Fin 2048) (hi : (i : ℕ) = t.val / 8 * 512 + r) :
    (∑ q : Fin 2048, keep (iblk m c 0 t (ix2 r q)) (iblk m c 1 t (ix2 r 0)) * iblk m c 2 t (ix2 l q) : EReal)
      = ∑ q ∈ Finset.range 2048, term (X m c) (T m c) (W m c) i l (2048 * (t.val % 8) + q) := by
  have hk : ∀ q : ℕ, 2048 * (t.val % 8) + q = t.val % 8 * 2048 + q := fun q => by rw [Nat.mul_comm]
  rw [Finset.sum_range]
  refine Finset.sum_congr rfl fun q _ => ?_
  have hq : 2048 * (t.val % 8) + (q : ℕ) < 16384 := by have := q.isLt; omega
  unfold term
  rw [dif_pos hq, blk0_at m c t r q i ⟨_, hq⟩ hi (hk q), blk1_at m c t r i hi,
    blk2_at m c t l q ⟨_, hq⟩ (hk q)]
  rfl

/-- After a point, its block of the reconstruction holds the sum over the row block's latents so far and the bias. -/
theorem sum_so_far (c : Dev nD) (r : Fin 512) (l : Fin 2048) : ∀ (n : ℕ) (h : n < cfg0.N) (i : Fin 2048), (i : ℕ) = n / 8 * 512 + r →
    (outsAt0 m c n h).2 (ix2 r l)
      = (∑ q ∈ Finset.range (2048 * (n % 8 + 1)), term (X m c) (T m c) (W m c) i l q) + B m c (ix1 l) := by
  intro n
  induction n with
  | zero =>
    intro h i hi
    rw [first_point m c ⟨0, h⟩ rfl]
    refine (first_at _ _ _ _ r l).trans ?_
    rw [blk3_at, product_terms m c ⟨0, h⟩ r l i hi]
    refine congrArg (· + B m c (ix1 l)) (Finset.sum_congr rfl fun q _ => ?_)
    exact congrArg (term _ _ _ i l) (Nat.zero_add q)
  | succ n ih =>
    intro h i hi
    by_cases h0 : (n + 1) % 8 = 0
    · rw [first_point m c ⟨n + 1, h⟩ h0]
      refine (first_at _ _ _ _ r l).trans ?_
      rw [blk3_at, product_terms m c ⟨n + 1, h⟩ r l i hi]
      show (∑ q ∈ Finset.range 2048, term _ _ _ i l (2048 * ((n + 1) % 8) + q)) + _ = _
      rw [h0]
      refine congrArg (· + B m c (ix1 l)) (Finset.sum_congr rfl fun q _ => ?_)
      exact congrArg (term _ _ _ i l) (Nat.zero_add q)
    · rw [later_point m c ⟨n + 1, h⟩ h0]
      refine (later_at _ _ _ _ r l).trans ?_
      rw [product_terms m c ⟨n + 1, h⟩ r l i hi]
      have hp := ih (Nat.lt_of_succ_lt h) i (by omega)
      show (outsAt0 m c n _).2 (ix2 r l) + (∑ q ∈ Finset.range 2048, term _ _ _ i l (2048 * ((n + 1) % 8) + q)) = _
      rw [hp, show n % 8 + 1 = (n + 1) % 8 by omega, Nat.mul_add 2048 ((n + 1) % 8) 1, Nat.mul_one, Finset.sum_range_add]
      exact add_right_comm _ _ _

/-- The second result: the reconstruction. -/
theorem final_recon (c : Dev nD) : (dats m 0 c).arrAt 5 cfg0.N = recon (X m c) (T m c) (W m c) (B m c) := by
  refine (dats m 0 c).arrAt_eq_of_covers 5 _ covers5 fun t hf y => ?_
  obtain ⟨r, l, rfl⟩ : ∃ (r : Fin 512) (l : Fin 2048), y = ix2 r l := ⟨y 0, y 1, funext fun a => by fin_cases a <;> rfl⟩
  show (dats m 0 c).after 5 t (ix2 r l) = _
  have e0 : (((cfg0.win 5).blk t).view.emb (ix2 r l) 0 : ℕ) = t.val / 8 * 512 + r := by
    refine (ValueKit.view_emb_slice_whole_unit_val main_v2_1 _ _ _ (ix2 r l) 0).trans ?_
    show win0_5.index t 0 * 512 + (r : ℕ) = _
    rw [place5 t]; rfl
  have e1 : (((cfg0.win 5).blk t).view.emb (ix2 r l) 1 : ℕ) = l := by
    refine (ValueKit.view_emb_slice_whole_unit_val main_v2_1 _ _ _ (ix2 r l) 1).trans ?_
    show win0_5.index t 1 * 2048 + (l : ℕ) = _
    rw [place5 t]; simp
  rw [after0_5, sum_so_far m c r l t.val t.isLt _ e0, last5 t hf, Finset.sum_range]
  have el : ((cfg0.win 5).blk t).view.emb (ix2 r l) 1 = l := Fin.ext e1
  unfold recon
  rw [el]
  refine congrArg (· + B m c (ix1 l)) (Finset.sum_congr rfl fun k _ => ?_)
  unfold term
  exact dif_pos k.isLt

/-! ### The reference -/

/-- The reference's mask: the same. -/
theorem reference_mask (x : FVec Ideal S2048x16384 .f32) (t : FVec Ideal S2048x1 .f32) (h1 h2) :
    select (cmpf .oge x (broadcastInDim S2048x16384 ![0, 1] h1 t)) x
      (broadcastInDim S2048x16384 ![] h2 (id (constant (F := Ideal) Cert.DecodeReferenceIdeal.S_ .f32 0x00000000#32)))
      = sparse x t := by
  funext j
  have e : broadcastInDim S2048x16384 ![0, 1] h1 t j = t (ix2 (j 0) 0) := by
    refine broadcastInDim_apply _ _ _ _ _ fun a => ?_
    match a with
    | ⟨0, _⟩ => rfl
    | ⟨1, _⟩ => rfl
  refine Eq.trans ?_ (keep_of_select _ _)
  rw [← e]
  rfl

/-- The reference's reconstruction: the same. -/
theorem reference_recon (x : FVec Ideal S2048x16384 .f32) (t : FVec Ideal S2048x1 .f32) (w : FVec Ideal S2048x16384 .f32)
    (b : FVec Ideal S2048 .f32) (s : FVec Ideal S2048x16384 .f32) (hs : s = sparse x t) (h1 h2 h3) :
    addf (F := Ideal) (Host.dotGeneral (φ₁ := .f32) (φ₂ := .f32) Cert.DecodeReferenceIdeal.dot_S2048x16384_S16384x2048_S2048x2048_1_0_0_1_n_n none
        s (transpose Cert.DecodeReferenceIdeal.S16384x2048 [1, 0] w h1))
      (broadcastInDim S2048x2048 ![0, 1] h2 (broadcastInDim (s := S2048) S1x2048 ![1] h3 b)) = recon x t w b := by
  subst hs
  funext j
  obtain ⟨r, l, rfl⟩ : ∃ (r : Fin 2048) (l : Fin 2048), j = ix2 r l := ⟨j 0, j 1, funext fun a => by fin_cases a <;> rfl⟩
  show Host.dotGeneral (F := Ideal) (φ₁ := .f32) (φ₂ := .f32) (DotDims.plain 2048 16384 2048) none (sparse x t)
      (transpose Cert.DecodeReferenceIdeal.S16384x2048 [1, 0] w h1) (ix2 r l)
    + broadcastInDim S2048x2048 ![0, 1] h2 (broadcastInDim (s := S2048) S1x2048 ![1] h3 b) (ix2 r l) = _
  rw [StackMember.dotGeneral_plain_apply]
  unfold recon
  refine congrArg₂ (· + ·) ?_ ?_
  · refine Finset.sum_congr rfl fun k _ => congrArg (sparse x t (ix2 r k) * ·) ?_
    refine transpose_apply _ _ _ _ _ fun a => ?_
    match a with
    | ⟨0, _⟩ => rfl
    | ⟨1, _⟩ => rfl
  · refine (broadcastInDim_apply _ _ _ _ (ix2 (0 : Fin 1) l) fun a => ?_).trans
      (broadcastInDim_apply _ _ _ _ (ix1 l) fun a => ?_)
    · match a with
      | ⟨0, _⟩ => rfl
      | ⟨1, _⟩ => rfl
    · match a with
      | ⟨0, _⟩ => rfl

/-! ### The equation -/

/-- Run on the same arguments, the call and the reference end with the same masked latents and the same reconstruction. -/
theorem same_results : algebraic_DecodeIdeal_DecodeReferenceIdeal := by
  intro m g m' g' _ h
  refine ⟨fun c => sparse (X m c) (T m c), fun c => recon (X m c) (T m c) (W m c) (B m c),
    (θ_run _ _ _).mono (fun r hr c => ⟨(hr c).1.trans (final_sparse m c), (hr c).2.1.trans (final_recon m c), (hr c).2.2⟩)
      (Cert.DecodeIdeal.Value.run_blocks m g),
    (θ_run _ _ _).mono (fun r hr c => ⟨(hr c).1.trans ?_, (hr c).2.1.trans ?_, (hr c).2.2⟩)
      (Cert.DecodeReferenceIdeal.Value.run m' g')⟩
  · obtain ⟨h0, h1, h2, h3⟩ := h c
    rw [h0, h1]
    exact reference_mask _ _ _ _
  · obtain ⟨h0, h1, h2, h3⟩ := h c
    rw [h0, h1, h2, h3]
    exact reference_recon _ _ _ _ _ (reference_mask _ _ _ _) _ _ _

end Cert.Proof.Dec

end
-- ==== Proof.lean ====
/-
  The proof of `Cert.Claim`: the three calls and their references run and leave their arguments as they were, with every
  semaphore counter at zero. From the same latents the SparseCore call and its reference end with equal columns, bit for
  bit: both are the 64-th largest latent of each row (`kth`), of the kernel by `run_main`, of the reference by `refOut_eq`.
  Over the extended reals the encoder and the decoder end with the results of their references: `Enc.same_results`,
  `Dec.same_results`.
-/
module

public import proofs.«01_k».proof.Defs
public import proofs.«01_k».proof.Proof.Gen.Kernel
public import proofs.«01_k».proof.Proof.Gen.Kernel.Skeleton
public import proofs.«01_k».proof.Proof.Gen.Reference
public import proofs.«01_k».proof.Proof.Gen.Reference.Run
public import proofs.«01_k».proof.Proof.Gen.Encode
public import proofs.«01_k».proof.Proof.Gen.EncodeIdeal
public import proofs.«01_k».proof.Proof.Gen.EncodeIdeal.Value
public import proofs.«01_k».proof.Proof.Gen.EncodeReference
public import proofs.«01_k».proof.Proof.Gen.EncodeReferenceIdeal
public import proofs.«01_k».proof.Proof.Gen.EncodeReferenceIdeal.Run
public import proofs.«01_k».proof.Proof.Gen.Decode
public import proofs.«01_k».proof.Proof.Gen.DecodeIdeal
public import proofs.«01_k».proof.Proof.Gen.DecodeIdeal.Value
public import proofs.«01_k».proof.Proof.Gen.DecodeReference
public import proofs.«01_k».proof.Proof.Gen.DecodeReferenceIdeal
public import proofs.«01_k».proof.Proof.Gen.DecodeReferenceIdeal.Run
public import proofs.«01_k».proof.Proof.Gen.EncodeReference.Run
public import proofs.«01_k».proof.Proof.Gen.DecodeReference.Run
public import proofs.«01_k».proof.Proof.Gen.Encode.Frame
public import proofs.«01_k».proof.Proof.Gen.Decode.Frame
public import Idealize.ShloMosaic.Adequacy
public import Idealize.ShloMosaic.Init
public import Idealize.ShloMosaic.Lib.Quiescent
public import proofs.«01_k».proof.Proof.Launch
public import proofs.«01_k».proof.Proof.Enc
public import proofs.«01_k».proof.Proof.Dec

@[expose] public section

noncomputable section

namespace Cert.Proof

open Idealize.ShloMosaic Idealize.SL.Sem Cert.Kernel

theorem kernel_quiescent : Cert.quiescent_Kernel := fun m ρ _ =>
  (θ_run Cert.Kernel.defs _ _).mono (fun _ h => ⟨fun c => (h.1 c).2, h.2⟩) (Thresh.run_main m ρ)

theorem reference_quiescent : Cert.quiescent_Reference := fun m ρ _ =>
  (θ_run Cert.Reference.defs _ _).mono (fun r h => ⟨fun c => (h c).2, Idealize.ShloMosaic.sem_eq_zero_of_no_sems (by decide) r.2⟩)
    (Cert.Reference.Value.run (F := Bits) m ρ)

theorem same_results : Cert.bitexact_Kernel_Reference := fun m ρ m' ρ' _ hm =>
  ⟨fun c => Thresh.resOut m c,
    (θ_run Cert.Kernel.defs _ _).mono (fun _ h c => h.1 c) (Thresh.run_main m ρ),
    (θ_run Cert.Reference.defs _ _).mono (fun _ h c => ⟨(h c).1.trans
        ((congrArg Thresh.refOut (hm c)).trans (funext fun y => Thresh.refOut_eq _ y)), (h c).2⟩)
      (Cert.Reference.Value.run (F := Bits) m' ρ')⟩

theorem encode_quiescent : Cert.quiescent_Encode := fun m ρ _ => Cert.Encode.Gen.frame m ρ

theorem encode_ideal_quiescent : Cert.quiescent_EncodeIdeal := fun m ρ _ => Cert.EncodeIdeal.Gen.frame m ρ

theorem decode_quiescent : Cert.quiescent_Decode := fun m ρ _ => Cert.Decode.Gen.frame m ρ

theorem decode_ideal_quiescent : Cert.quiescent_DecodeIdeal := fun m ρ _ => Cert.DecodeIdeal.Gen.frame m ρ

theorem encode_reference_quiescent : Cert.quiescent_EncodeReference := fun m ρ _ =>
  (θ_run Cert.EncodeReference.defs _ _).mono (fun r h => ⟨fun c => (h c).2, Idealize.ShloMosaic.sem_eq_zero_of_no_sems (by decide) r.2⟩)
    (Cert.EncodeReference.Value.run (F := Bits) m ρ)

theorem encode_reference_ideal_quiescent : Cert.quiescent_EncodeReferenceIdeal := fun m ρ _ =>
  (θ_run Cert.EncodeReferenceIdeal.defs _ _).mono (fun r h => ⟨fun c => (h c).2, Idealize.ShloMosaic.sem_eq_zero_of_no_sems (by decide) r.2⟩)
    (Cert.EncodeReferenceIdeal.Value.run (F := Ideal) m ρ)

theorem decode_reference_quiescent : Cert.quiescent_DecodeReference := fun m ρ _ =>
  (θ_run Cert.DecodeReference.defs _ _).mono (fun r h => ⟨fun c => (h c).2.2, Idealize.ShloMosaic.sem_eq_zero_of_no_sems (by decide) r.2⟩)
    (Cert.DecodeReference.Value.run (F := Bits) m ρ)

theorem decode_reference_ideal_quiescent : Cert.quiescent_DecodeReferenceIdeal := fun m ρ _ =>
  (θ_run Cert.DecodeReferenceIdeal.defs _ _).mono (fun r h => ⟨fun c => (h c).2.2, Idealize.ShloMosaic.sem_eq_zero_of_no_sems (by decide) r.2⟩)
    (Cert.DecodeReferenceIdeal.Value.run (F := Ideal) m ρ)

theorem claim : Cert.Claim :=
  ⟨Cert.Kernel.Gen.facts, Cert.Reference.Gen.facts, Cert.Encode.Gen.facts, Cert.EncodeReference.Gen.facts,
    Cert.EncodeIdeal.Gen.facts, Cert.EncodeReferenceIdeal.Gen.facts, Cert.Decode.Gen.facts, Cert.DecodeReference.Gen.facts,
    Cert.DecodeIdeal.Gen.facts, Cert.DecodeReferenceIdeal.Gen.facts,
    kernel_quiescent, reference_quiescent, encode_quiescent, encode_reference_quiescent, encode_ideal_quiescent,
    encode_reference_ideal_quiescent, decode_quiescent, decode_reference_quiescent, decode_ideal_quiescent,
    decode_reference_ideal_quiescent, same_results, trivial, trivial, Enc.same_results, trivial, trivial, Dec.same_results⟩

end Cert.Proof

end
